-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "neg_inf" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v18)) (v3 : (c : Dev Cert.Kernel2Ideal.nD) → Buf (Elt Ideal) ((c.tc : Thread Cert.Kernel2Ideal.nD Cert.Kernel2Ideal.τ).loc Cert.Kernel2Ideal.main_v20)) (v4 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v18) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_v12) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14)) (v1 : (c : Dev Cert.Kernel3Ideal.nD) → Buf (Elt Ideal) ((c.tc : Thread Cert.Kernel3Ideal.nD Cert.Kernel3Ideal.τ).loc Cert.Kernel3Ideal.main_v16)) (v2 : (c : Dev Cert.Kernel3Ideal.nD) → Buf (Elt Ideal) ((c.tc : Thread Cert.Kernel3Ideal.nD Cert.Kernel3Ideal.τ).loc Cert.Kernel3Ideal.main_v18)) (v3 : (c : Dev Cert.Kernel3Ideal.nD) → Buf (Elt Ideal) ((c.tc : Thread Cert.Kernel3Ideal.nD Cert.Kernel3Ideal.τ).loc Cert.Kernel3Ideal.main_v20)) (v4 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_v18) = v2 c
          ∧ r.2.mem ((c.tc : Thread Cert.Kernel3Ideal.nD Cert.Kernel3Ideal.τ).loc Cert.Kernel3Ideal.main_v20) = v3 c
          ∧ r.2.mem ((c.tc : Thread Cert.Kernel3Ideal.nD Cert.Kernel3Ideal.τ).loc Cert.Kernel3Ideal.main_v12) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_v19) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v11) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x1024 : Shape := ⟨2, ![16384, 1024]⟩
abbrev S1024 : Shape := ⟨1, ![1024]⟩
abbrev S1024x8 : Shape := ⟨2, ![1024, 8]⟩
abbrev S8 : Shape := ⟨1, ![8]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S8x1024x5632 : S_.BroadcastsInDim S8x1024x5632 (![] : Fin 0 → Fin S8x1024x5632.rank)
  reducesTo_S8x1024x5632_S_d0_1_2 : S8x1024x5632.ReducesTo [0, 1, 2] S_
  bcast_S_S8x2816x1024 : S_.BroadcastsInDim S8x2816x1024 (![] : Fin 0 → Fin S8x2816x1024.rank)
  reducesTo_S8x2816x1024_S_d0_1_2 : S8x2816x1024.ReducesTo [0, 1, 2] S_

variable [Facts]

def fn_part1 {F : FTy → Type} [FloatOps F] (main_arg4 : FVec F S8x1024x5632 .f32) (main_arg5 : FVec F S8x2816x1024 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x1024x5632 .f32 := Host.absf main_arg4
  let main_cst_6 : FVec F S_ .f32 := constant S_ .f32 0x7F800000#32
  let main_v20 : FVec F S8x1024x5632 .f32 := broadcastInDim S8x1024x5632 ![] bcast_S_S8x1024x5632 main_cst_6
  let main_v21 : IVec S8x1024x5632 1 := cmpf .olt main_v19 main_v20
  let main_c_7 : IVec S_ 1 := constantI S_ 1 1#1
  let main_v22 : IVec S_ 1 := (fun x v => Host.reduce IntOp.andi x v reducesTo_S8x1024x5632_S_d0_1_2 h_S_) main_v21 main_c_7
  let main_v23 : IVec S_ 1 := andi main_v18 main_v22
  let main_v24 : FVec F S8x2816x1024 .f32 := Host.absf main_arg5
  let main_cst_8 : FVec F S_ .f32 := constant S_ .f32 0x7F800000#32
  let main_v25 : FVec F S8x2816x1024 .f32 := broadcastInDim S8x2816x1024 ![] bcast_S_S8x2816x1024 main_cst_8
  let main_v26 : IVec S8x2816x1024 1 := cmpf .olt main_v24 main_v25
  let main_c_9 : IVec S_ 1 := constantI S_ 1 1#1
  let main_v27 : IVec S_ 1 := (fun x v => Host.reduce IntOp.andi x v reducesTo_S8x2816x1024_S_d0_1_2 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x8 .f32) (main_arg3 : FVec F S8 .f32) (main_arg4 : FVec F S8x1024x5632 .f32) (main_arg5 : FVec F S8x2816x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_v13 main_v16
-- ==== Kernel.lean ====
abbrev S16384x1024 : Shape := ⟨2, ![16384, 1024]⟩
abbrev S1024 : Shape := ⟨1, ![1024]⟩
abbrev S1024x8 : Shape := ⟨2, ![1024, 8]⟩
abbrev S8 : Shape := ⟨1, ![8]⟩
abbrev S8x1024x5632 : Shape := ⟨3, ![8, 1024, 5632]⟩
abbrev S8x2816x1024 : Shape := ⟨3, ![8, 2816, 1024]⟩
abbrev S1x1024 : Shape := ⟨2, ![1, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1024x1024 : Shape := ⟨2, ![1024, 1024]⟩
abbrev S1x1024x1408 : Shape := ⟨3, ![1, 1024, 1408]⟩
abbrev S1x1408x1024 : Shape := ⟨3, ![1, 1408, 1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1024x256 : Shape := ⟨2, ![1024, 256]⟩
abbrev S256x1024 : Shape := ⟨2, ![256, 1024]⟩
abbrev S1024x1408 : Shape := ⟨2, ![1024, 1408]⟩
abbrev S256x1408 : Shape := ⟨2, ![256, 1408]⟩
abbrev S1408x1024 : Shape := ⟨2, ![1408, 1024]⟩
abbrev S128x1024 : Shape := ⟨2, ![128, 1024]⟩
abbrev S128x1408 : Shape := ⟨2, ![128, 1408]⟩
abbrev S1024x384 : Shape := ⟨2, ![1024, 384]⟩
abbrev S384x1024 : Shape := ⟨2, ![384, 1024]⟩
abbrev S384x1408 : Shape := ⟨2, ![384, 1408]⟩

abbrev nBuf : Space → Nat
  | .hbm => 19
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8, .f32⟩
  | .hbm, ⟨4, _⟩ => ⟨S8x1024x5632, .f32⟩
  | .hbm, ⟨5, _⟩ => ⟨S8x2816x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S8x1024x5632, .bf16⟩
  | .hbm, ⟨17, _⟩ => ⟨S8x2816x1024, .bf16⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S1x1408x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 8, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg2 : BitVec 32 := BitVec.ofNat 32 (i 2).val
  let c1_i32_39 : BitVec 32 := 1#32
  let v67 : BitVec 1 := Scalar.cmpi .eq arg2 c1_i32_39
  let v68 : BitVec 32 := Scalar.extui v67
  let c0_i32_40 : BitVec 32 := 0#32
  let v69 : BitVec 1 := Scalar.cmpi .ne v68 c0_i32_40
  v69

def k0_cond11 (i : grid0.Coords) : BitVec 1 :=
  let arg2 : BitVec 32 := BitVec.ofNat 32 (i 2).val
  let c1_i32_38 : BitVec 32 := 1#32
  let v67 : BitVec 1 := Scalar.cmpi .eq arg2 c1_i32_38
  let v68 : BitVec 32 := Scalar.extui v67
  let c0_i32_39 : BitVec 32 := 0#32
  let v69 : BitVec 1 := Scalar.cmpi .ne v68 c0_i32_39
  v69

def k0_cond16 (i : grid0.Coords) : BitVec 1 :=
  let arg2 : BitVec 32 := BitVec.ofNat 32 (i 2).val
  let c1_i32_38 : BitVec 32 := 1#32
  let v67 : BitVec 1 := Scalar.cmpi .eq arg2 c1_i32_38
  let v68 : BitVec 32 := Scalar.extui v67
  let c0_i32_39 : BitVec 32 := 0#32
  let v69 : BitVec 1 := Scalar.cmpi .ne v68 c0_i32_39
  v69

def k0_cond21 (i : grid0.Coords) : BitVec 1 :=
  let arg2 : BitVec 32 := BitVec.ofNat 32 (i 2).val
  let c1_i32_38 : BitVec 32 := 1#32
  let v67 : BitVec 1 := Scalar.cmpi .eq arg2 c1_i32_38
  let v68 : BitVec 32 := Scalar.extui v67
  let c0_i32_39 : BitVec 32 := 0#32
  let v69 : BitVec 1 := Scalar.cmpi .ne v68 c0_i32_39
  v69

def k0_cond22 (i : grid0.Coords) : BitVec 1 :=
  let arg1 : BitVec 32 := BitVec.ofNat 32 (i 1).val
  let c7_i32 : BitVec 32 := 7#32
  let v39 : BitVec 1 := Scalar.cmpi .eq arg1 c7_i32
  let arg2 : BitVec 32 := BitVec.ofNat 32 (i 2).val
  let c1_i32 : BitVec 32 := 1#32
  let v40 : BitVec 1 := Scalar.cmpi .eq arg2 c1_i32
  let v41 : BitVec 1 := Scalar.andi v39 v40
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "neg_inf" => some ⊥
  | _ => none
-- ==== ReferenceIdeal.lean ====
abbrev S16384x1024 : Shape := ⟨2, ![16384, 1024]⟩
abbrev S1024 : Shape := ⟨1, ![1024]⟩
abbrev S1024x8 : Shape := ⟨2, ![1024, 8]⟩
abbrev S8 : Shape := ⟨1, ![8]⟩
abbrev S8x1024x5632 : Shape := ⟨3, ![8, 1024, 5632]⟩
abbrev S8x2816x1024 : Shape := ⟨3, ![8, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S1x8 : Shape := ⟨2, ![1, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 249
  | .vmem => 0
  | .smem => 0
  | _ => 0

abbrev hbmTy0_0 (i : Nat) : BufTy := match i % 128 with
  | 0 => ⟨S16384x1024, .f32⟩
  | 1 => ⟨S1024, .f32⟩
  | 2 => ⟨S1024x8, .f32⟩
  | 3 => ⟨S8, .f32⟩
  | 4 => ⟨S8x1024x5632, .f32⟩
  | 5 => ⟨S8x2816x1024, .f32⟩
  | 6 => ⟨S1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S16384x8, .f32⟩
  | 24 => ⟨S1x8, .f32⟩
  | 25 => ⟨S16384x8, .f32⟩
  | 26 => ⟨S16384x8, .f32⟩
  | 27 => ⟨S16384x2, .f32⟩
  | 28 => ⟨S16384x2, .i32⟩
  | 29 => ⟨S_, .f32⟩
  | 30 => ⟨S16384, .f32⟩
  | 31 => ⟨S_, .f32⟩
  | 32 => ⟨S16384, .f32⟩
  | 33 => ⟨S16384, .f32⟩
  | 34 => ⟨S16384x1, .f32⟩
  | 35 => ⟨S16384x2, .f32⟩
  | 36 => ⟨S16384x2, .f32⟩
  | 37 => ⟨S16384x2, .f32⟩
  | 38 => ⟨S_, .f32⟩
  | 39 => ⟨S16384, .f32⟩
  | 40 => ⟨S16384x1, .f32⟩
  | 41 => ⟨S16384x2, .f32⟩
  | 42 => ⟨S16384x2, .f32⟩
  | 43 => ⟨S16384x2x1, .i32⟩
  | 44 => ⟨S1x1x8, .i32⟩
  | 45 => ⟨S16384x2x8, .i32⟩
  | 46 => ⟨S16384x2x8, .i32⟩
  | 47 => ⟨S16384x2x8, .i1⟩
  | 48 => ⟨S16384x2x8, .f32⟩
  | 49 => ⟨S16384x2x1, .f32⟩
  | 50 => ⟨S16384x2x8, .f32⟩
  | 51 => ⟨S16384x2x8, .f32⟩
  | 52 => ⟨S_, .f32⟩
  | 53 => ⟨S16384x8, .f32⟩
  | 54 => ⟨S_, .f32⟩
  | 55 => ⟨S16384x1024, .f32⟩
  | 56 => ⟨S16384x1, .f32⟩
  | 57 => ⟨S1x1024x5632, .f32⟩
  | 58 => ⟨S1024x5632, .f32⟩
  | 59 => ⟨S1x2816x1024, .f32⟩
  | 60 => ⟨S2816x1024, .f32⟩
  | 61 => ⟨S16384x5632, .f32⟩
  | 62 => ⟨S16384x2816, .f32⟩
  | 63 => ⟨S16384x2816, .f32⟩
  | 64 => ⟨S16384x2816, .f32⟩
  | 65 => ⟨S16384x2816, .f32⟩
  | 66 => ⟨S_, .f32⟩
  | 67 => ⟨S16384x2816, .f32⟩
  | 68 => ⟨S16384x2816, .f32⟩
  | 69 => ⟨S_, .f32⟩
  | 70 => ⟨S16384x2816, .f32⟩
  | 71 => ⟨S16384x2816, .f32⟩
  | 72 => ⟨S16384x2816, .f32⟩
  | 73 => ⟨S16384x2816, .f32⟩
  | 74 => ⟨S16384x1024, .f32⟩
  | 75 => ⟨S16384x1024, .f32⟩
  | 76 => ⟨S16384x1024, .f32⟩
  | 77 => ⟨S16384x1024, .f32⟩
  | 78 => ⟨S16384x1, .f32⟩
  | 79 => ⟨S1x1024x5632, .f32⟩
  | 80 => ⟨S1024x5632, .f32⟩
  | 81 => ⟨S1x2816x1024, .f32⟩
  | 82 => ⟨S2816x1024, .f32⟩
  | 83 => ⟨S16384x5632, .f32⟩
  | 84 => ⟨S16384x2816, .f32⟩
  | 85 => ⟨S16384x2816, .f32⟩
  | 86 => ⟨S16384x2816, .f32⟩
  | 87 => ⟨S16384x2816, .f32⟩
  | 88 => ⟨S_, .f32⟩
  | 89 => ⟨S16384x2816, .f32⟩
  | 90 => ⟨S16384x2816, .f32⟩
  | 91 => ⟨S_, .f32⟩
  | 92 => ⟨S16384x2816, .f32⟩
  | 93 => ⟨S16384x2816, .f32⟩
  | 94 => ⟨S16384x2816, .f32⟩
  | 95 => ⟨S16384x2816, .f32⟩
  | 96 => ⟨S16384x1024, .f32⟩
  | 97 => ⟨S16384x1024, .f32⟩
  | 98 => ⟨S16384x1024, .f32⟩
  | 99 => ⟨S16384x1024, .f32⟩
  | 100 => ⟨S16384x1, .f32⟩
  | 101 => ⟨S1x1024x5632, .f32⟩
  | 102 => ⟨S1024x5632, .f32⟩
  | 103 => ⟨S1x2816x1024, .f32⟩
  | 104 => ⟨S2816x1024, .f32⟩
  | 105 => ⟨S16384x5632, .f32⟩
  | 106 => ⟨S16384x2816, .f32⟩
  | 107 => ⟨S16384x2816, .f32⟩
  | 108 => ⟨S16384x2816, .f32⟩
  | 109 => ⟨S16384x2816, .f32⟩
  | 110 => ⟨S_, .f32⟩
  | 111 => ⟨S16384x2816, .f32⟩
  | 112 => ⟨S16384x2816, .f32⟩
  | 113 => ⟨S_, .f32⟩
  | 114 => ⟨S16384x2816, .f32⟩
  | 115 => ⟨S16384x2816, .f32⟩
  | 116 => ⟨S16384x2816, .f32⟩
  | 117 => ⟨S16384x2816, .f32⟩
  | 118 => ⟨S16384x1024, .f32⟩
  | 119 => ⟨S16384x1024, .f32⟩
  | 120 => ⟨S16384x1024, .f32⟩
  | 121 => ⟨S16384x1024, .f32⟩
  | 122 => ⟨S16384x1, .f32⟩
  | 123 => ⟨S1x1024x5632, .f32⟩
  | 124 => ⟨S1024x5632, .f32⟩
  | 125 => ⟨S1x2816x1024, .f32⟩
  | 126 => ⟨S2816x1024, .f32⟩
  | 127 => ⟨S16384x5632, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S_, .f32⟩
  | 5 => ⟨S16384x2816, .f32⟩
  | 6 => ⟨S16384x2816, .f32⟩
  | 7 => ⟨S_, .f32⟩
  | 8 => ⟨S16384x2816, .f32⟩
  | 9 => ⟨S16384x2816, .f32⟩
  | 10 => ⟨S16384x2816, .f32⟩
  | 11 => ⟨S16384x2816, .f32⟩
  | 12 => ⟨S16384x1024, .f32⟩
  | 13 => ⟨S16384x1024, .f32⟩
  | 14 => ⟨S16384x1024, .f32⟩
  | 15 => ⟨S16384x1024, .f32⟩
  | 16 => ⟨S16384x1, .f32⟩
  | 17 => ⟨S1x1024x5632, .f32⟩
  | 18 => ⟨S1024x5632, .f32⟩
  | 19 => ⟨S1x2816x1024, .f32⟩
  | 20 => ⟨S2816x1024, .f32⟩
  | 21 => ⟨S16384x5632, .f32⟩
  | 22 => ⟨S16384x2816, .f32⟩
  | 23 => ⟨S16384x2816, .f32⟩
  | 24 => ⟨S16384x2816, .f32⟩
  | 25 => ⟨S16384x2816, .f32⟩
  | 26 => ⟨S_, .f32⟩
  | 27 => ⟨S16384x2816, .f32⟩
  | 28 => ⟨S16384x2816, .f32⟩
  | 29 => ⟨S_, .f32⟩
  | 30 => ⟨S16384x2816, .f32⟩
  | 31 => ⟨S16384x2816, .f32⟩
  | 32 => ⟨S16384x2816, .f32⟩
  | 33 => ⟨S16384x2816, .f32⟩
  | 34 => ⟨S16384x1024, .f32⟩
  | 35 => ⟨S16384x1024, .f32⟩
  | 36 => ⟨S16384x1024, .f32⟩
  | 37 => ⟨S16384x1024, .f32⟩
  | 38 => ⟨S16384x1, .f32⟩
  | 39 => ⟨S1x1024x5632, .f32⟩
  | 40 => ⟨S1024x5632, .f32⟩
  | 41 => ⟨S1x2816x1024, .f32⟩
  | 42 => ⟨S2816x1024, .f32⟩
  | 43 => ⟨S16384x5632, .f32⟩
  | 44 => ⟨S16384x2816, .f32⟩
  | 45 => ⟨S16384x2816, .f32⟩
  | 46 => ⟨S16384x2816, .f32⟩
  | 47 => ⟨S16384x2816, .f32⟩
  | 48 => ⟨S_, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S16384x2816, .f32⟩
  | 55 => ⟨S16384x2816, .f32⟩
  | 56 => ⟨S16384x1024, .f32⟩
  | 57 => ⟨S16384x1024, .f32⟩
  | 58 => ⟨S16384x1024, .f32⟩
  | 59 => ⟨S16384x1024, .f32⟩
  | 60 => ⟨S16384x1, .f32⟩
  | 61 => ⟨S1x1024x5632, .f32⟩
  | 62 => ⟨S1024x5632, .f32⟩
  | 63 => ⟨S1x2816x1024, .f32⟩
  | 64 => ⟨S2816x1024, .f32⟩
  | 65 => ⟨S16384x5632, .f32⟩
  | 66 => ⟨S16384x2816, .f32⟩
  | 67 => ⟨S16384x2816, .f32⟩
  | 68 => ⟨S16384x2816, .f32⟩
  | 69 => ⟨S16384x2816, .f32⟩
  | 70 => ⟨S_, .f32⟩
  | 71 => ⟨S16384x2816, .f32⟩
  | 72 => ⟨S16384x2816, .f32⟩
  | 73 => ⟨S_, .f32⟩
  | 74 => ⟨S16384x2816, .f32⟩
  | 75 => ⟨S16384x2816, .f32⟩
  | 76 => ⟨S16384x2816, .f32⟩
  | 77 => ⟨S16384x2816, .f32⟩
  | 78 => ⟨S16384x1024, .f32⟩
  | 79 => ⟨S16384x1024, .f32⟩
  | 80 => ⟨S16384x1024, .f32⟩
  | 81 => ⟨S16384x1024, .f32⟩
  | 82 => ⟨S16384x1, .f32⟩
  | 83 => ⟨S1x1024x5632, .f32⟩
  | 84 => ⟨S1024x5632, .f32⟩
  | 85 => ⟨S1x2816x1024, .f32⟩
  | 86 => ⟨S2816x1024, .f32⟩
  | 87 => ⟨S16384x5632, .f32⟩
  | 88 => ⟨S16384x2816, .f32⟩
  | 89 => ⟨S16384x2816, .f32⟩
  | 90 => ⟨S16384x2816, .f32⟩
  | 91 => ⟨S16384x2816, .f32⟩
  | 92 => ⟨S_, .f32⟩
  | 93 => ⟨S16384x2816, .f32⟩
  | 94 => ⟨S16384x2816, .f32⟩
  | 95 => ⟨S_, .f32⟩
  | 96 => ⟨S16384x2816, .f32⟩
  | 97 => ⟨S16384x2816, .f32⟩
  | 98 => ⟨S16384x2816, .f32⟩
  | 99 => ⟨S16384x2816, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S_, .f32⟩
  | 107 => ⟨S16384, .f32⟩
  | 108 => ⟨S16384x1, .f32⟩
  | 109 => ⟨S_, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S16384x1, .f32⟩
  | 116 => ⟨S16384x1024, .f32⟩
  | 117 => ⟨S16384x1024, .f32⟩
  | 118 => ⟨S1x1024, .f32⟩
  | 119 => ⟨S16384x1024, .f32⟩
  | 120 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call4_v0 : Ref sig .tc := ⟨.hbm, 130, rfl⟩
abbrev main_call4_v1 : Ref sig .tc := ⟨.hbm, 131, rfl⟩
abbrev main_call4_cst : Ref sig .tc := ⟨.hbm, 132, rfl⟩
abbrev main_call4_v2 : Ref sig .tc := ⟨.hbm, 133, rfl⟩
abbrev main_call4_v3 : Ref sig .tc := ⟨.hbm, 134, rfl⟩
abbrev main_call4_cst_0 : Ref sig .tc := ⟨.hbm, 135, rfl⟩
abbrev main_call4_v4 : Ref sig .tc := ⟨.hbm, 136, rfl⟩
abbrev main_call4_v5 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_call5_v0 : Ref sig .tc := ⟨.hbm, 152, rfl⟩
abbrev main_call5_v1 : Ref sig .tc := ⟨.hbm, 153, rfl⟩
abbrev main_call5_cst : Ref sig .tc := ⟨.hbm, 154, rfl⟩
abbrev main_call5_v2 : Ref sig .tc := ⟨.hbm, 155, rfl⟩
abbrev main_call5_v3 : Ref sig .tc := ⟨.hbm, 156, rfl⟩
abbrev main_call5_cst_0 : Ref sig .tc := ⟨.hbm, 157, rfl⟩
abbrev main_call5_v4 : Ref sig .tc := ⟨.hbm, 158, rfl⟩
abbrev main_call5_v5 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_call6_v0 : Ref sig .tc := ⟨.hbm, 174, rfl⟩
abbrev main_call6_v1 : Ref sig .tc := ⟨.hbm, 175, rfl⟩
abbrev main_call6_cst : Ref sig .tc := ⟨.hbm, 176, rfl⟩
abbrev main_call6_v2 : Ref sig .tc := ⟨.hbm, 177, rfl⟩
abbrev main_call6_v3 : Ref sig .tc := ⟨.hbm, 178, rfl⟩
abbrev main_call6_cst_0 : Ref sig .tc := ⟨.hbm, 179, rfl⟩
abbrev main_call6_v4 : Ref sig .tc := ⟨.hbm, 180, rfl⟩
abbrev main_call6_v5 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_call7_v0 : Ref sig .tc := ⟨.hbm, 196, rfl⟩
abbrev main_call7_v1 : Ref sig .tc := ⟨.hbm, 197, rfl⟩
abbrev main_call7_cst : Ref sig .tc := ⟨.hbm, 198, rfl⟩
abbrev main_call7_v2 : Ref sig .tc := ⟨.hbm, 199, rfl⟩
abbrev main_call7_v3 : Ref sig .tc := ⟨.hbm, 200, rfl⟩
abbrev main_call7_cst_0 : Ref sig .tc := ⟨.hbm, 201, rfl⟩
abbrev main_call7_v4 : Ref sig .tc := ⟨.hbm, 202, rfl⟩
abbrev main_call7_v5 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_call8_v0 : Ref sig .tc := ⟨.hbm, 218, rfl⟩
abbrev main_call8_v1 : Ref sig .tc := ⟨.hbm, 219, rfl⟩
abbrev main_call8_cst : Ref sig .tc := ⟨.hbm, 220, rfl⟩
abbrev main_call8_v2 : Ref sig .tc := ⟨.hbm, 221, rfl⟩
abbrev main_call8_v3 : Ref sig .tc := ⟨.hbm, 222, rfl⟩
abbrev main_call8_cst_0 : Ref sig .tc := ⟨.hbm, 223, rfl⟩
abbrev main_call8_v4 : Ref sig .tc := ⟨.hbm, 224, rfl⟩
abbrev main_call8_v5 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_7 : Ref sig .tc := ⟨.hbm, 234, rfl⟩
abbrev main_v148 : Ref sig .tc := ⟨.hbm, 235, rfl⟩
abbrev main_v149 : Ref sig .tc := ⟨.hbm, 236, rfl⟩
abbrev main_cst_8 : Ref sig .tc := ⟨.hbm, 237, rfl⟩
abbrev main_v150 : Ref sig .tc := ⟨.hbm, 238, rfl⟩
abbrev main_v151 : Ref sig .tc := ⟨.hbm, 239, rfl⟩
abbrev main_cst_9 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x3332 : Shape := ⟨2, ![1024, 3332]⟩
abbrev S4 : Shape := ⟨1, ![4]⟩
abbrev S3332x1024 : Shape := ⟨2, ![3332, 1024]⟩
abbrev S1024x1024 : Shape := ⟨2, ![1024, 1024]⟩
abbrev S2304x1024 : Shape := ⟨2, ![2304, 1024]⟩
abbrev S4x1024 : Shape := ⟨2, ![4, 1024]⟩
abbrev S_ : Shape := ⟨0, ![]⟩
abbrev S128x1024 : Shape := ⟨2, ![128, 1024]⟩
abbrev S3456x1024 : Shape := ⟨2, ![3456, 1024]⟩
abbrev S128 : Shape := ⟨1, ![128]⟩
abbrev S1x128 : Shape := ⟨2, ![1, 128]⟩
abbrev S1x1024 : Shape := ⟨2, ![1, 1024]⟩
abbrev S16384x3456 : Shape := ⟨2, ![16384, 3456]⟩
abbrev S2x768x8192 : Shape := ⟨3, ![2, 768, 8192]⟩
abbrev S16384x768 : Shape := ⟨2, ![16384, 768]⟩
abbrev S512x1024 : Shape := ⟨2, ![512, 1024]⟩
abbrev S512x3456 : Shape := ⟨2, ![512, 3456]⟩
abbrev S1x768x512 : Shape := ⟨3, ![1, 768, 512]⟩
abbrev S512x768 : Shape := ⟨2, ![512, 768]⟩
abbrev S512 : Shape := ⟨1, ![512]⟩
abbrev S512x1 : Shape := ⟨2, ![512, 1]⟩
abbrev S1152x1024 : Shape := ⟨2, ![1152, 1024]⟩
abbrev S512x1152 : Shape := ⟨2, ![512, 1152]⟩
abbrev S512x128 : Shape := ⟨2, ![512, 128]⟩
abbrev S768x1024 : Shape := ⟨2, ![768, 1024]⟩
abbrev S768x512 : Shape := ⟨2, ![768, 512]⟩
abbrev S2x8192x1024 : Shape := ⟨3, ![2, 8192, 1024]⟩
abbrev S2x12x64x8192 : Shape := ⟨4, ![2, 12, 64, 8192]⟩
abbrev S2x8192x12x64 : Shape := ⟨4, ![2, 8192, 12, 64]⟩
abbrev S16384x4 : Shape := ⟨2, ![16384, 4]⟩
abbrev S2x8192x4 : Shape := ⟨3, ![2, 8192, 4]⟩

abbrev nBuf : Space → Nat
  | .hbm => 34
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3332, .f32⟩
  | .hbm, ⟨3, _⟩ => ⟨S4, .f32⟩
  | .hbm, ⟨4, _⟩ => ⟨S3332x1024, .f32⟩
  | .hbm, ⟨5, _⟩ => ⟨S1024x1024, .f32⟩
  | .hbm, ⟨6, _⟩ => ⟨S2304x1024, .f32⟩
  | .hbm, ⟨7, _⟩ => ⟨S4x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S3456x1024, .f32⟩
  | .hbm, ⟨12, _⟩ => ⟨S3456x1024, .bf16⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S1x1024, .f32⟩
  | .hbm, ⟨18, _⟩ => ⟨S16384x3456, .f32⟩
  | .hbm, ⟨19, _⟩ => ⟨S2x768x8192, .f32⟩
  | .hbm, ⟨20, _⟩ => ⟨S2x768x8192, .f32⟩
  | .hbm, ⟨21, _⟩ => ⟨S2x768x8192, .f32⟩
  | .hbm, ⟨22, _⟩ => ⟨S16384x768, .bf16⟩
  | .hbm, ⟨23, _⟩ => ⟨S2x768x8192, .bf16⟩
  | .hbm, ⟨24, _⟩ => ⟨S16384x1024, .f32⟩
  | .hbm, ⟨25, _⟩ => ⟨S2x8192x1024, .f32⟩
  | .hbm, ⟨26, _⟩ => ⟨S2x12x64x8192, .f32⟩
  | .hbm, ⟨27, _⟩ => ⟨S2x8192x12x64, .f32⟩
  | .hbm, ⟨28, _⟩ => ⟨S2x12x64x8192, .f32⟩
  | .hbm, ⟨29, _⟩ => ⟨S2x8192x12x64, .f32⟩
  | .hbm, ⟨30, _⟩ => ⟨S2x12x64x8192, .f32⟩
  | .hbm, ⟨31, _⟩ => ⟨S2x8192x12x64, .f32⟩
  | .hbm, ⟨32, _⟩ => ⟨S16384x4, .f32⟩
  | .hbm, ⟨33, _⟩ => ⟨S2x8192x4, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3456x1024, .bf16⟩
  | .local _ .vmem, ⟨4, _⟩ => ⟨S1x128, .f32⟩
  | .local _ .vmem, ⟨5, _⟩ => ⟨S512x3456, .f32⟩
  | .local _ .vmem, ⟨6, _⟩ => ⟨S512x3456, .f32⟩
  | .local _ .vmem, ⟨7, _⟩ => ⟨S1x768x512, .f32⟩
  | .local _ .vmem, ⟨8, _⟩ => ⟨S1x768x512, .f32⟩
  | .local _ .vmem, ⟨9, _⟩ => ⟨S1x768x512, .f32⟩
  | .local _ .vmem, ⟨10, _⟩ => ⟨S1x768x512, .f32⟩
  | .local _ .vmem, ⟨11, _⟩ => ⟨S1x768x512, .f32⟩
  | .local _ .vmem, ⟨12, _⟩ => ⟨S1x768x512, .f32⟩
  | .local _ .vmem, ⟨13, _⟩ => ⟨S512x768, .bf16⟩
  | .local _ .vmem, ⟨14, _⟩ => ⟨S512x768, .bf16⟩
  | .local _ .vmem, ⟨15, _⟩ => ⟨S1x768x512, .bf16⟩
  | .local _ .vmem, ⟨16, _⟩ => ⟨S1x768x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3456x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3456 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024 : Shape := ⟨1, ![1024]⟩
abbrev S1024x3332 : Shape := ⟨2, ![1024, 3332]⟩
abbrev S4 : Shape := ⟨1, ![4]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3332 : Shape := ⟨3, ![2, 8192, 3332]⟩
abbrev S2x8192x768 : Shape := ⟨3, ![2, 8192, 768]⟩
abbrev S2x8192x4 : Shape := ⟨3, ![2, 8192, 4]⟩
abbrev S2x8192x12x64 : Shape := ⟨4, ![2, 8192, 12, 64]⟩
abbrev S1x1x4 : Shape := ⟨3, ![1, 1, 4]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3332, .f32⟩
  | .hbm, ⟨3, _⟩ => ⟨S4, .f32⟩
  | .hbm, ⟨4, _⟩ => ⟨S2x8192x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x3332, .f32⟩
  | .hbm, ⟨22, _⟩ => ⟨S2x8192x768, .f32⟩
  | .hbm, ⟨23, _⟩ => ⟨S2x8192x768, .f32⟩
  | .hbm, ⟨24, _⟩ => ⟨S2x8192x768, .f32⟩
  | .hbm, ⟨25, _⟩ => ⟨S2x8192x4, .f32⟩
  | .hbm, ⟨26, _⟩ => ⟨S2x8192x1024, .f32⟩
  | .hbm, ⟨27, _⟩ => ⟨S2x8192x12x64, .f32⟩
  | .hbm, ⟨28, _⟩ => ⟨S2x8192x12x64, .f32⟩
  | .hbm, ⟨29, _⟩ => ⟨S2x8192x12x64, .f32⟩
  | .hbm, ⟨30, _⟩ => ⟨S1x1x4, .f32⟩
  | .hbm, ⟨31, _⟩ => ⟨S2x8192x4, .f32⟩
  | .hbm, ⟨32, _⟩ => ⟨S2x8192x4, .f32⟩
  | .hbm, ⟨33, _⟩ => ⟨S2x8192x4, .f32⟩
  | .hbm, ⟨34, _⟩ => ⟨S_, .f32⟩
  | .hbm, ⟨35, _⟩ => ⟨S2x8192x4, .f32⟩
  | .hbm, ⟨36, _⟩ => ⟨S2x8192x4, .f32⟩
  | .hbm, ⟨37, _⟩ => ⟨S2x8192x4, .f32⟩
  | .hbm, ⟨38, _⟩ => ⟨S2x8192x4, .f32⟩
  | .hbm, ⟨39, _⟩ => ⟨S2x8192x4, .i1⟩
  | .hbm, ⟨40, _⟩ => ⟨S2x8192x4, .f32⟩
  | .hbm, ⟨41, _⟩ => ⟨S2x8192x4, .f32⟩
  | .hbm, ⟨42, _⟩ => ⟨S2x8192x4, .f32⟩
  | .hbm, ⟨43, _⟩ => ⟨S2x8192x4, .f32⟩
  | .hbm, ⟨44, _⟩ => ⟨S2x8192x4, .f32⟩
  | .hbm, ⟨45, _⟩ => ⟨S2x8192x4, .f32⟩
  | .hbm, ⟨46, _⟩ => ⟨S2x8192x4, .f32⟩
  | .hbm, ⟨47, _⟩ => ⟨S2x8192x4, .f32⟩
  | .hbm, ⟨48, _⟩ => ⟨S2x8192x4, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Kernel3.lean ====
abbrev S128x1024 : Shape := ⟨2, ![128, 1024]⟩
abbrev S1024 : Shape := ⟨1, ![1024]⟩
abbrev S1024x3332 : Shape := ⟨2, ![1024, 3332]⟩
abbrev S4 : Shape := ⟨1, ![4]⟩
abbrev S3332x1024 : Shape := ⟨2, ![3332, 1024]⟩
abbrev S1024x1024 : Shape := ⟨2, ![1024, 1024]⟩
abbrev S2304x1024 : Shape := ⟨2, ![2304, 1024]⟩
abbrev S4x1024 : Shape := ⟨2, ![4, 1024]⟩
abbrev S_ : Shape := ⟨0, ![]⟩
abbrev S3456x1024 : Shape := ⟨2, ![3456, 1024]⟩
abbrev S128 : Shape := ⟨1, ![128]⟩
abbrev S1x128 : Shape := ⟨2, ![1, 128]⟩
abbrev S1x1024 : Shape := ⟨2, ![1, 1024]⟩
abbrev S128x3456 : Shape := ⟨2, ![128, 3456]⟩
abbrev S128x1 : Shape := ⟨2, ![128, 1]⟩
abbrev S1152x1024 : Shape := ⟨2, ![1152, 1024]⟩
abbrev S128x1152 : Shape := ⟨2, ![128, 1152]⟩
abbrev S128x128 : Shape := ⟨2, ![128, 128]⟩
abbrev S32x4x1024 : Shape := ⟨3, ![32, 4, 1024]⟩
abbrev S128x768 : Shape := ⟨2, ![128, 768]⟩
abbrev S32x4x12x64 : Shape := ⟨4, ![32, 4, 12, 64]⟩
abbrev S128x4 : Shape := ⟨2, ![128, 4]⟩
abbrev S32x4x4 : Shape := ⟨3, ![32, 4, 4]⟩

abbrev nBuf : Space → Nat
  | .hbm => 29
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3332, .f32⟩
  | .hbm, ⟨3, _⟩ => ⟨S4, .f32⟩
  | .hbm, ⟨4, _⟩ => ⟨S3332x1024, .f32⟩
  | .hbm, ⟨5, _⟩ => ⟨S1024x1024, .f32⟩
  | .hbm, ⟨6, _⟩ => ⟨S2304x1024, .f32⟩
  | .hbm, ⟨7, _⟩ => ⟨S4x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S3456x1024, .f32⟩
  | .hbm, ⟨12, _⟩ => ⟨S3456x1024, .bf16⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S1x1024, .f32⟩
  | .hbm, ⟨18, _⟩ => ⟨S128x3456, .f32⟩
  | .hbm, ⟨19, _⟩ => ⟨S128x1024, .f32⟩
  | .hbm, ⟨20, _⟩ => ⟨S32x4x1024, .f32⟩
  | .hbm, ⟨21, _⟩ => ⟨S128x768, .f32⟩
  | .hbm, ⟨22, _⟩ => ⟨S32x4x12x64, .f32⟩
  | .hbm, ⟨23, _⟩ => ⟨S128x768, .f32⟩
  | .hbm, ⟨24, _⟩ => ⟨S32x4x12x64, .f32⟩
  | .hbm, ⟨25, _⟩ => ⟨S128x768, .f32⟩
  | .hbm, ⟨26, _⟩ => ⟨S32x4x12x64, .f32⟩
  | .hbm, ⟨27, _⟩ => ⟨S128x4, .f32⟩
  | .hbm, ⟨28, _⟩ => ⟨S32x4x4, .f32⟩
  | .local _ .vmem, ⟨0, _⟩ => ⟨S128x1024, .f32⟩
  | .local _ .vmem, ⟨1, _⟩ => ⟨S1x1024, .f32⟩
  | .local _ .vmem, ⟨2, _⟩ => ⟨S3456x1024, .bf16⟩
  | .local _ .vmem, ⟨3, _⟩ => ⟨S1x128, .f32⟩
  | .local _ .vmem, ⟨4, _⟩ => ⟨S128x3456, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3456x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference3Ideal.lean ====
abbrev S128x1024 : Shape := ⟨2, ![128, 1024]⟩
abbrev S1024 : Shape := ⟨1, ![1024]⟩
abbrev S1024x3332 : Shape := ⟨2, ![1024, 3332]⟩
abbrev S4 : Shape := ⟨1, ![4]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3332 : Shape := ⟨3, ![32, 4, 3332]⟩
abbrev S32x4x768 : Shape := ⟨3, ![32, 4, 768]⟩
abbrev S32x4x4 : Shape := ⟨3, ![32, 4, 4]⟩
abbrev S32x4x12x64 : Shape := ⟨4, ![32, 4, 12, 64]⟩
abbrev S1x1x4 : Shape := ⟨3, ![1, 1, 4]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3332, .f32⟩
  | .hbm, ⟨3, _⟩ => ⟨S4, .f32⟩
  | .hbm, ⟨4, _⟩ => ⟨S32x4x1024, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x4x3332, .f32⟩
  | .hbm, ⟨22, _⟩ => ⟨S32x4x768, .f32⟩
  | .hbm, ⟨23, _⟩ => ⟨S32x4x768, .f32⟩
  | .hbm, ⟨24, _⟩ => ⟨S32x4x768, .f32⟩
  | .hbm, ⟨25, _⟩ => ⟨S32x4x4, .f32⟩
  | .hbm, ⟨26, _⟩ => ⟨S32x4x1024, .f32⟩
  | .hbm, ⟨27, _⟩ => ⟨S32x4x12x64, .f32⟩
  | .hbm, ⟨28, _⟩ => ⟨S32x4x12x64, .f32⟩
  | .hbm, ⟨29, _⟩ => ⟨S32x4x12x64, .f32⟩
  | .hbm, ⟨30, _⟩ => ⟨S1x1x4, .f32⟩
  | .hbm, ⟨31, _⟩ => ⟨S32x4x4, .f32⟩
  | .hbm, ⟨32, _⟩ => ⟨S32x4x4, .f32⟩
  | .hbm, ⟨33, _⟩ => ⟨S32x4x4, .f32⟩
  | .hbm, ⟨34, _⟩ => ⟨S_, .f32⟩
  | .hbm, ⟨35, _⟩ => ⟨S32x4x4, .f32⟩
  | .hbm, ⟨36, _⟩ => ⟨S32x4x4, .f32⟩
  | .hbm, ⟨37, _⟩ => ⟨S32x4x4, .f32⟩
  | .hbm, ⟨38, _⟩ => ⟨S32x4x4, .f32⟩
  | .hbm, ⟨39, _⟩ => ⟨S32x4x4, .i1⟩
  | .hbm, ⟨40, _⟩ => ⟨S32x4x4, .f32⟩
  | .hbm, ⟨41, _⟩ => ⟨S32x4x4, .f32⟩
  | .hbm, ⟨42, _⟩ => ⟨S32x4x4, .f32⟩
  | .hbm, ⟨43, _⟩ => ⟨S32x4x4, .f32⟩
  | .hbm, ⟨44, _⟩ => ⟨S32x4x4, .f32⟩
  | .hbm, ⟨45, _⟩ => ⟨S32x4x4, .f32⟩
  | .hbm, ⟨46, _⟩ => ⟨S32x4x4, .f32⟩
  | .hbm, ⟨47, _⟩ => ⟨S32x4x4, .f32⟩
  | .hbm, ⟨48, _⟩ => ⟨S32x4x4, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x512 : Shape := ⟨2, ![1024, 512]⟩
abbrev S_ : Shape := ⟨0, ![]⟩
abbrev S1x128 : Shape := ⟨2, ![1, 128]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512x256 : Shape := ⟨2, ![512, 256]⟩
abbrev S2x256x256 : Shape := ⟨3, ![2, 256, 256]⟩
abbrev S2x256x4x64 : Shape := ⟨4, ![2, 256, 4, 64]⟩

abbrev nBuf : Space → Nat
  | .hbm => 16
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S_, .f32⟩
  | .hbm, ⟨4, _⟩ => ⟨S1x128, .f32⟩
  | .hbm, ⟨5, _⟩ => ⟨S512x1024, .f32⟩
  | .hbm, ⟨6, _⟩ => ⟨S1x1024, .f32⟩
  | .hbm, ⟨7, _⟩ => ⟨S512x1024, .f32⟩
  | .hbm, ⟨8, _⟩ => ⟨S512x1024, .bf16⟩
  | .hbm, ⟨9, _⟩ => ⟨S512x512, .f32⟩
  | .hbm, ⟨10, _⟩ => ⟨S512x256, .f32⟩
  | .hbm, ⟨11, _⟩ => ⟨S2x256x256, .f32⟩
  | .hbm, ⟨12, _⟩ => ⟨S512x256, .f32⟩
  | .hbm, ⟨13, _⟩ => ⟨S2x256x256, .f32⟩
  | .hbm, ⟨14, _⟩ => ⟨S2x256x4x64, .f32⟩
  | .hbm, ⟨15, _⟩ => ⟨S2x256x4x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S512x1024, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x256x1024 : Shape := ⟨3, ![2, 256, 1024]⟩
abbrev S1024 : Shape := ⟨1, ![1024]⟩
abbrev S1024x512 : Shape := ⟨2, ![1024, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x256x256 : Shape := ⟨3, ![2, 256, 256]⟩
abbrev S2x256x4x64 : Shape := ⟨4, ![2, 256, 4, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x512, .f32⟩
  | .hbm, ⟨20, _⟩ => ⟨S2x256x256, .f32⟩
  | .hbm, ⟨21, _⟩ => ⟨S2x256x256, .f32⟩
  | .hbm, ⟨22, _⟩ => ⟨S2x256x4x64, .f32⟩
  | .hbm, ⟨23, _⟩ => ⟨S2x256x4x64, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Cut.lean ====
module

public import proofs.«01_k».proof.Proof.Gen.KernelIdeal.Skeleton
public import proofs.«01_k».proof.Proof.Gen.KernelIdeal.Frame
public import Idealize.ShloMosaic.Lib.Tactic.Stretches
public import Idealize.ShloMosaic.Lib.Tactic.OpenCalls

/-!
The kernel's body at one grid point, cut into its stretches: the routing of a token tile (`st1`), the two
loads of the routing tables (`st2`), the four passes over the expert's rows (`st3` to `st6`) and the closing
normalisation (`st7`). The four passes are one program, `pass`, at four widths.
-/

@[expose] public section

noncomputable section

namespace Cert.KernelIdeal.Gen

open Idealize.ShloMosaic Idealize.ShloMosaic.TcCoe Idealize.SL.Sem

open_calls body := cc0_moe_sparse_skel [k0_part3]
cut_chain st := body at 2, 4, 5, 6, 7, 8

variable {F : FTy → Type} [FloatOps F] [Named F]

/-- A pass's block of the token-by-slot buffer: `cap` columns. -/
abbrev ColS (cap : ℕ) : Shape := ⟨2, ![1024, cap]⟩
/-- A pass's block of a slot-by-feature buffer: `cap` rows. -/
abbrev RowS (cap : ℕ) : Shape := ⟨2, ![cap, 1024]⟩

/-- The columns of a pass lie within the buffer. -/
abbrev ColIn (cap first : ℕ) : Prop := ∀ a, (![0, first] : Fin 2 → Nat) a + (ColS cap).size a ≤ S1024x1024.size a
/-- The rows of a pass lie within the buffer. -/
abbrev RowIn (cap first : ℕ) : Prop := ∀ a, (![first, 0] : Fin 2 → Nat) a + (RowS cap).size a ≤ S1024x1024.size a

/-- The `cap` columns from column `first` on. -/
abbrev colR (cap first : ℕ) (hc : ColIn cap first) : Rect S1024x1024 :=
  Rect.unit (s := S1024x1024) ![0, first] (ColS cap).size hc
/-- The `cap` rows from row `first` on. -/
abbrev rowR (cap first : ℕ) (hr : RowIn cap first) : Rect S1024x1024 :=
  Rect.unit (s := S1024x1024) ![first, 0] (RowS cap).size hr

/-- The grid point lies in the first half of the hidden width. -/
abbrev isFirst (i : grid0.Coords) : Prop :=
  Scalar.cmpi .ne (Scalar.extui (Scalar.cmpi .eq (BitVec.ofNat 32 (i 2).val) 0#32) : BitVec 32) 0#32 = 1#1
/-- The grid point lies past the first half of the hidden width. -/
abbrev isLater (i : grid0.Coords) : Prop :=
  Scalar.cmpi .ne (Scalar.extui (Scalar.cmpi .sgt (BitVec.ofNat 32 (i 2).val) 0#32) : BitVec 32) 0#32 = 1#1

/-- One pass over `cap` rows starting at row `first`: when `run` holds, at the first half of the expert's
    hidden width the one-hot block and the gathered rows are written; then the half's product is computed and
    stored or added, and at the last half (`last`) the rows are returned to the tokens. -/
@[reducible] def pass {R : Type} (cap first : ℕ)
    (hc : ColIn cap first) (hr : RowIn cap first)
    (hcn : 0 < (ColS cap).numel) (hrn : 0 < (RowS cap).numel)
    (pk16 : (colR cap first hc).PackedRows (EltTy.packing .bf16)) (pk17 : (rowR cap first hr).PackedRows (EltTy.packing .bf16))
    (i : grid0.Coords) (run last : Prop) [Decidable run] [Decidable last]
    (arg7 : Memref sig .tc .vmem S1x1024x1408 .bf16) (arg8 : Memref sig .tc .vmem S1x1024x1408 .bf16) (arg9 : Memref sig .tc .vmem S1x1408x1024 .bf16)
    (arg11 : Memref sig .tc .vmem S1024x1024 .f32) (arg12 : Memref sig .tc .vmem S1024x1024 .bf16)
    (arg13 : Memref sig .tc .vmem S1024x128 .f32)
    (arg16 : Memref sig .tc .vmem S1024x1024 .bf16) (harg16 : arg16.IsWhole)
    (arg17 : Memref sig .tc .vmem S1024x1024 .bf16) (harg17 : arg17.IsWhole)
    (arg18 : Memref sig .tc .vmem S1024x1024 .f32)
    (payC : FVec F (ColS cap) .bf16) (payH : Vec F S1024x1024 .bf16 → FVec F (RowS cap) .bf16)
    (payP : Vec F (RowS cap) .bf16 → Vec F S1x1024x1408 .bf16 → Vec F S1x1024x1408 .bf16 → Vec F S1x1408x1024 .bf16 → FVec F (RowS cap) .f32)
    (payA : Vec F (RowS cap) .bf16 → Vec F S1x1024x1408 .bf16 → Vec F S1x1024x1408 .bf16 → Vec F S1x1408x1024 .bf16 → Vec F (RowS cap) .f32 → FVec F (RowS cap) .f32)
    (payY : Vec F (RowS cap) .f32 → Vec F (ColS cap) .bf16 → Vec F S1024x128 .f32 → Vec F S1024x1024 .f32 → FVec F S1024x1024 .f32)
    (κ : Prog (TpuEff nD τ sig (Elt F) Λ₀ .tc) R) : Prog (TpuEff nD τ sig (Elt F) Λ₀ .tc) R := do
  if run then do
    if isFirst i then do
      let _ : Vec F (ColS cap) .bf16 ← Prog.lift (.load arg16 (colR cap first hc).toLoadRect (View.loadsAt_vmem hcn))
      Prog.lift (.store arg16 (colR cap first hc) payC Finset.univ (View.stores_vmem hcn (harg16.storeExact_slice rfl _ pk16) (fun _ => rfl)) (.inl rfl))
      let v87 : Vec F S1024x1024 .bf16 ← Prog.lift (.load arg12 (Rect.unit (s := S1024x1024) ![0, 0] S1024x1024.size inb_S1024x1024_S1024x1024_0_0).toLoadRect (View.loadsAt_vmem h_S1024x1024))
      let _ : Vec F (RowS cap) .bf16 ← Prog.lift (.load arg17 (rowR cap first hr).toLoadRect (View.loadsAt_vmem hrn))
      Prog.lift (.store arg17 (rowR cap first hr) (payH v87) Finset.univ (View.stores_vmem hrn (harg17.storeExact_slice rfl _ pk17) (fun _ => rfl)) (.inl rfl))
      pure ⟨⟩
    else do
      pure ⟨⟩
    let v47 : Vec F (RowS cap) .bf16 ← Prog.lift (.load arg17 (rowR cap first hr).toLoadRect (View.loadsAt_vmem hrn))
    let v48 : Vec F S1x1024x1408 .bf16 ← Prog.lift (.load arg7 (Rect.unit (s := S1x1024x1408) ![0, 0, 0] S1x1024x1408.size inb_S1x1024x1408_S1x1024x1408_0_0_0).toLoadRect (View.loadsAt_vmem h_S1x1024x1408))
    let v51 : Vec F S1x1024x1408 .bf16 ← Prog.lift (.load arg8 (Rect.unit (s := S1x1024x1408) ![0, 0, 0] S1x1024x1408.size inb_S1x1024x1408_S1x1024x1408_0_0_0).toLoadRect (View.loadsAt_vmem h_S1x1024x1408))
    let v58 : Vec F S1x1408x1024 .bf16 ← Prog.lift (.load arg9 (Rect.unit (s := S1x1408x1024) ![0, 0, 0] S1x1408x1024.size inb_S1x1408x1024_S1x1408x1024_0_0_0).toLoadRect (View.loadsAt_vmem h_S1x1408x1024))
    if isFirst i then do
      let _ : Vec F (RowS cap) .f32 ← Prog.lift (.load arg18 (rowR cap first hr).toLoadRect (View.loadsAt_vmem hrn))
      Prog.lift (.store arg18 (rowR cap first hr) (payP v47 v48 v51 v58) Finset.univ (View.stores_vmem_bits_univ hrn rfl) (.inl rfl))
      pure ⟨⟩
    else do
      pure ⟨⟩
    if isLater i then do
      let v70 : Vec F (RowS cap) .f32 ← Prog.lift (.load arg18 (rowR cap first hr).toLoadRect (View.loadsAt_vmem hrn))
      let _ : Vec F (RowS cap) .f32 ← Prog.lift (.load arg18 (rowR cap first hr).toLoadRect (View.loadsAt_vmem hrn))
      Prog.lift (.store arg18 (rowR cap first hr) (payA v47 v48 v51 v58 v70) Finset.univ (View.stores_vmem_bits_univ hrn rfl) (.inl rfl))
      pure ⟨⟩
    else do
      pure ⟨⟩
    if last then do
      let v70 : Vec F (RowS cap) .f32 ← Prog.lift (.load arg18 (rowR cap first hr).toLoadRect (View.loadsAt_vmem hrn))
      let v75 : Vec F (ColS cap) .bf16 ← Prog.lift (.load arg16 (colR cap first hc).toLoadRect (View.loadsAt_vmem hcn))
      let v76 : Vec F S1024x128 .f32 ← Prog.lift (.load arg13 (Rect.unit (s := S1024x128) ![0, 0] S1024x128.size inb_S1024x128_S1024x128_0_0).toLoadRect (View.loadsAt_vmem h_S1024x128))
      let v83 : Vec F S1024x1024 .f32 ← Prog.lift (.load arg11 (Rect.unit (s := S1024x1024) ![0, 0] S1024x1024.size inb_S1024x1024_S1024x1024_0_0).toLoadRect (View.loadsAt_vmem h_S1024x1024))
      let _ : Vec F S1024x1024 .f32 ← Prog.lift (.load arg11 (Rect.unit (s := S1024x1024) ![0, 0] S1024x1024.size inb_S1024x1024_S1024x1024_0_0).toLoadRect (View.loadsAt_vmem h_S1024x1024))
      Prog.lift (.store arg11 (Rect.unit (s := S1024x1024) ![0, 0] S1024x1024.size inb_S1024x1024_S1024x1024_0_0) (payY v70 v75 v76 v83) Finset.univ (View.stores_vmem_bits_univ h_S1024x1024 rfl) (.inl rfl))
      pure ⟨⟩
    else do
      pure ⟨⟩
    pure ⟨⟩
  else do
    pure ⟨⟩
  κ

/-- The pass is taken when the expert's row count exceeds the pass's first row. -/
abbrev runs (i : grid0.Coords) (v6 v13 : Vec F S1024x128 .f32) (bits : BitVec 32) : Prop :=
  Scalar.cmpi .ne (Scalar.extui (Scalar.cmpf .ogt (k0_pay31 i v6 v13) (Scalar.ofBits .f32 bits)) : BitVec 32) 0#32 = 1#1

/-- The lanes of the routing tables. -/
abbrev lanes : IVec S1024x128 32 := iota .tc S1024x128 32 [1] iota_S1024x128_d1_w32

section
variable {R : Type} (i : grid0.Coords)
    (arg7 : Memref sig .tc .vmem S1x1024x1408 .bf16) (arg8 : Memref sig .tc .vmem S1x1024x1408 .bf16) (arg9 : Memref sig .tc .vmem S1x1408x1024 .bf16)
    (arg11 : Memref sig .tc .vmem S1024x1024 .f32) (arg12 : Memref sig .tc .vmem S1024x1024 .bf16)
    (arg13 : Memref sig .tc .vmem S1024x128 .f32)
    (arg16 : Memref sig .tc .vmem S1024x1024 .bf16) (harg16 : arg16.IsWhole)
    (arg17 : Memref sig .tc .vmem S1024x1024 .bf16) (harg17 : arg17.IsWhole)
    (arg18 : Memref sig .tc .vmem S1024x1024 .f32) (v6 v13 : Vec F S1024x128 .f32)
    (κ : Prog (TpuEff nD τ sig (Elt F) Λ₀ .tc) R)

/-- The first pass: 256 rows from row 0. -/
theorem st3_eq : st3 i arg7 arg8 arg9 arg11 arg12 arg13 arg16 harg16 arg17 harg17 arg18 v6 v13 κ =
    pass 256 0 inb_S1024x1024_S1024x256_0_0 inb_S1024x1024_S256x1024_0_0 h_S1024x256 h_S256x1024
      packedbf16_S1024x1024_S1024x256_0_0 packedbf16_S1024x1024_S256x1024_0_0 i (runs i v6 v13 0x00000000#32) (k0_cond6 i = 1#1)
      arg7 arg8 arg9 arg11 arg12 arg13 arg16 harg16 arg17 harg17 arg18 (k0_pay33 i v6 v13) (k0_pay34 i v6 v13)
      k0_pay36 k0_pay37 (k0_pay38 i) κ := rfl

/-- The second pass: 128 rows from row 256. -/
theorem st4_eq : st4 i arg7 arg8 arg9 arg11 arg12 arg13 arg16 harg16 arg17 harg17 arg18 v6 v13 κ =
    pass 128 256 inb_S1024x1024_S1024x128_0_256 inb_S1024x1024_S128x1024_256_0 h_S1024x128 h_S128x1024
      packedbf16_S1024x1024_S1024x128_0_256 packedbf16_S1024x1024_S128x1024_256_0 i (runs i v6 v13 0x43800000#32) (k0_cond11 i = 1#1)
      arg7 arg8 arg9 arg11 arg12 arg13 arg16 harg16 arg17 harg17 arg18 (k0_pay40 i v6 v13) (k0_pay41 i v6 v13)
      k0_pay43 k0_pay44 (k0_pay45 i) κ := rfl

/-- The third pass: 384 rows from row 384. -/
theorem st5_eq : st5 i arg7 arg8 arg9 arg11 arg12 arg13 arg16 harg16 arg17 harg17 arg18 v6 v13 κ =
    pass 384 384 inb_S1024x1024_S1024x384_0_384 inb_S1024x1024_S384x1024_384_0 h_S1024x384 h_S384x1024
      packedbf16_S1024x1024_S1024x384_0_384 packedbf16_S1024x1024_S384x1024_384_0 i (runs i v6 v13 0x43C00000#32) (k0_cond16 i = 1#1)
      arg7 arg8 arg9 arg11 arg12 arg13 arg16 harg16 arg17 harg17 arg18 (k0_pay2 (k0_pay29 i v6) (k0_pay30 i v13))
      (k0_pay3 (k0_pay29 i v6) (k0_pay30 i v13)) k0_pay5 k0_pay6 (k0_pay7 (BitVec.ofNat 32 (i 1).val) lanes) κ := rfl

/-- The fourth pass: 256 rows from row 768. -/
theorem st6_eq : st6 i arg7 arg8 arg9 arg11 arg12 arg13 arg16 harg16 arg17 harg17 arg18 v6 v13 κ =
    pass 256 768 inb_S1024x1024_S1024x256_0_768 inb_S1024x1024_S256x1024_768_0 h_S1024x256 h_S256x1024
      packedbf16_S1024x1024_S1024x256_0_768 packedbf16_S1024x1024_S256x1024_768_0 i (runs i v6 v13 0x44400000#32) (k0_cond21 i = 1#1)
      arg7 arg8 arg9 arg11 arg12 arg13 arg16 harg16 arg17 harg17 arg18 (k0_pay9 (k0_pay29 i v6) (k0_pay30 i v13))
      (k0_pay10 (k0_pay29 i v6) (k0_pay30 i v13)) k0_pay12 k0_pay13 (k0_pay14 (BitVec.ofNat 32 (i 1).val) lanes) κ := rfl
end

end Cert.KernelIdeal.Gen

end
-- ==== Proof.Pass.lean ====
module

public import proofs.«01_k».proof.Proof.Cut
public import Idealize.ShloMosaic.Lib.VecWindow

/-!
One pass over the expert's rows, run at a grid point of the first half of the hidden width and at one of the
last half: what it leaves in the one-hot buffer, the gathered rows, the partial products and the result.
-/

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-- No variants are in play. -/
abbrev 𝒱₀ : Variants := Variants.none

/-- The contents after a block is written when `run` holds. -/
def put {s : Shape} {e : EltTy} (M : Memref sig .tc .vmem s e) (run : Prop) [Decidable run] (r : Rect s)
    (w : r.shape.Idx → Elt F e) (f : M.view.ty.Contents (Elt F)) : M.view.ty.Contents (Elt F) :=
  if run then M.view.writes (Elt F) f [⟨r, w⟩] else f

/-- A load of the rectangle last written reads what was written. -/
theorem readAt_own {sg : RefSig} {k : Kind} {sp : Space} {s : Shape} {e : EltTy} (v : View sg k sp s e)
    (r : Rect s) (w : r.shape.Idx → Elt F e) (f : v.ty.Contents (Elt F)) (L : List (View.Piece (Elt F) s e)) :
    v.readAt (Elt F) r.toLoadRect (v.writes (Elt F) f (⟨r, w⟩ :: L)) = w :=
  funext fun x => View.read_writes_cons_emb v f r w L x

/-- A buffer last written as a whole reads what was written. -/
theorem read_whole {sg : RefSig} {k : Kind} {sp : Space} {s : Shape} {e : EltTy} (v : View sg k sp s e)
    {off : Fin s.rank → ℕ} (inb : ∀ a, off a + s.size a ≤ s.size a) (w : s.Idx → Elt F e) (f : v.ty.Contents (Elt F))
    (L : List (View.Piece (Elt F) s e)) :
    v.read (Elt F) (v.writes (Elt F) f (⟨Rect.unit off s.size inb, w⟩ :: L)) = w :=
  (View.readAt_full v _ inb).symm.trans (readAt_own v (Rect.unit off s.size inb) w f L)

/-- A load of a rectangle that one axis tells apart from the rectangle written reads what was there before. -/
theorem readAt_apart {sg : RefSig} {k : Kind} {sp : Space} {s : Shape} {e : EltTy} (v : View sg k sp s e)
    (r r' : Rect s) (w : r.shape.Idx → Elt F e) (f : v.ty.Contents (Elt F)) (a : Fin s.rank)
    (hst : r.stride a = 1) (hst' : r'.stride a = 1)
    (h : r'.off a + r'.size a ≤ r.off a ∨ r.off a + r.size a ≤ r'.off a) :
    v.readAt (Elt F) r'.toLoadRect (v.writes (Elt F) f [⟨r, w⟩]) = v.readAt (Elt F) r'.toLoadRect f :=
  funext fun x => View.read_writes_cons_miss_of_axis v f ⟨r, w⟩ [] (r'.idx x) a (r.off a) (r.size a) rfl hst rfl (by
    have hx : (r'.idx x a).val = r'.off a + r'.stride a * (x a).val := rfl
    have hlt : (x a).val < r'.size a := (x a).isLt
    rw [hx, hst']
    omega)

/-- The whole-buffer rectangle of the token block. -/
abbrev fullR : Rect S1024x1024 := Rect.unit (s := S1024x1024) ![0, 0] S1024x1024.size inb_S1024x1024_S1024x1024_0_0

section
variable {c : Dev nD} {cap first : ℕ}
    {hc : ColIn cap first} {hr : RowIn cap first}
    {hcn : 0 < (ColS cap).numel} {hrn : 0 < (RowS cap).numel}
    {pk16 : (colR cap first hc).PackedRows (EltTy.packing .bf16)} {pk17 : (rowR cap first hr).PackedRows (EltTy.packing .bf16)}
    {i : grid0.Coords} {run last : Prop} [Decidable run] [Decidable last]
    {arg7 : Memref sig .tc .vmem S1x1024x1408 .bf16} {arg8 : Memref sig .tc .vmem S1x1024x1408 .bf16} {arg9 : Memref sig .tc .vmem S1x1408x1024 .bf16}
    {arg11 : Memref sig .tc .vmem S1024x1024 .f32} {arg12 : Memref sig .tc .vmem S1024x1024 .bf16}
    {arg13 : Memref sig .tc .vmem S1024x128 .f32}
    {arg16 : Memref sig .tc .vmem S1024x1024 .bf16} {harg16 : arg16.IsWhole}
    {arg17 : Memref sig .tc .vmem S1024x1024 .bf16} {harg17 : arg17.IsWhole}
    {arg18 : Memref sig .tc .vmem S1024x1024 .f32}
    {payC : FVec F (ColS cap) .bf16} {payH : Vec F S1024x1024 .bf16 → FVec F (RowS cap) .bf16}
    {payP : Vec F (RowS cap) .bf16 → Vec F S1x1024x1408 .bf16 → Vec F S1x1024x1408 .bf16 → Vec F S1x1408x1024 .bf16 → FVec F (RowS cap) .f32}
    {payA : Vec F (RowS cap) .bf16 → Vec F S1x1024x1408 .bf16 → Vec F S1x1024x1408 .bf16 → Vec F S1x1408x1024 .bf16 → Vec F (RowS cap) .f32 → FVec F (RowS cap) .f32}
    {payY : Vec F (RowS cap) .f32 → Vec F (ColS cap) .bf16 → Vec F S1024x128 .f32 → Vec F S1024x1024 .f32 → FVec F S1024x1024 .f32}
    {q7 q8 q9 : PosShare TreeShare}
    {f7 : Buf (Elt F) (arg7.view.loc (c : Thread nD τ))} {f8 : Buf (Elt F) (arg8.view.loc (c : Thread nD τ))}
    {f9 : Buf (Elt F) (arg9.view.loc (c : Thread nD τ))} {f11 : Buf (Elt F) (arg11.view.loc (c : Thread nD τ))}
    {f12 : Buf (Elt F) (arg12.view.loc (c : Thread nD τ))} {f13 : Buf (Elt F) (arg13.view.loc (c : Thread nD τ))}
    {f16 : Buf (Elt F) (arg16.view.loc (c : Thread nD τ))} {f17 : Buf (Elt F) (arg17.view.loc (c : Thread nD τ))}
    {f18 : Buf (Elt F) (arg18.view.loc (c : Thread nD τ))}

/-- A pass at the first half: the one-hot block, the gathered rows and their partial product are written. -/
theorem pass_first {R : Type} {Q : R → sProp 𝕄} {κ : Prog (TpuEff nD τ sig (Elt F) Λ₀ .tc) R} (hF : isFirst i) (hL : ¬ isLater i) (hl : ¬ last) :
    iprop((arg7.view.loc (c : Thread nD τ) ↦{q7} f7) ∗ (arg8.view.loc (c : Thread nD τ) ↦{q8} f8)
      ∗ (arg9.view.loc (c : Thread nD τ) ↦{q9} f9) ∗ (arg12.view.loc (c : Thread nD τ) ↦{fullShare} f12)
      ∗ (arg16.view.loc (c : Thread nD τ) ↦{fullShare} f16) ∗ (arg17.view.loc (c : Thread nD τ) ↦{fullShare} f17)
      ∗ (arg18.view.loc (c : Thread nD τ) ↦{fullShare} f18)) ⊢
    iprop((iprop((arg7.view.loc (c : Thread nD τ) ↦{q7} f7) ∗ (arg8.view.loc (c : Thread nD τ) ↦{q8} f8)
      ∗ (arg9.view.loc (c : Thread nD τ) ↦{q9} f9) ∗ (arg12.view.loc (c : Thread nD τ) ↦{fullShare} f12)
      ∗ (arg16.view.loc (c : Thread nD τ) ↦{fullShare} put arg16 run (colR cap first hc) payC f16)
      ∗ (arg17.view.loc (c : Thread nD τ) ↦{fullShare} put arg17 run (rowR cap first hr) (payH (arg12.view.read (Elt F) f12)) f17)
      ∗ (arg18.view.loc (c : Thread nD τ) ↦{fullShare} put arg18 run (rowR cap first hr)
          (payP (payH (arg12.view.read (Elt F) f12)) (arg7.view.read (Elt F) f7) (arg8.view.read (Elt F) f8) (arg9.view.read (Elt F) f9)) f18))
        -∗ wp frame (wpE (defs₀ (F := F)) 𝒱₀ (c : Thread nD τ) none) Set.univ κ Q)
      -∗ wp frame (wpE (defs₀ (F := F)) 𝒱₀ (c : Thread nD τ) none) Set.univ
        (pass cap first hc hr hcn hrn pk16 pk17 i run last arg7 arg8 arg9 arg11 arg12 arg13 arg16 harg16 arg17 harg17 arg18
          payC payH payP payA payY κ) Q) := by
  iintro ⟨H7, H8, H9, H12, H16, H17, H18⟩ Hκ
  unfold put
  by_cases hrun : run
  · sl_exec
    delta pass_first.sl.H17_1
    rw [if_pos hrun, if_pos hrun, if_pos hrun, readAt_own, View.readAt_full arg12.view f12, View.readAt_full arg7.view f7,
      View.readAt_full arg8.view f8, View.readAt_full arg9.view f9]
    iapply Hκ
    isplitl [H7]; · iexact H7
    isplitl [H8]; · iexact H8
    isplitl [H9]; · iexact H9
    isplitl [H12]; · iexact H12
    isplitl [H16]; · iexact H16
    isplitl [H17]; · iexact H17
    iexact H18
  · sl_exec
    iapply Hκ
    simp only [if_neg hrun]
    isplitl [H7]; · iexact H7
    isplitl [H8]; · iexact H8
    isplitl [H9]; · iexact H9
    isplitl [H12]; · iexact H12
    isplitl [H16]; · iexact H16
    isplitl [H17]; · iexact H17
    iexact H18

/-- A pass at the last half: the product is added to the rows' partial products, and the rows go back to the tokens. -/
theorem pass_last {R : Type} {Q : R → sProp 𝕄} {κ : Prog (TpuEff nD τ sig (Elt F) Λ₀ .tc) R}
    (hF : ¬ isFirst i) (hL : isLater i) (hl : last) :
    iprop((arg7.view.loc (c : Thread nD τ) ↦{q7} f7) ∗ (arg8.view.loc (c : Thread nD τ) ↦{q8} f8)
      ∗ (arg9.view.loc (c : Thread nD τ) ↦{q9} f9) ∗ (arg11.view.loc (c : Thread nD τ) ↦{fullShare} f11)
      ∗ (arg13.view.loc (c : Thread nD τ) ↦{fullShare} f13)
      ∗ (arg16.view.loc (c : Thread nD τ) ↦{fullShare} f16) ∗ (arg17.view.loc (c : Thread nD τ) ↦{fullShare} f17)
      ∗ (arg18.view.loc (c : Thread nD τ) ↦{fullShare} f18)) ⊢
    iprop((iprop(∃ g11 : Buf (Elt F) (arg11.view.loc (c : Thread nD τ)), ∃ g18 : Buf (Elt F) (arg18.view.loc (c : Thread nD τ)),
      ⌜(∀ r' : Rect S1024x1024, r'.stride 0 = 1 → (r'.off 0 + r'.size 0 ≤ first ∨ first + cap ≤ r'.off 0) →
          arg18.view.readAt (Elt F) r'.toLoadRect g18 = arg18.view.readAt (Elt F) r'.toLoadRect f18)
        ∧ arg11.view.read (Elt F) g11 = if run then
          payY (payA (arg17.view.readAt (Elt F) (rowR cap first hr).toLoadRect f17) (arg7.view.read (Elt F) f7)
              (arg8.view.read (Elt F) f8) (arg9.view.read (Elt F) f9) (arg18.view.readAt (Elt F) (rowR cap first hr).toLoadRect f18))
            (arg16.view.readAt (Elt F) (colR cap first hc).toLoadRect f16) (arg13.view.read (Elt F) f13) (arg11.view.read (Elt F) f11)
          else arg11.view.read (Elt F) f11⌝
      ∗ (arg7.view.loc (c : Thread nD τ) ↦{q7} f7) ∗ (arg8.view.loc (c : Thread nD τ) ↦{q8} f8)
      ∗ (arg9.view.loc (c : Thread nD τ) ↦{q9} f9) ∗ (arg11.view.loc (c : Thread nD τ) ↦{fullShare} g11)
      ∗ (arg13.view.loc (c : Thread nD τ) ↦{fullShare} f13)
      ∗ (arg16.view.loc (c : Thread nD τ) ↦{fullShare} f16) ∗ (arg17.view.loc (c : Thread nD τ) ↦{fullShare} f17)
      ∗ (arg18.view.loc (c : Thread nD τ) ↦{fullShare} g18))
        -∗ wp frame (wpE (defs₀ (F := F)) 𝒱₀ (c : Thread nD τ) none) Set.univ κ Q)
      -∗ wp frame (wpE (defs₀ (F := F)) 𝒱₀ (c : Thread nD τ) none) Set.univ
        (pass cap first hc hr hcn hrn pk16 pk17 i run last arg7 arg8 arg9 arg11 arg12 arg13 arg16 harg16 arg17 harg17 arg18
          payC payH payP payA payY κ) Q) := by
  iintro ⟨H7, H8, H9, H11, H13, H16, H17, H18⟩ Hκ
  by_cases hrun : run
  · sl_exec
    delta pass_last.sl.H18_1
    rw [readAt_own, View.readAt_full arg13.view f13, View.readAt_full arg11.view f11, View.readAt_full arg7.view f7,
      View.readAt_full arg8.view f8, View.readAt_full arg9.view f9]
    iapply Hκ
    iexists _; iexists _
    isplitr; swap
    · isplitl [H7]; · iexact H7
      isplitl [H8]; · iexact H8
      isplitl [H9]; · iexact H9
      isplitl [H11]; · iexact H11
      isplitl [H13]; · iexact H13
      isplitl [H16]; · iexact H16
      isplitl [H17]; · iexact H17
      iexact H18
    ipureintro
    rw [if_pos hrun]
    refine ⟨fun r' hs ha => readAt_apart _ _ _ _ _ 0 rfl hs ha, ?_⟩
    rw [read_whole]
  · sl_exec
    iapply Hκ
    iexists f11; iexists f18
    isplitr; swap
    · isplitl [H7]; · iexact H7
      isplitl [H8]; · iexact H8
      isplitl [H9]; · iexact H9
      isplitl [H11]; · iexact H11
      isplitl [H13]; · iexact H13
      isplitl [H16]; · iexact H16
      isplitl [H17]; · iexact H17
      iexact H18
    ipureintro
    rw [if_neg hrun]
    exact ⟨fun _ _ _ => rfl, rfl⟩

end

end Cert.Proof.Moe

end
-- ==== Proof.Body.lean ====
module

public import proofs.«01_k».proof.Proof.Pass

/-!
The body at one grid point, from its stretches: the routing of a tile, a half of the expert's hidden width over the
four passes, and the closing normalisation.
-/

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-! ## The tables a tile's routing leaves -/

section
variable (x : Vec F S1024x1024 .f32) (g : Vec F S1x1024 .f32) (rt : Vec F S1024x128 .f32) (rb : Vec F S1x128 .f32)

/-- The tile's gates: each token's two softmax weights at its two experts' lanes. -/
def gateT : Vec F S1024x128 .f32 := k0_pay25 (k0_pay18 (F := F)) (k0_pay19 x g rt rb) (k0_pay20 x g rt rb) (k0_pay21 x g rt rb)
/-- The tile's membership: one at a token's two experts' lanes. -/
def membT : Vec F S1024x128 .f32 := k0_pay27 (k0_pay18 (F := F)) (k0_pay19 x g rt rb) (k0_pay21 x g rt rb)
/-- The tile's ranks: how many earlier tokens an expert's lane has. -/
def rankT : Vec F S1024x128 .f32 :=
  k0_pay28 (k0_pay26 (k0_pay18 (F := F)) (k0_pay19 x g rt rb) (k0_pay21 x g rt rb)) (iota .tc S1024x1024 32 [0] iota_S1024x1024_d0_w32)
end

/-- The four passes' conditions, at the routing tables. -/
abbrev run1 (i : grid0.Coords) (v6 v13 : Vec F S1024x128 .f32) : Prop := runs i v6 v13 0x00000000#32
abbrev run2 (i : grid0.Coords) (v6 v13 : Vec F S1024x128 .f32) : Prop := runs i v6 v13 0x43800000#32
abbrev run3 (i : grid0.Coords) (v6 v13 : Vec F S1024x128 .f32) : Prop := runs i v6 v13 0x43C00000#32
abbrev run4 (i : grid0.Coords) (v6 v13 : Vec F S1024x128 .f32) : Prop := runs i v6 v13 0x44400000#32

/-- What a pass at the first half leaves in its blocks of the three buffers, when it runs. -/
def Left {cap first : ℕ} (hc : ColIn cap first) (hr : RowIn cap first) (run : Prop) (M16 : Memref sig .tc .vmem S1024x1024 .bf16)
    (M17 : Memref sig .tc .vmem S1024x1024 .bf16) (M18 : Memref sig .tc .vmem S1024x1024 .f32) (payC : FVec F (ColS cap) .bf16)
    (hc0 : FVec F (RowS cap) .bf16) (part : FVec F (RowS cap) .f32)
    (f16 : M16.view.ty.Contents (Elt F)) (f17 : M17.view.ty.Contents (Elt F)) (f18 : M18.view.ty.Contents (Elt F)) : Prop :=
  run → M16.view.readAt (Elt F) (colR cap first hc).toLoadRect f16 = payC
    ∧ M17.view.readAt (Elt F) (rowR cap first hr).toLoadRect f17 = hc0
    ∧ M18.view.readAt (Elt F) (rowR cap first hr).toLoadRect f18 = part

section
variable (i : grid0.Coords) (v6 v13 : Vec F S1024x128 .f32) (h : Vec F S1024x1024 .bf16)
    (wg wu : Vec F S1x1024x1408 .bf16) (wd : Vec F S1x1408x1024 .bf16)
    (M16 : Memref sig .tc .vmem S1024x1024 .bf16) (M17 : Memref sig .tc .vmem S1024x1024 .bf16) (M18 : Memref sig .tc .vmem S1024x1024 .f32)
    (f16 : M16.view.ty.Contents (Elt F)) (f17 : M17.view.ty.Contents (Elt F)) (f18 : M18.view.ty.Contents (Elt F))

/-- What pass 1 leaves at the first half. -/
def Left1 : Prop := Left inb_S1024x1024_S1024x256_0_0 inb_S1024x1024_S256x1024_0_0 (run1 i v6 v13) M16 M17 M18
  (k0_pay33 i v6 v13) (k0_pay34 i v6 v13 h) (k0_pay36 (k0_pay34 i v6 v13 h) wg wu wd) f16 f17 f18
/-- What pass 2 leaves at the first half. -/
def Left2 : Prop := Left inb_S1024x1024_S1024x128_0_256 inb_S1024x1024_S128x1024_256_0 (run2 i v6 v13) M16 M17 M18
  (k0_pay40 i v6 v13) (k0_pay41 i v6 v13 h) (k0_pay43 (k0_pay41 i v6 v13 h) wg wu wd) f16 f17 f18
/-- What pass 3 leaves at the first half. -/
def Left3 : Prop := Left inb_S1024x1024_S1024x384_0_384 inb_S1024x1024_S384x1024_384_0 (run3 i v6 v13) M16 M17 M18
  (k0_pay2 (k0_pay29 i v6) (k0_pay30 i v13)) (k0_pay3 (k0_pay29 i v6) (k0_pay30 i v13) h) (k0_pay5 (k0_pay3 (k0_pay29 i v6) (k0_pay30 i v13) h) wg wu wd) f16 f17 f18
/-- What pass 4 leaves at the first half. -/
def Left4 : Prop := Left inb_S1024x1024_S1024x256_0_768 inb_S1024x1024_S256x1024_768_0 (run4 i v6 v13) M16 M17 M18
  (k0_pay9 (k0_pay29 i v6) (k0_pay30 i v13)) (k0_pay10 (k0_pay29 i v6) (k0_pay30 i v13) h) (k0_pay12 (k0_pay10 (k0_pay29 i v6) (k0_pay30 i v13) h) wg wu wd) f16 f17 f18

/-- What the four passes leave at the first half. -/
def AllLeft : Prop := Left1 i v6 v13 h wg wu wd M16 M17 M18 f16 f17 f18 ∧ Left2 i v6 v13 h wg wu wd M16 M17 M18 f16 f17 f18
  ∧ Left3 i v6 v13 h wg wu wd M16 M17 M18 f16 f17 f18 ∧ Left4 i v6 v13 h wg wu wd M16 M17 M18 f16 f17 f18
end

section
variable (i : grid0.Coords) (v6 v13 : Vec F S1024x128 .f32) (h : Vec F S1024x1024 .bf16)
    (wg0 wu0 : Vec F S1x1024x1408 .bf16) (wd0 : Vec F S1x1408x1024 .bf16)
    (wg wu : Vec F S1x1024x1408 .bf16) (wd : Vec F S1x1408x1024 .bf16) (gate : Vec F S1024x128 .f32) (y : Vec F S1024x1024 .f32)

/-- The tokens after pass 1's rows have come back to them. -/
def back1 : Vec F S1024x1024 .f32 := if run1 i v6 v13 then
  k0_pay38 i (k0_pay37 (k0_pay34 i v6 v13 h) wg wu wd (k0_pay36 (k0_pay34 i v6 v13 h) wg0 wu0 wd0)) (k0_pay33 i v6 v13) gate y else y
/-- The tokens after pass 2's rows have come back to them. -/
def back2 : Vec F S1024x1024 .f32 := if run2 i v6 v13 then
  k0_pay45 i (k0_pay44 (k0_pay41 i v6 v13 h) wg wu wd (k0_pay43 (k0_pay41 i v6 v13 h) wg0 wu0 wd0)) (k0_pay40 i v6 v13) gate y else y
/-- The tokens after pass 3's rows have come back to them. -/
def back3 : Vec F S1024x1024 .f32 := if run3 i v6 v13 then
  k0_pay7 (BitVec.ofNat 32 (i 1).val) lanes (k0_pay6 (k0_pay3 (k0_pay29 i v6) (k0_pay30 i v13) h) wg wu wd (k0_pay5 (k0_pay3 (k0_pay29 i v6) (k0_pay30 i v13) h) wg0 wu0 wd0)) (k0_pay2 (k0_pay29 i v6) (k0_pay30 i v13)) gate y else y
/-- The tokens after pass 4's rows have come back to them. -/
def back4 : Vec F S1024x1024 .f32 := if run4 i v6 v13 then
  k0_pay14 (BitVec.ofNat 32 (i 1).val) lanes (k0_pay13 (k0_pay10 (k0_pay29 i v6) (k0_pay30 i v13) h) wg wu wd (k0_pay12 (k0_pay10 (k0_pay29 i v6) (k0_pay30 i v13) h) wg0 wu0 wd0)) (k0_pay9 (k0_pay29 i v6) (k0_pay30 i v13)) gate y else y
/-- The tokens after an expert's four passes. -/
def backAll : Vec F S1024x1024 .f32 := (back4 i v6 v13 h wg0 wu0 wd0 wg wu wd gate (back3 i v6 v13 h wg0 wu0 wd0 wg wu wd gate (back2 i v6 v13 h wg0 wu0 wd0 wg wu wd gate (back1 i v6 v13 h wg0 wu0 wd0 wg wu wd gate y))))
end

/-- A load of the block just put reads what was put. -/
theorem readAt_put_own {s : Shape} {e : EltTy} (M : Memref sig .tc .vmem s e) (run : Prop) [Decidable run] (r : Rect s)
    (w : r.shape.Idx → Elt F e) (f : M.view.ty.Contents (Elt F)) (h : run) :
    M.view.readAt (Elt F) r.toLoadRect (put M run r w f) = w := by
  unfold put
  rw [if_pos h]
  exact readAt_own _ _ _ _ _

/-- A load of a block apart from the one put reads what was there before. -/
theorem readAt_put_apart {s : Shape} {e : EltTy} (M : Memref sig .tc .vmem s e) (run : Prop) [Decidable run] (r r' : Rect s)
    (w : r.shape.Idx → Elt F e) (f : M.view.ty.Contents (Elt F)) (a : Fin s.rank)
    (hst : r.stride a = 1) (hst' : r'.stride a = 1) (h : r'.off a + r'.size a ≤ r.off a ∨ r.off a + r.size a ≤ r'.off a) :
    M.view.readAt (Elt F) r'.toLoadRect (put M run r w f) = M.view.readAt (Elt F) r'.toLoadRect f := by
  unfold put
  split
  · exact readAt_apart _ _ _ _ _ a hst hst' h
  · rfl

/-- Two choices on one condition agree when their first branches agree where the condition holds. -/
theorem if_congr' {α : Sort*} (p : Prop) [Decidable p] (a b d : α) (_ : True) (h : p → a = b) :
    (if p then a else d) = (if p then b else d) := by
  split
  · exact h ‹_›
  · rfl

section
variable {c : Dev nD} {i : grid0.Coords}
    {arg3 : Memref sig .tc .vmem S1024x1024 .f32} {harg3 : arg3.IsWhole}
    {arg4 : Memref sig .tc .vmem S1x1024 .f32} {harg4 : arg4.IsWhole}
    {arg5 : Memref sig .tc .vmem S1024x128 .f32} {harg5 : arg5.IsWhole}
    {arg6 : Memref sig .tc .vmem S1x128 .f32} {harg6 : arg6.IsWhole}
    {arg7 : Memref sig .tc .vmem S1x1024x1408 .bf16} {harg7 : arg7.IsWhole}
    {arg8 : Memref sig .tc .vmem S1x1024x1408 .bf16} {harg8 : arg8.IsWhole}
    {arg9 : Memref sig .tc .vmem S1x1408x1024 .bf16} {harg9 : arg9.IsWhole}
    {arg10 : Memref sig .tc .vmem S1x1024 .f32} {harg10 : arg10.IsWhole}
    {arg11 : Memref sig .tc .vmem S1024x1024 .f32} {harg11 : arg11.IsWhole}
    {arg12 : Memref sig .tc .vmem S1024x1024 .bf16} {harg12 : arg12.IsWhole}
    {arg13 : Memref sig .tc .vmem S1024x128 .f32} {harg13 : arg13.IsWhole}
    {arg14 : Memref sig .tc .vmem S1024x128 .f32} {harg14 : arg14.IsWhole}
    {arg15 : Memref sig .tc .vmem S1024x128 .f32} {harg15 : arg15.IsWhole}
    {arg16 : Memref sig .tc .vmem S1024x1024 .bf16} {harg16 : arg16.IsWhole}
    {arg17 : Memref sig .tc .vmem S1024x1024 .bf16} {harg17 : arg17.IsWhole}
    {arg18 : Memref sig .tc .vmem S1024x1024 .f32} {harg18 : arg18.IsWhole}
    {f3 : Buf (Elt F) (arg3.view.loc (c : Thread nD τ))}
    {f4 : Buf (Elt F) (arg4.view.loc (c : Thread nD τ))}
    {f5 : Buf (Elt F) (arg5.view.loc (c : Thread nD τ))}
    {f6 : Buf (Elt F) (arg6.view.loc (c : Thread nD τ))}
    {f7 : Buf (Elt F) (arg7.view.loc (c : Thread nD τ))}
    {f8 : Buf (Elt F) (arg8.view.loc (c : Thread nD τ))}
    {f9 : Buf (Elt F) (arg9.view.loc (c : Thread nD τ))}
    {f10 : Buf (Elt F) (arg10.view.loc (c : Thread nD τ))}
    {f11 : Buf (Elt F) (arg11.view.loc (c : Thread nD τ))}
    {f12 : Buf (Elt F) (arg12.view.loc (c : Thread nD τ))}
    {f13 : Buf (Elt F) (arg13.view.loc (c : Thread nD τ))}
    {f14 : Buf (Elt F) (arg14.view.loc (c : Thread nD τ))}
    {f15 : Buf (Elt F) (arg15.view.loc (c : Thread nD τ))}
    {f16 : Buf (Elt F) (arg16.view.loc (c : Thread nD τ))}
    {f17 : Buf (Elt F) (arg17.view.loc (c : Thread nD τ))}
    {f18 : Buf (Elt F) (arg18.view.loc (c : Thread nD τ))}

/-- The routing of a tile, at its first point. -/
theorem route_spec {Q : PUnit → sProp 𝕄} {κ : Prog (TpuEff nD τ sig (Elt F) Λ₀ .tc) PUnit} (hC : k0_cond1 i = 1#1) :
    iprop((arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)) ⊢
    iprop((iprop(∃ g11 : Buf (Elt F) (arg11.view.loc (c : Thread nD τ)), ∃ g12 : Buf (Elt F) (arg12.view.loc (c : Thread nD τ)),
      ∃ g13 : Buf (Elt F) (arg13.view.loc (c : Thread nD τ)), ∃ g14 : Buf (Elt F) (arg14.view.loc (c : Thread nD τ)),
      ∃ g15 : Buf (Elt F) (arg15.view.loc (c : Thread nD τ)),
      ⌜(arg11.view.read (Elt F) g11) = (arg3.view.read (Elt F) f3) ∧ (arg12.view.read (Elt F) g12) = k0_pay17 (arg3.view.read (Elt F) f3) (arg4.view.read (Elt F) f4)
        ∧ (arg13.view.read (Elt F) g13) = gateT (arg3.view.read (Elt F) f3) (arg4.view.read (Elt F) f4) (arg5.view.read (Elt F) f5) (arg6.view.read (Elt F) f6) ∧ (arg14.view.read (Elt F) g14) = membT (arg3.view.read (Elt F) f3) (arg4.view.read (Elt F) f4) (arg5.view.read (Elt F) f5) (arg6.view.read (Elt F) f6) ∧ (arg15.view.read (Elt F) g15) = rankT (arg3.view.read (Elt F) f3) (arg4.view.read (Elt F) f4) (arg5.view.read (Elt F) f5) (arg6.view.read (Elt F) f6)⌝
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg11.view.loc (c : Thread nD τ) ↦{fullShare} g11)
      ∗ (arg12.view.loc (c : Thread nD τ) ↦{fullShare} g12)
      ∗ (arg13.view.loc (c : Thread nD τ) ↦{fullShare} g13)
      ∗ (arg14.view.loc (c : Thread nD τ) ↦{fullShare} g14)
      ∗ (arg15.view.loc (c : Thread nD τ) ↦{fullShare} g15))
        -∗ wp frame (wpE (defs₀ (F := F)) 𝒱₀ (c : Thread nD τ) none) Set.univ (κ) Q)
      -∗ wp frame (wpE (defs₀ (F := F)) 𝒱₀ (c : Thread nD τ) none) Set.univ (st1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 κ) Q) := by
  iintro ⟨H3, H4, H5, H6, H11, H12, H13, H14, H15⟩ Hκ
  unfold st1
  sl_exec_parts
  iapply Hκ
  iexists _; iexists _; iexists _; iexists _; iexists _
  isplitr; swap
  · isplitl [H3]; · iexact H3
    isplitl [H4]; · iexact H4
    isplitl [H5]; · iexact H5
    isplitl [H6]; · iexact H6
    isplitl [H11]; · iexact H11
    isplitl [H12]; · iexact H12
    isplitl [H13]; · iexact H13
    isplitl [H14]; · iexact H14
    iexact H15
  ipureintro
  delta route_spec.sl.r route_spec.sl.r_1 route_spec.sl.r_2 route_spec.sl.r_3 route_spec.sl.v128 route_spec.sl.H12_1
  rw [View.readAt_full arg3.view f3]
  simp only [View.readAt_full arg4.view f4, View.readAt_full arg5.view f5, View.readAt_full arg6.view f6]
  refine ⟨read_whole _ _ _ _ _, read_whole _ _ _ _ _, read_whole _ _ _ _ _, read_whole _ _ _ _ _, read_whole _ _ _ _ _⟩

/-- Past a tile's first point the routing is skipped. -/
theorem route_skip {Q : PUnit → sProp 𝕄} {κ : Prog (TpuEff nD τ sig (Elt F) Λ₀ .tc) PUnit} (hC : ¬ k0_cond1 i = 1#1) :
    wp frame (wpE (defs₀ (F := F)) 𝒱₀ (c : Thread nD τ) none) Set.univ (κ) Q ⊢ wp frame (wpE (defs₀ (F := F)) 𝒱₀ (c : Thread nD τ) none) Set.univ (st1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 κ) Q := by
  iintro Hκ
  unfold st1
  sl_exec
  iexact Hκ

/-- The closing normalisation, at the last half of a tile's last expert. -/
theorem close_spec {Q : PUnit → sProp 𝕄} {κ : Prog (TpuEff nD τ sig (Elt F) Λ₀ .tc) PUnit} (hC : k0_cond22 i = 1#1) :
    iprop((arg10.view.loc (c : Thread nD τ) ↦{fullShare} f10)
      ∗ (arg11.view.loc (c : Thread nD τ) ↦{fullShare} f11)) ⊢
    iprop((iprop(∃ g11 : Buf (Elt F) (arg11.view.loc (c : Thread nD τ)), ⌜(arg11.view.read (Elt F) g11) = k0_pay15 (arg11.view.read (Elt F) f11) (arg10.view.read (Elt F) f10)⌝
      ∗ (arg10.view.loc (c : Thread nD τ) ↦{fullShare} f10)
      ∗ (arg11.view.loc (c : Thread nD τ) ↦{fullShare} g11)) -∗ wp frame (wpE (defs₀ (F := F)) 𝒱₀ (c : Thread nD τ) none) Set.univ (κ) Q)
      -∗ wp frame (wpE (defs₀ (F := F)) 𝒱₀ (c : Thread nD τ) none) Set.univ (st7 i arg10 arg11 κ) Q) := by
  iintro ⟨H10, H11⟩ Hκ
  unfold st7
  sl_exec
  iapply Hκ
  iexists _
  isplitr; swap
  · isplitl [H10]; · iexact H10
    iexact H11
  ipureintro
  rw [View.readAt_full arg11.view f11, View.readAt_full arg10.view f10]
  exact read_whole _ _ _ _ _

/-- Elsewhere there is no closing normalisation. -/
theorem close_skip {Q : PUnit → sProp 𝕄} {κ : Prog (TpuEff nD τ sig (Elt F) Λ₀ .tc) PUnit} (hC : ¬ k0_cond22 i = 1#1) :
    wp frame (wpE (defs₀ (F := F)) 𝒱₀ (c : Thread nD τ) none) Set.univ (κ) Q ⊢ wp frame (wpE (defs₀ (F := F)) 𝒱₀ (c : Thread nD τ) none) Set.univ (st7 i arg10 arg11 κ) Q := by
  iintro Hκ
  unfold st7
  sl_exec
  iexact Hκ

/-- The two loads of the routing tables. -/
theorem tables_spec {Q : PUnit → sProp 𝕄} {κ : Vec F S1024x128 .f32 → Vec F S1024x128 .f32 → Prog (TpuEff nD τ sig (Elt F) Λ₀ .tc) PUnit} :
    iprop((arg14.view.loc (c : Thread nD τ) ↦{fullShare} f14)
      ∗ (arg15.view.loc (c : Thread nD τ) ↦{fullShare} f15)) ⊢
    iprop((iprop((arg14.view.loc (c : Thread nD τ) ↦{fullShare} f14)
      ∗ (arg15.view.loc (c : Thread nD τ) ↦{fullShare} f15)) -∗ wp frame (wpE (defs₀ (F := F)) 𝒱₀ (c : Thread nD τ) none) Set.univ (κ (arg14.view.read (Elt F) f14) (arg15.view.read (Elt F) f15)) Q) -∗ wp frame (wpE (defs₀ (F := F)) 𝒱₀ (c : Thread nD τ) none) Set.univ (st2 arg14 arg15 κ) Q) := by
  iintro ⟨H14, H15⟩ Hκ
  unfold st2
  sl_exec
  rw [View.readAt_full arg14.view f14, View.readAt_full arg15.view f15]
  iapply Hκ
  isplitl [H14]; · iexact H14
  iexact H15

/-- The first half of an expert's hidden width: the four passes fill their blocks of the three buffers. -/
theorem first_half {Q : PUnit → sProp 𝕄} (hF : isFirst i) (hL : ¬ isLater i) (h6 : ¬ k0_cond6 i = 1#1) (h11 : ¬ k0_cond11 i = 1#1) (h16 : ¬ k0_cond16 i = 1#1) (h21 : ¬ k0_cond21 i = 1#1) :
    iprop((arg7.view.loc (c : Thread nD τ) ↦{fullShare} f7)
      ∗ (arg8.view.loc (c : Thread nD τ) ↦{fullShare} f8)
      ∗ (arg9.view.loc (c : Thread nD τ) ↦{fullShare} f9)
      ∗ (arg12.view.loc (c : Thread nD τ) ↦{fullShare} f12)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} f18)) ⊢
    iprop((iprop(∃ g16 : Buf (Elt F) (arg16.view.loc (c : Thread nD τ)), ∃ g17 : Buf (Elt F) (arg17.view.loc (c : Thread nD τ)),
      ∃ g18 : Buf (Elt F) (arg18.view.loc (c : Thread nD τ)),
      ⌜AllLeft i (arg14.view.read (Elt F) f14) (arg15.view.read (Elt F) f15) (arg12.view.read (Elt F) f12) (arg7.view.read (Elt F) f7) (arg8.view.read (Elt F) f8) (arg9.view.read (Elt F) f9) arg16 arg17 arg18 g16 g17 g18⌝
      ∗ (arg7.view.loc (c : Thread nD τ) ↦{fullShare} f7)
      ∗ (arg8.view.loc (c : Thread nD τ) ↦{fullShare} f8)
      ∗ (arg9.view.loc (c : Thread nD τ) ↦{fullShare} f9)
      ∗ (arg12.view.loc (c : Thread nD τ) ↦{fullShare} f12)
      ∗ (arg14.view.loc (c : Thread nD τ) ↦{fullShare} f14)
      ∗ (arg15.view.loc (c : Thread nD τ) ↦{fullShare} f15)
      ∗ (arg16.view.loc (c : Thread nD τ) ↦{fullShare} g16)
      ∗ (arg17.view.loc (c : Thread nD τ) ↦{fullShare} g17)
      ∗ (arg18.view.loc (c : Thread nD τ) ↦{fullShare} g18)) -∗ wp frame (wpE (defs₀ (F := F)) 𝒱₀ (c : Thread nD τ) none) Set.univ (st6.tail i arg10 arg11) Q)
      -∗ wp frame (wpE (defs₀ (F := F)) 𝒱₀ (c : Thread nD τ) none) Set.univ (st1.tail i arg7 arg8 arg9 arg10 arg11 arg12 arg13 arg14 arg15 arg16 harg16 arg17 harg17 arg18) Q) := by
  iintro ⟨H7, H8, H9, H12, H14, H15, H16, H17, H18⟩ Hκ
  rw [st2.eq]
  iapply tables_spec $$ [H14 H15]
  · isplitl [H14]; · iexact H14
    iexact H15
  iintro ⟨H14, H15⟩
  rw [st3.eq, st3_eq]
  iapply (pass_first hF hL h6) $$ [H7 H8 H9 H12 H16 H17 H18]
  · isplitl [H7]; · iexact H7
    isplitl [H8]; · iexact H8
    isplitl [H9]; · iexact H9
    isplitl [H12]; · iexact H12
    isplitl [H16]; · iexact H16
    isplitl [H17]; · iexact H17
    iexact H18
  iintro ⟨H7, H8, H9, H12, H16, H17, H18⟩
  rw [st4.eq, st4_eq]
  iapply (pass_first hF hL h11) $$ [H7 H8 H9 H12 H16 H17 H18]
  · isplitl [H7]; · iexact H7
    isplitl [H8]; · iexact H8
    isplitl [H9]; · iexact H9
    isplitl [H12]; · iexact H12
    isplitl [H16]; · iexact H16
    isplitl [H17]; · iexact H17
    iexact H18
  iintro ⟨H7, H8, H9, H12, H16, H17, H18⟩
  rw [st5.eq, st5_eq]
  iapply (pass_first hF hL h16) $$ [H7 H8 H9 H12 H16 H17 H18]
  · isplitl [H7]; · iexact H7
    isplitl [H8]; · iexact H8
    isplitl [H9]; · iexact H9
    isplitl [H12]; · iexact H12
    isplitl [H16]; · iexact H16
    isplitl [H17]; · iexact H17
    iexact H18
  iintro ⟨H7, H8, H9, H12, H16, H17, H18⟩
  rw [st6.eq, st6_eq]
  iapply (pass_first hF hL h21) $$ [H7 H8 H9 H12 H16 H17 H18]
  · isplitl [H7]; · iexact H7
    isplitl [H8]; · iexact H8
    isplitl [H9]; · iexact H9
    isplitl [H12]; · iexact H12
    isplitl [H16]; · iexact H16
    isplitl [H17]; · iexact H17
    iexact H18
  iintro ⟨H7, H8, H9, H12, H16, H17, H18⟩
  iapply Hκ
  iexists _; iexists _; iexists _
  isplitr; swap
  · isplitl [H7]; · iexact H7
    isplitl [H8]; · iexact H8
    isplitl [H9]; · iexact H9
    isplitl [H12]; · iexact H12
    isplitl [H14]; · iexact H14
    isplitl [H15]; · iexact H15
    isplitl [H16]; · iexact H16
    isplitl [H17]; · iexact H17
    iexact H18
  ipureintro
  refine ⟨fun h => ⟨?_, ?_, ?_⟩, fun h => ⟨?_, ?_, ?_⟩, fun h => ⟨?_, ?_, ?_⟩, fun h => ⟨?_, ?_, ?_⟩⟩
  · exact (readAt_put_apart _ _ _ _ _ _ 1 rfl rfl (by decide)).trans ((readAt_put_apart _ _ _ _ _ _ 1 rfl rfl (by decide)).trans ((readAt_put_apart _ _ _ _ _ _ 1 rfl rfl (by decide)).trans (readAt_put_own _ _ _ _ _ h)))
  · exact (readAt_put_apart _ _ _ _ _ _ 0 rfl rfl (by decide)).trans ((readAt_put_apart _ _ _ _ _ _ 0 rfl rfl (by decide)).trans ((readAt_put_apart _ _ _ _ _ _ 0 rfl rfl (by decide)).trans (readAt_put_own _ _ _ _ _ h)))
  · exact (readAt_put_apart _ _ _ _ _ _ 0 rfl rfl (by decide)).trans ((readAt_put_apart _ _ _ _ _ _ 0 rfl rfl (by decide)).trans ((readAt_put_apart _ _ _ _ _ _ 0 rfl rfl (by decide)).trans (readAt_put_own _ _ _ _ _ h)))
  · exact (readAt_put_apart _ _ _ _ _ _ 1 rfl rfl (by decide)).trans ((readAt_put_apart _ _ _ _ _ _ 1 rfl rfl (by decide)).trans (readAt_put_own _ _ _ _ _ h))
  · exact (readAt_put_apart _ _ _ _ _ _ 0 rfl rfl (by decide)).trans ((readAt_put_apart _ _ _ _ _ _ 0 rfl rfl (by decide)).trans (readAt_put_own _ _ _ _ _ h))
  · exact (readAt_put_apart _ _ _ _ _ _ 0 rfl rfl (by decide)).trans ((readAt_put_apart _ _ _ _ _ _ 0 rfl rfl (by decide)).trans (readAt_put_own _ _ _ _ _ h))
  · exact (readAt_put_apart _ _ _ _ _ _ 1 rfl rfl (by decide)).trans (readAt_put_own _ _ _ _ _ h)
  · exact (readAt_put_apart _ _ _ _ _ _ 0 rfl rfl (by decide)).trans (readAt_put_own _ _ _ _ _ h)
  · exact (readAt_put_apart _ _ _ _ _ _ 0 rfl rfl (by decide)).trans (readAt_put_own _ _ _ _ _ h)
  · exact (readAt_put_own _ _ _ _ _ h)
  · exact (readAt_put_own _ _ _ _ _ h)
  · exact (readAt_put_own _ _ _ _ _ h)

/-- The last half of an expert's hidden width: the four passes return their rows to the tokens. -/
theorem last_half {Q : PUnit → sProp 𝕄} {h : Vec F S1024x1024 .bf16}
    {wg0 wu0 : Vec F S1x1024x1408 .bf16} {wd0 : Vec F S1x1408x1024 .bf16}
    (hF : ¬ isFirst i) (hL : isLater i) (h6 : k0_cond6 i = 1#1) (h11 : k0_cond11 i = 1#1) (h16 : k0_cond16 i = 1#1) (h21 : k0_cond21 i = 1#1)
    (hA : AllLeft i (arg14.view.read (Elt F) f14) (arg15.view.read (Elt F) f15) h wg0 wu0 wd0 arg16 arg17 arg18 f16 f17 f18) :
    iprop((arg7.view.loc (c : Thread nD τ) ↦{fullShare} f7)
      ∗ (arg8.view.loc (c : Thread nD τ) ↦{fullShare} f8)
      ∗ (arg9.view.loc (c : Thread nD τ) ↦{fullShare} f9)
      ∗ (arg11.view.loc (c : Thread nD τ) ↦{fullShare} f11)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} f18)) ⊢
    iprop((iprop(∃ g11 : Buf (Elt F) (arg11.view.loc (c : Thread nD τ)), ∃ g18 : Buf (Elt F) (arg18.view.loc (c : Thread nD τ)),
      ⌜(arg11.view.read (Elt F) g11) = backAll i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) f11)⌝
      ∗ (arg7.view.loc (c : Thread nD τ) ↦{fullShare} f7)
      ∗ (arg8.view.loc (c : Thread nD τ) ↦{fullShare} f8)
      ∗ (arg9.view.loc (c : Thread nD τ) ↦{fullShare} f9)
      ∗ (arg11.view.loc (c : Thread nD τ) ↦{fullShare} g11)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} g18)) -∗ wp frame (wpE (defs₀ (F := F)) 𝒱₀ (c : Thread nD τ) none) Set.univ (st6.tail i arg10 arg11) Q)
      -∗ wp frame (wpE (defs₀ (F := F)) 𝒱₀ (c : Thread nD τ) none) Set.univ (st1.tail i arg7 arg8 arg9 arg10 arg11 arg12 arg13 arg14 arg15 arg16 harg16 arg17 harg17 arg18) Q) := by
  obtain ⟨A1, A2, A3, A4⟩ := hA
  iintro ⟨H7, H8, H9, H11, H13, H14, H15, H16, H17, H18⟩ Hκ
  rw [st2.eq]
  iapply tables_spec $$ [H14 H15]
  · isplitl [H14]; · iexact H14
    iexact H15
  iintro ⟨H14, H15⟩
  rw [st3.eq, st3_eq]
  iapply (pass_last hF hL h6) $$ [H7 H8 H9 H11 H13 H16 H17 H18]
  · isplitl [H7]; · iexact H7
    isplitl [H8]; · iexact H8
    isplitl [H9]; · iexact H9
    isplitl [H11]; · iexact H11
    isplitl [H13]; · iexact H13
    isplitl [H16]; · iexact H16
    isplitl [H17]; · iexact H17
    iexact H18
  iintro ⟨%g1, %e1, %E1, H7, H8, H9, H11, H13, H16, H17, H18⟩
  rw [st4.eq, st4_eq]
  iapply (pass_last hF hL h11) $$ [H7 H8 H9 H11 H13 H16 H17 H18]
  · isplitl [H7]; · iexact H7
    isplitl [H8]; · iexact H8
    isplitl [H9]; · iexact H9
    isplitl [H11]; · iexact H11
    isplitl [H13]; · iexact H13
    isplitl [H16]; · iexact H16
    isplitl [H17]; · iexact H17
    iexact H18
  iintro ⟨%g2, %e2, %E2, H7, H8, H9, H11, H13, H16, H17, H18⟩
  rw [st5.eq, st5_eq]
  iapply (pass_last hF hL h16) $$ [H7 H8 H9 H11 H13 H16 H17 H18]
  · isplitl [H7]; · iexact H7
    isplitl [H8]; · iexact H8
    isplitl [H9]; · iexact H9
    isplitl [H11]; · iexact H11
    isplitl [H13]; · iexact H13
    isplitl [H16]; · iexact H16
    isplitl [H17]; · iexact H17
    iexact H18
  iintro ⟨%g3, %e3, %E3, H7, H8, H9, H11, H13, H16, H17, H18⟩
  rw [st6.eq, st6_eq]
  iapply (pass_last hF hL h21) $$ [H7 H8 H9 H11 H13 H16 H17 H18]
  · isplitl [H7]; · iexact H7
    isplitl [H8]; · iexact H8
    isplitl [H9]; · iexact H9
    isplitl [H11]; · iexact H11
    isplitl [H13]; · iexact H13
    isplitl [H16]; · iexact H16
    isplitl [H17]; · iexact H17
    iexact H18
  iintro ⟨%g4, %e4, %E4, H7, H8, H9, H11, H13, H16, H17, H18⟩
  iapply Hκ
  iexists _; iexists _
  isplitr; swap
  · isplitl [H7]; · iexact H7
    isplitl [H8]; · iexact H8
    isplitl [H9]; · iexact H9
    isplitl [H11]; · iexact H11
    isplitl [H13]; · iexact H13
    isplitl [H14]; · iexact H14
    isplitl [H15]; · iexact H15
    isplitl [H16]; · iexact H16
    isplitl [H17]; · iexact H17
    iexact H18
  ipureintro
  have B1 : arg11.view.read (Elt F) g1 = back1 i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) f11) := by
    refine E1.2.trans ?_
    unfold back1
    refine if_congr' _ _ _ _ trivial fun hr => ?_
    obtain ⟨c16, c17, c18⟩ := A1 hr
    rw [c16, c17, (rfl : arg18.view.readAt (Elt F) (rowR 256 0 inb_S1024x1024_S256x1024_0_0).toLoadRect f18 = _), c18]
  have B2 : arg11.view.read (Elt F) g2 = back2 i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) g1) := by
    refine E2.2.trans ?_
    unfold back2
    refine if_congr' _ _ _ _ trivial fun hr => ?_
    obtain ⟨c16, c17, c18⟩ := A2 hr
    rw [c16, c17, ((E1.1 (rowR 128 256 inb_S1024x1024_S128x1024_256_0) rfl (by decide)) : arg18.view.readAt (Elt F) (rowR 128 256 inb_S1024x1024_S128x1024_256_0).toLoadRect e1 = _), c18]
  have B3 : arg11.view.read (Elt F) g3 = back3 i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) g2) := by
    refine E3.2.trans ?_
    unfold back3
    refine if_congr' _ _ _ _ trivial fun hr => ?_
    obtain ⟨c16, c17, c18⟩ := A3 hr
    rw [c16, c17, (((E2.1 (rowR 384 384 inb_S1024x1024_S384x1024_384_0) rfl (by decide)).trans (E1.1 (rowR 384 384 inb_S1024x1024_S384x1024_384_0) rfl (by decide))) : arg18.view.readAt (Elt F) (rowR 384 384 inb_S1024x1024_S384x1024_384_0).toLoadRect e2 = _), c18]
  have B4 : arg11.view.read (Elt F) g4 = back4 i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) g3) := by
    refine E4.2.trans ?_
    unfold back4
    refine if_congr' _ _ _ _ trivial fun hr => ?_
    obtain ⟨c16, c17, c18⟩ := A4 hr
    rw [c16, c17, (((E3.1 (rowR 256 768 inb_S1024x1024_S256x1024_768_0) rfl (by decide)).trans ((E2.1 (rowR 256 768 inb_S1024x1024_S256x1024_768_0) rfl (by decide)).trans (E1.1 (rowR 256 768 inb_S1024x1024_S256x1024_768_0) rfl (by decide)))) : arg18.view.readAt (Elt F) (rowR 256 768 inb_S1024x1024_S256x1024_768_0).toLoadRect e3 = _), c18]
  unfold backAll
  rw [B4, B3, B2, B1]

end

end Cert.Proof.Moe

end
-- ==== Proof.Steps.lean ====
module

public import proofs.«01_k».proof.Proof.Body

/-!
The body at one grid point, whole: a tile's first point, a later first half, a last half, a tile's last point.
-/

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

section
variable {c : Dev nD} {i : grid0.Coords}
    {arg3 : Memref sig .tc .vmem S1024x1024 .f32} {harg3 : arg3.IsWhole}
    {arg4 : Memref sig .tc .vmem S1x1024 .f32} {harg4 : arg4.IsWhole}
    {arg5 : Memref sig .tc .vmem S1024x128 .f32} {harg5 : arg5.IsWhole}
    {arg6 : Memref sig .tc .vmem S1x128 .f32} {harg6 : arg6.IsWhole}
    {arg7 : Memref sig .tc .vmem S1x1024x1408 .bf16} {harg7 : arg7.IsWhole}
    {arg8 : Memref sig .tc .vmem S1x1024x1408 .bf16} {harg8 : arg8.IsWhole}
    {arg9 : Memref sig .tc .vmem S1x1408x1024 .bf16} {harg9 : arg9.IsWhole}
    {arg10 : Memref sig .tc .vmem S1x1024 .f32} {harg10 : arg10.IsWhole}
    {arg11 : Memref sig .tc .vmem S1024x1024 .f32} {harg11 : arg11.IsWhole}
    {arg12 : Memref sig .tc .vmem S1024x1024 .bf16} {harg12 : arg12.IsWhole}
    {arg13 : Memref sig .tc .vmem S1024x128 .f32} {harg13 : arg13.IsWhole}
    {arg14 : Memref sig .tc .vmem S1024x128 .f32} {harg14 : arg14.IsWhole}
    {arg15 : Memref sig .tc .vmem S1024x128 .f32} {harg15 : arg15.IsWhole}
    {arg16 : Memref sig .tc .vmem S1024x1024 .bf16} {harg16 : arg16.IsWhole}
    {arg17 : Memref sig .tc .vmem S1024x1024 .bf16} {harg17 : arg17.IsWhole}
    {arg18 : Memref sig .tc .vmem S1024x1024 .f32} {harg18 : arg18.IsWhole}
    {f3 : Buf (Elt F) (arg3.view.loc (c : Thread nD τ))}
    {f4 : Buf (Elt F) (arg4.view.loc (c : Thread nD τ))}
    {f5 : Buf (Elt F) (arg5.view.loc (c : Thread nD τ))}
    {f6 : Buf (Elt F) (arg6.view.loc (c : Thread nD τ))}
    {f7 : Buf (Elt F) (arg7.view.loc (c : Thread nD τ))}
    {f8 : Buf (Elt F) (arg8.view.loc (c : Thread nD τ))}
    {f9 : Buf (Elt F) (arg9.view.loc (c : Thread nD τ))}
    {f10 : Buf (Elt F) (arg10.view.loc (c : Thread nD τ))}
    {f11 : Buf (Elt F) (arg11.view.loc (c : Thread nD τ))}
    {f12 : Buf (Elt F) (arg12.view.loc (c : Thread nD τ))}
    {f13 : Buf (Elt F) (arg13.view.loc (c : Thread nD τ))}
    {f14 : Buf (Elt F) (arg14.view.loc (c : Thread nD τ))}
    {f15 : Buf (Elt F) (arg15.view.loc (c : Thread nD τ))}
    {f16 : Buf (Elt F) (arg16.view.loc (c : Thread nD τ))}
    {f17 : Buf (Elt F) (arg17.view.loc (c : Thread nD τ))}
    {f18 : Buf (Elt F) (arg18.view.loc (c : Thread nD τ))}

/-- A tile's first point: the tile is routed, and the first expert's first half is done. -/
theorem start_point {K : PUnit → sProp 𝕄} (h1 : k0_cond1 i = 1#1) (hF : isFirst i) (hL : ¬ isLater i) (h6 : ¬ k0_cond6 i = 1#1) (h11 : ¬ k0_cond11 i = 1#1) (h16 : ¬ k0_cond16 i = 1#1) (h21 : ¬ k0_cond21 i = 1#1) (hc : ¬ k0_cond22 i = 1#1) :
    iprop((arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} f18)) ⊢
    iprop((iprop(∃ g11 : Buf (Elt F) (arg11.view.loc (c : Thread nD τ)), ∃ g12 : Buf (Elt F) (arg12.view.loc (c : Thread nD τ)), ∃ g13 : Buf (Elt F) (arg13.view.loc (c : Thread nD τ)), ∃ g14 : Buf (Elt F) (arg14.view.loc (c : Thread nD τ)), ∃ g15 : Buf (Elt F) (arg15.view.loc (c : Thread nD τ)), ∃ g16 : Buf (Elt F) (arg16.view.loc (c : Thread nD τ)), ∃ g17 : Buf (Elt F) (arg17.view.loc (c : Thread nD τ)), ∃ g18 : Buf (Elt F) (arg18.view.loc (c : Thread nD τ)),
      ⌜(arg11.view.read (Elt F) g11) = (arg3.view.read (Elt F) f3) ∧ (arg12.view.read (Elt F) g12) = k0_pay17 (arg3.view.read (Elt F) f3) (arg4.view.read (Elt F) f4) ∧ (arg13.view.read (Elt F) g13) = gateT (arg3.view.read (Elt F) f3) (arg4.view.read (Elt F) f4) (arg5.view.read (Elt F) f5) (arg6.view.read (Elt F) f6)
        ∧ (arg14.view.read (Elt F) g14) = membT (arg3.view.read (Elt F) f3) (arg4.view.read (Elt F) f4) (arg5.view.read (Elt F) f5) (arg6.view.read (Elt F) f6) ∧ (arg15.view.read (Elt F) g15) = rankT (arg3.view.read (Elt F) f3) (arg4.view.read (Elt F) f4) (arg5.view.read (Elt F) f5) (arg6.view.read (Elt F) f6)
        ∧ AllLeft i (membT (arg3.view.read (Elt F) f3) (arg4.view.read (Elt F) f4) (arg5.view.read (Elt F) f5) (arg6.view.read (Elt F) f6)) (rankT (arg3.view.read (Elt F) f3) (arg4.view.read (Elt F) f4) (arg5.view.read (Elt F) f5) (arg6.view.read (Elt F) f6)) (k0_pay17 (arg3.view.read (Elt F) f3) (arg4.view.read (Elt F) f4)) (arg7.view.read (Elt F) f7) (arg8.view.read (Elt F) f8) (arg9.view.read (Elt F) f9) arg16 arg17 arg18 g16 g17 g18⌝
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} g11)
      ∗ (arg12.view.loc (c : Thread nD τ) ↦{fullShare} g12)
      ∗ (arg13.view.loc (c : Thread nD τ) ↦{fullShare} g13)
      ∗ (arg14.view.loc (c : Thread nD τ) ↦{fullShare} g14)
      ∗ (arg15.view.loc (c : Thread nD τ) ↦{fullShare} g15)
      ∗ (arg16.view.loc (c : Thread nD τ) ↦{fullShare} g16)
      ∗ (arg17.view.loc (c : Thread nD τ) ↦{fullShare} g17)
      ∗ (arg18.view.loc (c : Thread nD τ) ↦{fullShare} g18)) -∗ K ⟨⟩)
      -∗ wp frame (wpE (defs₀ (F := F)) 𝒱₀ (c : Thread nD τ) none) Set.univ (cc0_moe_sparse i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  iintro ⟨H3, H4, H5, H6, H7, H8, H9, H10, H11, H12, H13, H14, H15, H16, H17, H18⟩ Hκ
  rw [cc0_moe_sparse_eq_skeleton, body.eq_at, st1.eq]
  iapply (route_spec h1) $$ [H3 H4 H5 H6 H11 H12 H13 H14 H15]
  · isplitl [H3]; · iexact H3
    isplitl [H4]; · iexact H4
    isplitl [H5]; · iexact H5
    isplitl [H6]; · iexact H6
    isplitl [H11]; · iexact H11
    isplitl [H12]; · iexact H12
    isplitl [H13]; · iexact H13
    isplitl [H14]; · iexact H14
    iexact H15
  iintro ⟨%g11, %g12, %g13, %g14, %g15, %E, H3, H4, H5, H6, H11, H12, H13, H14, H15⟩
  iapply (first_half hF hL h6 h11 h16 h21) $$ [H7 H8 H9 H12 H14 H15 H16 H17 H18]
  · isplitl [H7]; · iexact H7
    isplitl [H8]; · iexact H8
    isplitl [H9]; · iexact H9
    isplitl [H12]; · iexact H12
    isplitl [H14]; · iexact H14
    isplitl [H15]; · iexact H15
    isplitl [H16]; · iexact H16
    isplitl [H17]; · iexact H17
    iexact H18
  iintro ⟨%g16, %g17, %g18, %E', H7, H8, H9, H12, H14, H15, H16, H17, H18⟩
  rw [st7.eq]
  iapply (close_skip hc)
  unfold st7.tail
  sl_step
  iapply Hκ
  iexists _
  iexists _
  iexists _
  iexists _
  iexists _
  iexists _
  iexists _
  iexists _
  isplitr; swap
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  ipureintro
  obtain ⟨E1, E2, E3, E4, E5⟩ := E
  rw [E2, E4, E5] at E'
  exact ⟨E1, E2, E3, E4, E5, E'⟩

/-- A later expert's first half. -/
theorem first_point {K : PUnit → sProp 𝕄} (h1 : ¬ k0_cond1 i = 1#1) (hF : isFirst i) (hL : ¬ isLater i) (h6 : ¬ k0_cond6 i = 1#1) (h11 : ¬ k0_cond11 i = 1#1) (h16 : ¬ k0_cond16 i = 1#1) (h21 : ¬ k0_cond21 i = 1#1) (hc : ¬ k0_cond22 i = 1#1) :
    iprop((arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} f18)) ⊢
    iprop((iprop(∃ g16 : Buf (Elt F) (arg16.view.loc (c : Thread nD τ)), ∃ g17 : Buf (Elt F) (arg17.view.loc (c : Thread nD τ)), ∃ g18 : Buf (Elt F) (arg18.view.loc (c : Thread nD τ)),
      ⌜AllLeft i (arg14.view.read (Elt F) f14) (arg15.view.read (Elt F) f15) (arg12.view.read (Elt F) f12) (arg7.view.read (Elt F) f7) (arg8.view.read (Elt F) f8) (arg9.view.read (Elt F) f9) arg16 arg17 arg18 g16 g17 g18⌝
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} g16)
      ∗ (arg17.view.loc (c : Thread nD τ) ↦{fullShare} g17)
      ∗ (arg18.view.loc (c : Thread nD τ) ↦{fullShare} g18)) -∗ K ⟨⟩)
      -∗ wp frame (wpE (defs₀ (F := F)) 𝒱₀ (c : Thread nD τ) none) Set.univ (cc0_moe_sparse i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  iintro ⟨H3, H4, H5, H6, H7, H8, H9, H10, H11, H12, H13, H14, H15, H16, H17, H18⟩ Hκ
  rw [cc0_moe_sparse_eq_skeleton, body.eq_at, st1.eq]
  iapply (route_skip h1)
  iapply (first_half hF hL h6 h11 h16 h21) $$ [H7 H8 H9 H12 H14 H15 H16 H17 H18]
  · isplitl [H7]; · iexact H7
    isplitl [H8]; · iexact H8
    isplitl [H9]; · iexact H9
    isplitl [H12]; · iexact H12
    isplitl [H14]; · iexact H14
    isplitl [H15]; · iexact H15
    isplitl [H16]; · iexact H16
    isplitl [H17]; · iexact H17
    iexact H18
  iintro ⟨%g16, %g17, %g18, %E', H7, H8, H9, H12, H14, H15, H16, H17, H18⟩
  rw [st7.eq]
  iapply (close_skip hc)
  unfold st7.tail
  sl_step
  iapply Hκ
  iexists _
  iexists _
  iexists _
  isplitr; swap
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  ipureintro
  exact E'

/-- An expert's last half, before the tile's last point. -/
theorem last_point {K : PUnit → sProp 𝕄} {h : Vec F S1024x1024 .bf16} {wg0 wu0 : Vec F S1x1024x1408 .bf16} {wd0 : Vec F S1x1408x1024 .bf16}
    (h1 : ¬ k0_cond1 i = 1#1) (hF : ¬ isFirst i) (hL : isLater i) (h6 : k0_cond6 i = 1#1) (h11 : k0_cond11 i = 1#1) (h16 : k0_cond16 i = 1#1) (h21 : k0_cond21 i = 1#1) (hc : ¬ k0_cond22 i = 1#1)
    (hA : AllLeft i (arg14.view.read (Elt F) f14) (arg15.view.read (Elt F) f15) h wg0 wu0 wd0 arg16 arg17 arg18 f16 f17 f18) :
    iprop((arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} f18)) ⊢
    iprop((iprop(∃ g11 : Buf (Elt F) (arg11.view.loc (c : Thread nD τ)), ∃ g18 : Buf (Elt F) (arg18.view.loc (c : Thread nD τ)),
      ⌜(arg11.view.read (Elt F) g11) = backAll i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) f11)⌝
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} g11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} g18)) -∗ K ⟨⟩)
      -∗ wp frame (wpE (defs₀ (F := F)) 𝒱₀ (c : Thread nD τ) none) Set.univ (cc0_moe_sparse i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  iintro ⟨H3, H4, H5, H6, H7, H8, H9, H10, H11, H12, H13, H14, H15, H16, H17, H18⟩ Hκ
  rw [cc0_moe_sparse_eq_skeleton, body.eq_at, st1.eq]
  iapply (route_skip h1)
  iapply (last_half hF hL h6 h11 h16 h21 hA) $$ [H7 H8 H9 H11 H13 H14 H15 H16 H17 H18]
  · isplitl [H7]; · iexact H7
    isplitl [H8]; · iexact H8
    isplitl [H9]; · iexact H9
    isplitl [H11]; · iexact H11
    isplitl [H13]; · iexact H13
    isplitl [H14]; · iexact H14
    isplitl [H15]; · iexact H15
    isplitl [H16]; · iexact H16
    isplitl [H17]; · iexact H17
    iexact H18
  iintro ⟨%g11, %g18, %E, H7, H8, H9, H11, H13, H14, H15, H16, H17, H18⟩
  rw [st7.eq]
  iapply (close_skip hc)
  unfold st7.tail
  sl_step
  iapply Hκ
  iexists _
  iexists _
  isplitr; swap
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  ipureintro
  exact E

/-- A tile's last point: the last expert's last half, and the closing normalisation. -/
theorem end_point {K : PUnit → sProp 𝕄} {h : Vec F S1024x1024 .bf16} {wg0 wu0 : Vec F S1x1024x1408 .bf16} {wd0 : Vec F S1x1408x1024 .bf16}
    (h1 : ¬ k0_cond1 i = 1#1) (hF : ¬ isFirst i) (hL : isLater i) (h6 : k0_cond6 i = 1#1) (h11 : k0_cond11 i = 1#1) (h16 : k0_cond16 i = 1#1) (h21 : k0_cond21 i = 1#1) (hc : k0_cond22 i = 1#1)
    (hA : AllLeft i (arg14.view.read (Elt F) f14) (arg15.view.read (Elt F) f15) h wg0 wu0 wd0 arg16 arg17 arg18 f16 f17 f18) :
    iprop((arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} f18)) ⊢
    iprop((iprop(∃ g11 : Buf (Elt F) (arg11.view.loc (c : Thread nD τ)), ∃ g18 : Buf (Elt F) (arg18.view.loc (c : Thread nD τ)),
      ⌜(arg11.view.read (Elt F) g11) = k0_pay15 (backAll i (arg14.view.read (Elt F) f14) (arg15.view.read (Elt F) f15) h wg0 wu0 wd0 (arg7.view.read (Elt F) f7) (arg8.view.read (Elt F) f8) (arg9.view.read (Elt F) f9) (arg13.view.read (Elt F) f13) (arg11.view.read (Elt F) f11)) (arg10.view.read (Elt F) f10)⌝
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} g11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (arg17.view.loc (c : Thread nD τ) ↦{fullShare} f17)
      ∗ (arg18.view.loc (c : Thread nD τ) ↦{fullShare} g18)) -∗ K ⟨⟩)
      -∗ wp frame (wpE (defs₀ (F := F)) 𝒱₀ (c : Thread nD τ) none) Set.univ (cc0_moe_sparse i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  iintro ⟨H3, H4, H5, H6, H7, H8, H9, H10, H11, H12, H13, H14, H15, H16, H17, H18⟩ Hκ
  rw [cc0_moe_sparse_eq_skeleton, body.eq_at, st1.eq]
  iapply (route_skip h1)
  iapply (last_half hF hL h6 h11 h16 h21 hA) $$ [H7 H8 H9 H11 H13 H14 H15 H16 H17 H18]
  · isplitl [H7]; · iexact H7
    isplitl [H8]; · iexact H8
    isplitl [H9]; · iexact H9
    isplitl [H11]; · iexact H11
    isplitl [H13]; · iexact H13
    isplitl [H14]; · iexact H14
    isplitl [H15]; · iexact H15
    isplitl [H16]; · iexact H16
    isplitl [H17]; · iexact H17
    iexact H18
  iintro ⟨%g11, %g18, %E, H7, H8, H9, H11, H13, H14, H15, H16, H17, H18⟩
  rw [st7.eq]
  iapply (close_spec hc) $$ [H10 H11]
  · isplitl [H10]; · iexact H10
    iexact H11
  iintro ⟨%g11', %E', H10, H11⟩
  unfold st7.tail
  sl_step
  iapply Hκ
  iexists _
  iexists _
  isplitr; swap
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  ipureintro
  rw [E', E]

end

end Cert.Proof.Moe

end
-- ==== Proof.Run.lean ====
module

public import proofs.«01_k».proof.Proof.Steps
public import Idealize.ShloMosaic.Lib.Pipeline.TableIdle

/-!
The grid run: the pipeline's proof data, the body obligation at every point, the run of the program over any
interpretation of the floats.
-/

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- The body's conditions at a point, by the point's number: tile `t / 16`, expert `t % 16 / 2`, half `t % 2`. -/
theorem conds_at : ∀ t : Fin grid0.N, (k0_cond1 (grid0.coords t) = 1#1 ↔ t.val % 16 = 0)
    ∧ (isFirst (grid0.coords t) ↔ t.val % 2 = 0) ∧ (isLater (grid0.coords t) ↔ t.val % 2 = 1)
    ∧ (k0_cond6 (grid0.coords t) = 1#1 ↔ t.val % 2 = 1) ∧ (k0_cond11 (grid0.coords t) = 1#1 ↔ t.val % 2 = 1)
    ∧ (k0_cond16 (grid0.coords t) = 1#1 ↔ t.val % 2 = 1) ∧ (k0_cond21 (grid0.coords t) = 1#1 ↔ t.val % 2 = 1)
    ∧ (k0_cond22 (grid0.coords t) = 1#1 ↔ t.val % 16 = 15) := by decide +kernel

/-- The output window is not stored to at a later expert's first half. -/
theorem idle_at : ∀ t : Fin grid0.N, cfg0.idle 8 (grid0.coords t) = (decide (t.val % 2 = 0) && !decide (t.val % 16 = 0)) := by
  decide +kernel

/-- The expert of a point. -/
theorem expert_at : ∀ t : Fin grid0.N, (grid0.coords t 1).val = t.val % 16 / 2 := by decide +kernel
/-- The tile of a point. -/
theorem tile_at : ∀ t : Fin grid0.N, (grid0.coords t 0).val = t.val / 16 := by decide +kernel
/-- The half of a point. -/
theorem half_at : ∀ t : Fin grid0.N, (grid0.coords t 2).val = t.val % 2 := by decide +kernel

/-- The first point of a point's tile. -/
def ts (t : Fin grid0.N) : Fin grid0.N := ⟨t.val / 16 * 16, by have := t.isLt; omega⟩

theorem ts_start (t : Fin grid0.N) (h : t.val % 16 = 0) : ts t = t := Fin.ext (by show t.val / 16 * 16 = t.val; omega)
theorem ts_pred (t t' : Fin grid0.N) (h : t'.val + 1 = t.val) (h0 : t.val % 16 ≠ 0) : ts t' = ts t :=
  Fin.ext (by show t'.val / 16 * 16 = t.val / 16 * 16; omega)

/-! ## The tables and the tokens at a point -/

/-- The normalised tokens of a point's tile. -/
def hAt (c : Dev nD) (t : Fin grid0.N) : Vec F S1024x1024 .bf16 := k0_pay17 (iblk m c 0 (ts t)) (iblk m c 1 (ts t))
/-- The gates of a point's tile. -/
def gateAt (c : Dev nD) (t : Fin grid0.N) : Vec F S1024x128 .f32 :=
  gateT (iblk m c 0 (ts t)) (iblk m c 1 (ts t)) (iblk m c 2 (ts t)) (iblk m c 3 (ts t))
/-- The membership of a point's tile. -/
def membAt (c : Dev nD) (t : Fin grid0.N) : Vec F S1024x128 .f32 :=
  membT (iblk m c 0 (ts t)) (iblk m c 1 (ts t)) (iblk m c 2 (ts t)) (iblk m c 3 (ts t))
/-- The ranks of a point's tile. -/
def rankAt (c : Dev nD) (t : Fin grid0.N) : Vec F S1024x128 .f32 :=
  rankT (iblk m c 0 (ts t)) (iblk m c 1 (ts t)) (iblk m c 2 (ts t)) (iblk m c 3 (ts t))

/-- An expert's contribution to the tokens: its last half at `t`, its first half at `t'`. -/
def backAt (c : Dev nD) (t t' : Fin grid0.N) (y : Vec F S1024x1024 .f32) : Vec F S1024x1024 .f32 :=
  backAll (grid0.coords t) (membAt m c t) (rankAt m c t) (hAt m c t) (iblk m c 4 t') (iblk m c 5 t') (iblk m c 6 t')
    (iblk m c 4 t) (iblk m c 5 t) (iblk m c 6 t) (gateAt m c t) y

/-- The output block after each point. -/
def yAt (c : Dev nD) : (n : ℕ) → n < grid0.N → Vec F S1024x1024 .f32
  | 0, h => iblk m c 0 ⟨0, h⟩
  | n + 1, h =>
    if (n + 1) % 16 = 0 then iblk m c 0 ⟨n + 1, h⟩
    else if (n + 1) % 2 = 0 then yAt c n (by omega)
    else if (n + 1) % 16 = 15 then
      k0_pay15 (backAt m c ⟨n + 1, h⟩ ⟨n, by omega⟩ (yAt c n (by omega))) (iblk m c 7 ⟨n + 1, h⟩)
    else backAt m c ⟨n + 1, h⟩ ⟨n, by omega⟩ (yAt c n (by omega))

theorem yAt_start (c : Dev nD) (t : Fin grid0.N) (h : t.val % 16 = 0) : yAt m c t.val t.isLt = iblk m c 0 t := by
  obtain ⟨n, hn⟩ := t
  cases n with
  | zero => rfl
  | succ n => exact if_pos h
theorem yAt_first (c : Dev nD) (t t' : Fin grid0.N) (h' : t'.val + 1 = t.val) (h0 : t.val % 16 ≠ 0) (h : t.val % 2 = 0) :
    yAt m c t.val t.isLt = yAt m c t'.val t'.isLt := by
  obtain ⟨n, hn⟩ := t
  obtain ⟨n', hn'⟩ := t'
  obtain rfl : n' + 1 = n := h'
  exact (if_neg h0).trans (if_pos h)
theorem yAt_last (c : Dev nD) (t t' : Fin grid0.N) (h' : t'.val + 1 = t.val) (h : t.val % 2 = 1) (h15 : t.val % 16 ≠ 15) :
    yAt m c t.val t.isLt = backAt m c t t' (yAt m c t'.val t'.isLt) := by
  obtain ⟨n, hn⟩ := t
  obtain ⟨n', hn'⟩ := t'
  obtain rfl : n' + 1 = n := h'
  exact (if_neg (by simp only at h; omega)).trans ((if_neg (by simp only at h; omega)).trans (if_neg h15))
theorem yAt_end (c : Dev nD) (t t' : Fin grid0.N) (h' : t'.val + 1 = t.val) (h15 : t.val % 16 = 15) :
    yAt m c t.val t.isLt = k0_pay15 (backAt m c t t' (yAt m c t'.val t'.isLt)) (iblk m c 7 t) := by
  obtain ⟨n, hn⟩ := t
  obtain ⟨n', hn'⟩ := t'
  obtain rfl : n' + 1 = n := h'
  exact (if_neg (by simp only at h15; omega)).trans ((if_neg (by simp only at h15; omega)).trans (if_pos h15))

/-! ## The invariant -/

/-- What the scratch buffers hold before point `n`: past a tile's first point the tile's tables, and past a first
    half what its passes left. -/
def Held (c : Dev nD) (n : ℕ) (f12 : (Memref.whole cc0_scratch0).view.ty.Contents (Elt F)) (f13 : (Memref.whole cc0_scratch1).view.ty.Contents (Elt F))
    (f14 : (Memref.whole cc0_scratch2).view.ty.Contents (Elt F)) (f15 : (Memref.whole cc0_scratch3).view.ty.Contents (Elt F))
    (f16 : (Memref.whole cc0_scratch4).view.ty.Contents (Elt F)) (f17 : (Memref.whole cc0_scratch5).view.ty.Contents (Elt F))
    (f18 : (Memref.whole cc0_scratch6).view.ty.Contents (Elt F)) : Prop :=
  ∀ t : Fin grid0.N, t.val + 1 = n → n % 16 ≠ 0 →
    (Memref.whole cc0_scratch0).view.read (Elt F) f12 = hAt m c t ∧ (Memref.whole cc0_scratch1).view.read (Elt F) f13 = gateAt m c t
    ∧ (Memref.whole cc0_scratch2).view.read (Elt F) f14 = membAt m c t ∧ (Memref.whole cc0_scratch3).view.read (Elt F) f15 = rankAt m c t
    ∧ (n % 2 = 1 → AllLeft (grid0.coords t) (membAt m c t) (rankAt m c t) (hAt m c t) (iblk m c 4 t) (iblk m c 5 t) (iblk m c 6 t)
        (Memref.whole cc0_scratch4) (Memref.whole cc0_scratch5) (Memref.whole cc0_scratch6) f16 f17 f18)

/-- The invariant before point `n`. -/
def Inv (c : Dev nD) (n : ℕ) : sProp 𝕄 :=
  iprop(∃ f12 : Buf (Elt F) ((Memref.whole cc0_scratch0).view.loc (c : Thread nD τ)), ∃ f13 : Buf (Elt F) ((Memref.whole cc0_scratch1).view.loc (c : Thread nD τ)), ∃ f14 : Buf (Elt F) ((Memref.whole cc0_scratch2).view.loc (c : Thread nD τ)), ∃ f15 : Buf (Elt F) ((Memref.whole cc0_scratch3).view.loc (c : Thread nD τ)), ∃ f16 : Buf (Elt F) ((Memref.whole cc0_scratch4).view.loc (c : Thread nD τ)), ∃ f17 : Buf (Elt F) ((Memref.whole cc0_scratch5).view.loc (c : Thread nD τ)), ∃ f18 : Buf (Elt F) ((Memref.whole cc0_scratch6).view.loc (c : Thread nD τ)),
    ⌜Held m c n f12 f13 f14 f15 f16 f17 f18⌝
      ∗ ((Memref.whole cc0_scratch0).view.loc (c : Thread nD τ) ↦{fullShare} f12)
      ∗ ((Memref.whole cc0_scratch1).view.loc (c : Thread nD τ) ↦{fullShare} f13)
      ∗ ((Memref.whole cc0_scratch2).view.loc (c : Thread nD τ) ↦{fullShare} f14)
      ∗ ((Memref.whole cc0_scratch3).view.loc (c : Thread nD τ) ↦{fullShare} f15)
      ∗ ((Memref.whole cc0_scratch4).view.loc (c : Thread nD τ) ↦{fullShare} f16)
      ∗ ((Memref.whole cc0_scratch5).view.loc (c : Thread nD τ) ↦{fullShare} f17)
      ∗ ((Memref.whole cc0_scratch6).view.loc (c : Thread nD τ) ↦{fullShare} f18)
      ∗ ∃ r, prngReg c r)

/-! ## The pipeline's proof data -/

/-- The arrays as the region finds them; after the body each input's buffer at its block and the output's at `yAt`;
    the invariant `Inv`; nothing owed; each input at its share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t.val t.isLt
  Φ t := Inv m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The output's buffer is fresh exactly at a tile's first point. -/
theorem fresh_at (n : ℕ) (h : n ≤ cfg0.N) : cfg0.fresh 8 n = decide (n % 16 = 0) :=
  cfg0.fresh_tab 8 (fun n => decide (n % 16 = 0)) rfl (by decide +kernel) n h

/-- Before a point the output's buffer holds what the point before left, past a tile's first point. -/
theorem before0_8 (c : Dev nD) (t t' : Fin grid0.N) (h' : t'.val + 1 = t.val) (h : t.val % 16 ≠ 0) (d) :
    (dats m 0 c).before 8 t d = yAt m c t'.val t'.isLt := by
  have e : (⟨t.val - 1, Nat.lt_of_le_of_lt (Nat.sub_le _ _) t.isLt⟩ : Fin cfg0.N) = t' := Fin.ext (by show t.val - 1 = t'.val; omega)
  rw [(dats m 0 c).before_out_traj 8 rfl (fun _ _ => rfl) ?_ t.val t rfl d, fresh_at _ (Nat.le_of_lt t.isLt),
    if_neg (by simpa using h), e, after0_8]
  intro s hs hi hf
  rw [fresh_at _ (Nat.le_of_lt s.isLt)] at hf
  have hi' := (idle_at s).symm.trans hi
  simp only [Bool.and_eq_true, decide_eq_true_eq, decide_eq_false_iff_not] at hi' hf
  rw [after0_8, after0_8]
  exact yAt_first m c s ⟨s.val - 1, Nat.lt_of_le_of_lt (Nat.sub_le _ _) s.isLt⟩ (by show s.val - 1 + 1 = s.val; omega) hf hi'.1

/-- Holding a whole buffer at a value is holding its cells at contents that read as the value. -/
theorem owns_eq {c : Dev nD} {s : Shape} {e : EltTy} {M : Memref sig .tc .vmem s e} (h : M.IsWhole) (X : s.Idx → Elt F e) :
    (owns (c : Thread nD τ) M fullShare X : sProp 𝕄)
      = iprop(∃ f : Buf (Elt F) (M.view.loc (c : Thread nD τ)), ⌜M.view.read (Elt F) f = X⌝ ∗ (M.view.loc (c : Thread nD τ) ↦{fullShare} f)) := by
  unfold owns
  rw [h.set_eq_univ]

/-- What the passes leave depends on the point only through its expert. -/
theorem allLeft_coords {i i' : grid0.Coords} (e : i 1 = i' 1) {v6 v13 : Vec F S1024x128 .f32} {h : Vec F S1024x1024 .bf16}
    {wg wu : Vec F S1x1024x1408 .bf16} {wd : Vec F S1x1408x1024 .bf16}
    {M16 M17 : Memref sig .tc .vmem S1024x1024 .bf16} {M18 : Memref sig .tc .vmem S1024x1024 .f32}
    {f16 : M16.view.ty.Contents (Elt F)} {f17 : M17.view.ty.Contents (Elt F)} {f18 : M18.view.ty.Contents (Elt F)}
    (A : AllLeft i v6 v13 h wg wu wd M16 M17 M18 f16 f17 f18) : AllLeft i' v6 v13 h wg wu wd M16 M17 M18 f16 f17 f18 := by
  have e29 : k0_pay29 i v6 = k0_pay29 i' v6 := by unfold k0_pay29; rw [e]
  have e30 : k0_pay30 i v13 = k0_pay30 i' v13 := by unfold k0_pay30; rw [e]
  have e31 : k0_pay31 i v6 v13 = k0_pay31 i' v6 v13 := by unfold k0_pay31; rw [e29, e30]
  have e32 : k0_pay32 i v6 v13 = k0_pay32 i' v6 v13 := by unfold k0_pay32; rw [e29, e30]
  have e39 : k0_pay39 i v6 v13 = k0_pay39 i' v6 v13 := by unfold k0_pay39; rw [e29, e30]
  have e33 : k0_pay33 i v6 v13 = k0_pay33 i' v6 v13 := by unfold k0_pay33; rw [e32]
  have e34 : k0_pay34 i v6 v13 = k0_pay34 i' v6 v13 := by unfold k0_pay34; rw [e32]
  have e40 : k0_pay40 i v6 v13 = k0_pay40 i' v6 v13 := by unfold k0_pay40; rw [e39]
  have e41 : k0_pay41 i v6 v13 = k0_pay41 i' v6 v13 := by unfold k0_pay41; rw [e39]
  unfold AllLeft Left1 Left2 Left3 Left4 run1 run2 run3 run4 runs at A ⊢
  rw [e29, e30, e31, e33, e34, e40, e41] at A
  exact A

set_option maxHeartbeats 4000000 in
/-- The body obligation at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = Inv m c (t.val + 1) from rfl, show (dats m 0 c).Φ t.castSucc = Inv m c t.val from rfl,
    show (dats m 0 c).owesAt () t.succ = (dats m 0 c).owesAt () t.castSucc from rfl, after0_0, after0_1, after0_2, after0_3, after0_4, after0_5, after0_6, after0_7, after0_8]
  have G := conds_at t
  have hI : idle0 8 (grid0.coords t) = _ := idle_at t
  simp only [owns_eq (F := F) (c := c) (hstage0_0 (cfg0.slots t 0)),
    owns_eq (F := F) (c := c) (hstage0_1 (cfg0.slots t 1)),
    owns_eq (F := F) (c := c) (hstage0_2 (cfg0.slots t 2)),
    owns_eq (F := F) (c := c) (hstage0_3 (cfg0.slots t 3)),
    owns_eq (F := F) (c := c) (hstage0_4 (cfg0.slots t 4)),
    owns_eq (F := F) (c := c) (hstage0_5 (cfg0.slots t 5)),
    owns_eq (F := F) (c := c) (hstage0_6 (cfg0.slots t 6)),
    owns_eq (F := F) (c := c) (hstage0_7 (cfg0.slots t 7)),
    owns_eq (F := F) (c := c) (hstage0_8 (cfg0.slots t 8))]
  iintro ⟨HI, Ho, ⟨%d0, %f3, %e0, H3⟩, ⟨%d1, %f4, %e1, H4⟩, ⟨%d2, %f5, %e2, H5⟩, ⟨%d3, %f6, %e3, H6⟩, ⟨%d4, %f7, %e4, H7⟩,
    ⟨%d5, %f8, %e5, H8⟩, ⟨%d6, %f9, %e6, H9⟩, ⟨%d7, %f10, %e7, H10⟩, ⟨%d8, %f11, %e8, H11⟩⟩
  unfold Inv
  icases HI with ⟨%f12, %f13, %f14, %f15, %f16, %f17, %f18, %HH, H12, H13, H14, H15, H16, H17, H18, Hp⟩
  by_cases h0 : t.val % 16 = 0
  · rw [show idle0 8 (grid0.coords t) = false from hI.trans (by rw [decide_eq_true h0]; simp)]
    have ets := ts_start t h0
    iapply (start_point (G.1.mpr h0) (G.2.1.mpr (by omega)) (mt G.2.2.1.mp (by omega)) (mt G.2.2.2.1.mp (by omega)) (mt G.2.2.2.2.1.mp (by omega)) (mt G.2.2.2.2.2.1.mp (by omega)) (mt G.2.2.2.2.2.2.1.mp (by omega)) (mt G.2.2.2.2.2.2.2.mp (by omega))) $$ [H3 H4 H5 H6 H7 H8 H9 H10 H11 H12 H13 H14 H15 H16 H17 H18]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro ⟨%g11, %g12, %g13, %g14, %g15, %g16, %g17, %g18, %E, H3, H4, H5, H6, H7, H8, H9, H10, H11, H12, H13, H14, H15, H16, H17, H18⟩
    isplitl [H12 H13 H14 H15 H16 H17 H18 Hp]
    · skip
      iexists _
      iexists _
      iexists _
      iexists _
      iexists _
      iexists _
      iexists _
      isplitr; swap
      · isplitl [H12]; · iexact H12
        isplitl [H13]; · iexact H13
        isplitl [H14]; · iexact H14
        isplitl [H15]; · iexact H15
        isplitl [H16]; · iexact H16
        isplitl [H17]; · iexact H17
        isplitl [H18]; · iexact H18
        iexact Hp
      ipureintro
      intro s hs hne
      obtain rfl : s = t := Fin.ext (by omega)
      rw [e0, e1, e2, e3, e4, e5, e6] at E
      unfold hAt gateAt membAt rankAt
      rw [ts_start s h0]
      exact ⟨E.2.1, E.2.2.1, E.2.2.2.1, E.2.2.2.2.1, fun _ => E.2.2.2.2.2⟩
    isplitl [Ho]; · iexact Ho
    isplitl [H3]
    · iexists _; isplitr; · ipureintro; exact e0
      iexact H3
    isplitl [H4]
    · iexists _; isplitr; · ipureintro; exact e1
      iexact H4
    isplitl [H5]
    · iexists _; isplitr; · ipureintro; exact e2
      iexact H5
    isplitl [H6]
    · iexists _; isplitr; · ipureintro; exact e3
      iexact H6
    isplitl [H7]
    · iexists _; isplitr; · ipureintro; exact e4
      iexact H7
    isplitl [H8]
    · iexists _; isplitr; · ipureintro; exact e5
      iexact H8
    isplitl [H9]
    · iexists _; isplitr; · ipureintro; exact e6
      iexact H9
    isplitl [H10]
    · iexists _; isplitr; · ipureintro; exact e7
      iexact H10
    iexists _; isplitr; swap; · iexact H11
    ipureintro
    exact E.1.trans (e0.trans (yAt_start m c t h0).symm)
  rcases Nat.mod_two_eq_zero_or_one t.val with h2 | h2
  · rw [show idle0 8 (grid0.coords t) = true from hI.trans (by rw [decide_eq_true h2, decide_eq_false h0]; rfl),
      show (win0 8).flush t = false from Bool.eq_false_iff.mpr (mt (flush0_8 t).mp (by omega))]
    obtain ⟨t', h'⟩ : ∃ t' : Fin grid0.N, t'.val + 1 = t.val := ⟨⟨t.val - 1, Nat.lt_of_le_of_lt (Nat.sub_le _ _) t.isLt⟩, by show t.val - 1 + 1 = t.val; omega⟩
    obtain ⟨K1, K2, K3, K4, K5⟩ := HH t' h' h0
    have ets := ts_pred t t' h' h0
    have eh : hAt m c t' = hAt m c t := by unfold hAt; rw [ets]
    have eg : gateAt m c t' = gateAt m c t := by unfold gateAt; rw [ets]
    have em : membAt m c t' = membAt m c t := by unfold membAt; rw [ets]
    have er : rankAt m c t' = rankAt m c t := by unfold rankAt; rw [ets]
    rw [before0_8 m c t t' h' h0] at e8
    rw [eh] at K1; rw [eg] at K2; rw [em] at K3; rw [er] at K4
    iapply (first_point (mt G.1.mp h0) (G.2.1.mpr h2) (mt G.2.2.1.mp (by omega)) (mt G.2.2.2.1.mp (by omega)) (mt G.2.2.2.2.1.mp (by omega)) (mt G.2.2.2.2.2.1.mp (by omega)) (mt G.2.2.2.2.2.2.1.mp (by omega)) (mt G.2.2.2.2.2.2.2.mp (by omega))) $$ [H3 H4 H5 H6 H7 H8 H9 H10 H11 H12 H13 H14 H15 H16 H17 H18]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro ⟨%g16, %g17, %g18, %E, H3, H4, H5, H6, H7, H8, H9, H10, H11, H12, H13, H14, H15, H16, H17, H18⟩
    isplitl [H12 H13 H14 H15 H16 H17 H18 Hp]
    · skip
      iexists _
      iexists _
      iexists _
      iexists _
      iexists _
      iexists _
      iexists _
      isplitr; swap
      · isplitl [H12]; · iexact H12
        isplitl [H13]; · iexact H13
        isplitl [H14]; · iexact H14
        isplitl [H15]; · iexact H15
        isplitl [H16]; · iexact H16
        isplitl [H17]; · iexact H17
        isplitl [H18]; · iexact H18
        iexact Hp
      ipureintro
      intro s hs hne
      obtain rfl : s = t := Fin.ext (by omega)
      rw [K1, K3, K4, e4, e5, e6] at E
      exact ⟨K1, K2, K3, K4, fun _ => E⟩
    isplitl [Ho]; · iexact Ho
    isplitl [H3]
    · iexists _; isplitr; · ipureintro; exact e0
      iexact H3
    isplitl [H4]
    · iexists _; isplitr; · ipureintro; exact e1
      iexact H4
    isplitl [H5]
    · iexists _; isplitr; · ipureintro; exact e2
      iexact H5
    isplitl [H6]
    · iexists _; isplitr; · ipureintro; exact e3
      iexact H6
    isplitl [H7]
    · iexists _; isplitr; · ipureintro; exact e4
      iexact H7
    isplitl [H8]
    · iexists _; isplitr; · ipureintro; exact e5
      iexact H8
    isplitl [H9]
    · iexists _; isplitr; · ipureintro; exact e6
      iexact H9
    isplitl [H10]
    · iexists _; isplitr; · ipureintro; exact e7
      iexact H10
    iexists d8; iexists _; isplitr; swap; · iexact H11
    ipureintro
    rw [before0_8 m c t t' h' h0]; exact e8
  rw [show idle0 8 (grid0.coords t) = false from hI.trans (by rw [decide_eq_false (by omega : ¬ t.val % 2 = 0)]; rfl)]
  by_cases h15 : t.val % 16 = 15
  · skip
    obtain ⟨t', h'⟩ : ∃ t' : Fin grid0.N, t'.val + 1 = t.val := ⟨⟨t.val - 1, Nat.lt_of_le_of_lt (Nat.sub_le _ _) t.isLt⟩, by show t.val - 1 + 1 = t.val; omega⟩
    obtain ⟨K1, K2, K3, K4, K5⟩ := HH t' h' h0
    have ets := ts_pred t t' h' h0
    have eh : hAt m c t' = hAt m c t := by unfold hAt; rw [ets]
    have eg : gateAt m c t' = gateAt m c t := by unfold gateAt; rw [ets]
    have em : membAt m c t' = membAt m c t := by unfold membAt; rw [ets]
    have er : rankAt m c t' = rankAt m c t := by unfold rankAt; rw [ets]
    rw [before0_8 m c t t' h' h0] at e8
    rw [eh] at K1; rw [eg] at K2; rw [em] at K3; rw [er] at K4
    have hA : AllLeft (grid0.coords t) ((Memref.whole cc0_scratch2).view.read (Elt F) f14) ((Memref.whole cc0_scratch3).view.read (Elt F) f15)
        (hAt m c t) (iblk m c 4 t') (iblk m c 5 t') (iblk m c 6 t') (Memref.whole cc0_scratch4) (Memref.whole cc0_scratch5)
        (Memref.whole cc0_scratch6) f16 f17 f18 := by
      rw [K3, K4, ← em, ← er, ← eh]
      exact allLeft_coords (Fin.ext ((expert_at t').trans ((by omega : t'.val % 16 / 2 = t.val % 16 / 2).trans (expert_at t).symm))) (K5 h2)
    iapply (end_point (mt G.1.mp h0) (mt G.2.1.mp (by omega)) (G.2.2.1.mpr h2) (G.2.2.2.1.mpr h2) (G.2.2.2.2.1.mpr h2) (G.2.2.2.2.2.1.mpr h2) (G.2.2.2.2.2.2.1.mpr h2) (G.2.2.2.2.2.2.2.mpr h15) hA) $$ [H3 H4 H5 H6 H7 H8 H9 H10 H11 H12 H13 H14 H15 H16 H17 H18]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro ⟨%g11, %g18, %E, H3, H4, H5, H6, H7, H8, H9, H10, H11, H12, H13, H14, H15, H16, H17, H18⟩
    isplitl [H12 H13 H14 H15 H16 H17 H18 Hp]
    · skip
      iexists _
      iexists _
      iexists _
      iexists _
      iexists _
      iexists _
      iexists _
      isplitr; swap
      · isplitl [H12]; · iexact H12
        isplitl [H13]; · iexact H13
        isplitl [H14]; · iexact H14
        isplitl [H15]; · iexact H15
        isplitl [H16]; · iexact H16
        isplitl [H17]; · iexact H17
        isplitl [H18]; · iexact H18
        iexact Hp
      ipureintro
      exact fun _ _ hne => absurd (by omega) hne
    isplitl [Ho]; · iexact Ho
    isplitl [H3]
    · iexists _; isplitr; · ipureintro; exact e0
      iexact H3
    isplitl [H4]
    · iexists _; isplitr; · ipureintro; exact e1
      iexact H4
    isplitl [H5]
    · iexists _; isplitr; · ipureintro; exact e2
      iexact H5
    isplitl [H6]
    · iexists _; isplitr; · ipureintro; exact e3
      iexact H6
    isplitl [H7]
    · iexists _; isplitr; · ipureintro; exact e4
      iexact H7
    isplitl [H8]
    · iexists _; isplitr; · ipureintro; exact e5
      iexact H8
    isplitl [H9]
    · iexists _; isplitr; · ipureintro; exact e6
      iexact H9
    isplitl [H10]
    · iexists _; isplitr; · ipureintro; exact e7
      iexact H10
    iexists _; isplitr; swap; · iexact H11
    ipureintro
    rw [K2, K3, K4, e4, e5, e6, e7, e8] at E
    exact E.trans (yAt_end m c t t' h' h15).symm
  · skip
    obtain ⟨t', h'⟩ : ∃ t' : Fin grid0.N, t'.val + 1 = t.val := ⟨⟨t.val - 1, Nat.lt_of_le_of_lt (Nat.sub_le _ _) t.isLt⟩, by show t.val - 1 + 1 = t.val; omega⟩
    obtain ⟨K1, K2, K3, K4, K5⟩ := HH t' h' h0
    have ets := ts_pred t t' h' h0
    have eh : hAt m c t' = hAt m c t := by unfold hAt; rw [ets]
    have eg : gateAt m c t' = gateAt m c t := by unfold gateAt; rw [ets]
    have em : membAt m c t' = membAt m c t := by unfold membAt; rw [ets]
    have er : rankAt m c t' = rankAt m c t := by unfold rankAt; rw [ets]
    rw [before0_8 m c t t' h' h0] at e8
    rw [eh] at K1; rw [eg] at K2; rw [em] at K3; rw [er] at K4
    have hA : AllLeft (grid0.coords t) ((Memref.whole cc0_scratch2).view.read (Elt F) f14) ((Memref.whole cc0_scratch3).view.read (Elt F) f15)
        (hAt m c t) (iblk m c 4 t') (iblk m c 5 t') (iblk m c 6 t') (Memref.whole cc0_scratch4) (Memref.whole cc0_scratch5)
        (Memref.whole cc0_scratch6) f16 f17 f18 := by
      rw [K3, K4, ← em, ← er, ← eh]
      exact allLeft_coords (Fin.ext ((expert_at t').trans ((by omega : t'.val % 16 / 2 = t.val % 16 / 2).trans (expert_at t).symm))) (K5 h2)
    iapply (last_point (mt G.1.mp h0) (mt G.2.1.mp (by omega)) (G.2.2.1.mpr h2) (G.2.2.2.1.mpr h2) (G.2.2.2.2.1.mpr h2) (G.2.2.2.2.2.1.mpr h2) (G.2.2.2.2.2.2.1.mpr h2) (mt G.2.2.2.2.2.2.2.mp h15) hA) $$ [H3 H4 H5 H6 H7 H8 H9 H10 H11 H12 H13 H14 H15 H16 H17 H18]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro ⟨%g11, %g18, %E, H3, H4, H5, H6, H7, H8, H9, H10, H11, H12, H13, H14, H15, H16, H17, H18⟩
    isplitl [H12 H13 H14 H15 H16 H17 H18 Hp]
    · skip
      iexists _
      iexists _
      iexists _
      iexists _
      iexists _
      iexists _
      iexists _
      isplitr; swap
      · isplitl [H12]; · iexact H12
        isplitl [H13]; · iexact H13
        isplitl [H14]; · iexact H14
        isplitl [H15]; · iexact H15
        isplitl [H16]; · iexact H16
        isplitl [H17]; · iexact H17
        isplitl [H18]; · iexact H18
        iexact Hp
      ipureintro
      intro s hs hne
      obtain rfl : s = t := Fin.ext (by omega)
      refine ⟨K1, K2, K3, K4, fun h => absurd h (by omega)⟩
    isplitl [Ho]; · iexact Ho
    isplitl [H3]
    · iexists _; isplitr; · ipureintro; exact e0
      iexact H3
    isplitl [H4]
    · iexists _; isplitr; · ipureintro; exact e1
      iexact H4
    isplitl [H5]
    · iexists _; isplitr; · ipureintro; exact e2
      iexact H5
    isplitl [H6]
    · iexists _; isplitr; · ipureintro; exact e3
      iexact H6
    isplitl [H7]
    · iexists _; isplitr; · ipureintro; exact e4
      iexact H7
    isplitl [H8]
    · iexists _; isplitr; · ipureintro; exact e5
      iexact H8
    isplitl [H9]
    · iexists _; isplitr; · ipureintro; exact e6
      iexact H9
    isplitl [H10]
    · iexists _; isplitr; · ipureintro; exact e7
      iexact H10
    iexists _; isplitr; swap; · iexact H11
    ipureintro
    rw [K2, K3, K4, e4, e5, e6, e8] at E
    exact E.trans (yAt_last m c t t' h' h2 h15).symm

end Cert.Proof.Moe

end
-- ==== Proof.Main.lean ====
module

public import proofs.«01_k».proof.Proof.Run

/-!
The run of the whole program, at any interpretation of the floats and from any memory.
-/

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region starts from holds the invariant before the first point. -/
theorem inv_in (c : Dev nD) : (ΦA spec0 c : sProp 𝕄) ⊢ Inv m c 0 := by
  unfold Inv ΦA
  rw [scopedRest0_eq]
  iintro ⟨⟨⟨%f12, H12⟩, ⟨%f13, H13⟩, ⟨%f14, H14⟩, ⟨%f15, H15⟩, ⟨%f16, H16⟩, ⟨%f17, H17⟩, ⟨%f18, H18⟩⟩, Hp⟩
  iexists f12
  iexists f13
  iexists f14
  iexists f15
  iexists f16
  iexists f17
  iexists f18
  isplitr; swap
  · isplitl [H12]; · iexact H12
    isplitl [H13]; · iexact H13
    isplitl [H14]; · iexact H14
    isplitl [H15]; · iexact H15
    isplitl [H16]; · iexact H16
    isplitl [H17]; · iexact H17
    isplitl [H18]; · iexact H18
    iexact Hp
  ipureintro
  exact fun t ht => absurd ht (Nat.succ_ne_zero _)

/-- The invariant after the last point gives back what the region ends with. -/
theorem inv_out (c : Dev nD) : Inv m c 256 ⊢ (ΦA spec0 c : sProp 𝕄) := by
  unfold Inv ΦA
  rw [scopedRest0_eq]
  iintro ⟨%f12, %f13, %f14, %f15, %f16, %f17, %f18, %HH, H12, H13, H14, H15, H16, H17, H18, Hp⟩
  isplitr [Hp]; swap
  · iexact Hp
  isplitl [H12]; · iexists f12; iexact H12
  isplitl [H13]; · iexists f13; iexact H13
  isplitl [H14]; · iexists f14; iexact H14
  isplitl [H15]; · iexists f15; iexact H15
  isplitl [H16]; · iexists f16; iexact H16
  isplitl [H17]; · iexists f17; iexact H17
  iexists f18; iexact H18

set_option backward.isDefEq.respectTransparency.types false in
/-- From any memory with zero counters every weakly fair execution ends, with every array of the pipeline at what the
    proof data give and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl) (howed := fun _ _ => rfl)
    (V := V m) (hmain := hmain m 𝒱₀) (hA := fun _ _ => rfl) (hin := fun c => inv_in m c) (hout := fun c => inv_out m c)

/-- Every execution leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) fun _ _ => rfl) (run_main m ρ)

end Cert.Proof.Moe

end
-- ==== Proof.Spec.lean ====
module

public import Idealize.ShloMosaic.Lib.IdealHost

@[expose] public section

/-! # The mathematics of the call

What one row of the result is, as a function of one row of activations and the weights, on the extended reals: the
normalised row, the eight logits, the two chosen experts and their weights, the experts' feed-forward networks and the
final normalisation. With it the facts about sums, maxima and ranks that both programs are measured by. -/

noncomputable section
namespace Cert.Proof.Moe
open Idealize.ShloMosaic

/-! ## Real values -/

/-- The value is a real number, neither infinity. -/
def IsReal (x : EReal) : Prop := ∃ r : ℝ, x = (r : EReal)

namespace IsReal

/-- A real number is real. -/
theorem coe (r : ℝ) : IsReal (r : EReal) := ⟨r, rfl⟩

/-- Zero is real. -/
theorem zero : IsReal 0 := ⟨0, rfl⟩

/-- One is real. -/
theorem one : IsReal 1 := ⟨1, rfl⟩

/-- A sum of two reals is real. -/
theorem add {x y : EReal} (hx : IsReal x) (hy : IsReal y) : IsReal (x + y) := by
  obtain ⟨r, rfl⟩ := hx; obtain ⟨s, rfl⟩ := hy
  exact ⟨r + s, (EReal.coe_add r s).symm⟩

/-- A product of two reals is real. -/
theorem mul {x y : EReal} (hx : IsReal x) (hy : IsReal y) : IsReal (x * y) := by
  obtain ⟨r, rfl⟩ := hx; obtain ⟨s, rfl⟩ := hy
  exact ⟨r * s, (EReal.coe_mul r s).symm⟩

/-- The negative of a real is real. -/
theorem neg {x : EReal} (hx : IsReal x) : IsReal (-x) := by
  obtain ⟨r, rfl⟩ := hx
  exact ⟨-r, (EReal.coe_neg r).symm⟩

/-- A finite sum of reals is real. -/
theorem sum {ι : Type} (s : Finset ι) (f : ι → EReal) (h : ∀ i, IsReal (f i)) : IsReal (∑ i ∈ s, f i) := by
  classical
  induction s using Finset.induction_on with
  | empty => simpa using zero
  | insert a s ha ih => rw [Finset.sum_insert ha]; exact (h a).add ih

/-- A real divided by a real other than zero is real. -/
theorem div {x : EReal} (hx : IsReal x) {r : ℝ} (hr : r ≠ 0) : IsReal (Ideal.div x (r : EReal)) := by
  obtain ⟨s, rfl⟩ := hx
  have h : ((r : EReal)) ≠ 0 := by exact_mod_cast hr
  refine ⟨s * r⁻¹, ?_⟩
  rw [Ideal.div, if_neg h, EReal.coe_mul, EReal.coe_inv]

/-- The exponential of a real is the real exponential. -/
theorem exp_coe (r : ℝ) : Ideal.exp (r : EReal) = ((Real.exp r : ℝ) : EReal) := rfl

/-- The reciprocal root of a positive real is the real one. -/
theorem rsqrt_coe {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg hr.le.not_gt, if_neg hr.ne']

/-- The logistic function of a real is real. -/
theorem logistic {x : EReal} (hx : IsReal x) : IsReal (Ideal.logistic x) := by
  obtain ⟨r, rfl⟩ := hx
  have h : (1 : EReal) + Ideal.exp (-(r : EReal)) = ((1 + Real.exp (-r) : ℝ) : EReal) := by
    rw [← EReal.coe_neg, exp_coe, EReal.coe_add, EReal.coe_one]
  rw [Ideal.logistic, h]
  exact one.div (by positivity)

/-- A real minus itself is zero. -/
theorem sub_self {x : EReal} (hx : IsReal x) : x - x = 0 := by
  obtain ⟨r, rfl⟩ := hx
  rw [← EReal.coe_sub]; simp

/-- A real lies above the smallest value. -/
theorem bot_lt {x : EReal} (hx : IsReal x) : ⊥ < x := by
  obtain ⟨r, rfl⟩ := hx
  exact EReal.bot_lt_coe r

/-- A value whose magnitude lies below the largest one is real. -/
theorem of_bounds {x : EReal} (h : max x (-x) < ⊤) : IsReal x := by
  induction x with
  | bot => simp at h
  | top => simp at h
  | coe r => exact ⟨r, rfl⟩

end IsReal

/-! ## The specification -/

/-- The number of columns a mean runs over, as the program writes it. -/
abbrev width : EReal := Ideal.ofBits .f32 0x44800000#32

/-- What is added to the mean of the squares, as the program writes it. -/
abbrev eps : EReal := Ideal.ofBits .f32 0x358637BD#32

/-- A row normalised by the root of its mean square, scaled by the gains. -/
def rms {n : ℕ} (x g : Fin n → EReal) (j : Fin n) : EReal :=
  x j * Ideal.rsqrt (Ideal.div (∑ k, x k * x k) width + eps) * g j

/-- The logit of one expert: the row against the expert's column, with its bias. -/
def logit {n : ℕ} (h w : Fin n → EReal) (b : EReal) : EReal := (∑ k, h k * w k) + b

/-- One hidden column: the gate's value times its logistic function times the value beside it. -/
def act {n : ℕ} (h wg wu : Fin n → EReal) : EReal :=
  (∑ k, h k * wg k) * Ideal.logistic (∑ k, h k * wg k) * ∑ k, h k * wu k

/-- One column of a feed-forward network with `d` hidden columns. -/
def ffn {n d : ℕ} (wg wu : Fin d → Fin n → EReal) (wd : Fin d → EReal) (h : Fin n → EReal) : EReal :=
  ∑ f, act h (wg f) (wu f) * wd f

/-- `a` is where `l` is largest and `b` where it is largest elsewhere, the lower index first among equals. -/
def Top {n : ℕ} (l : Fin n → EReal) (a b : Fin n) : Prop :=
  (∀ e, l e < l a ∨ (l e = l a ∧ a ≤ e)) ∧ b ≠ a ∧ ∀ e, e ≠ a → l e < l b ∨ (l e = l b ∧ b ≤ e)

/-- The weight of an expert: the two chosen ones share one by the softmax of their logits, the others have none. -/
def weight {n : ℕ} (l : Fin n → EReal) (a b e : Fin n) : EReal :=
  if e = a then Ideal.div 1 (1 + Ideal.exp (l b - l a))
  else if e = b then Ideal.div (Ideal.exp (l b - l a)) (1 + Ideal.exp (l b - l a)) else 0

/-- One row of the result: the row with the two chosen experts' networks of its normalised self added, each by its weight,
    normalised again. -/
def outRow {n d E : ℕ} (x g : Fin n → EReal) (rt : Fin E → Fin n → EReal) (rb : Fin E → EReal)
    (wg wu : Fin E → Fin d → Fin n → EReal) (wd : Fin E → Fin n → Fin d → EReal) (gf : Fin n → EReal) (a b : Fin E) : Fin n → EReal :=
  rms (fun j => x j + ∑ e, weight (fun e => logit (rms x g) (rt e) (rb e)) a b e * ffn (wg e) (wu e) (wd e j) (rms x g)) gf

/-- A constant the program writes: the mean runs over 1024 columns. -/
theorem width_eq : width = ((1024 : ℝ) : EReal) := by
  simp [Ideal.ofBits, Ideal.ieee, -EReal.coe_mul]
  norm_num

/-- What is added to the mean square is a positive real. -/
theorem eps_pos : ∃ r : ℝ, 0 < r ∧ eps = (r : EReal) := by
  refine ⟨(2 ^ 23 + 407485 : ℕ) * (2 : ℝ) ^ ((107 : ℤ) - 127 - 23), by positivity, ?_⟩
  simp [Ideal.ofBits, Ideal.ieee, -EReal.coe_mul]

/-- A row of reals normalised is a row of reals. -/
theorem rms_real {n : ℕ} {x g : Fin n → EReal} (hx : ∀ k, IsReal (x k)) (hg : ∀ k, IsReal (g k)) (j : Fin n) :
    IsReal (rms x g j) := by
  choose x' hx' using hx
  obtain ⟨r, hr, he⟩ := eps_pos
  have hs : ∑ k, x k * x k = ((∑ k, x' k * x' k : ℝ) : EReal) := by
    simp only [hx', ← EReal.coe_mul]
    exact (map_sum (⟨⟨Real.toEReal, rfl⟩, EReal.coe_add⟩ : ℝ →+ EReal) _ _).symm
  have hm : Ideal.div (∑ k, x k * x k) width + eps = (((∑ k, x' k * x' k) * (1024 : ℝ)⁻¹ + r : ℝ) : EReal) := by
    have h0 : (((1024 : ℝ) : EReal)) ≠ 0 := by norm_cast
    rw [hs, width_eq, he, Ideal.div, if_neg h0, ← EReal.coe_inv, ← EReal.coe_mul, ← EReal.coe_add]
  have hp : 0 < (∑ k, x' k * x' k) * (1024 : ℝ)⁻¹ + r :=
    add_pos_of_nonneg_of_pos (mul_nonneg (Finset.sum_nonneg fun k _ => mul_self_nonneg _) (by norm_num)) hr
  refine IsReal.mul (IsReal.mul ⟨_, hx' j⟩ ?_) (hg j)
  rw [hm, IsReal.rsqrt_coe hp]
  exact IsReal.coe _

/-- A logit of reals is real. -/
theorem logit_real {n : ℕ} {h w : Fin n → EReal} {b : EReal} (hh : ∀ k, IsReal (h k)) (hw : ∀ k, IsReal (w k))
    (hb : IsReal b) : IsReal (logit h w b) := (IsReal.sum _ _ fun k => (hh k).mul (hw k)).add hb

/-- A feed-forward network of reals is real. -/
theorem ffn_real {n d : ℕ} {wg wu : Fin d → Fin n → EReal} {wd : Fin d → EReal} {h : Fin n → EReal}
    (hg : ∀ f k, IsReal (wg f k)) (hu : ∀ f k, IsReal (wu f k)) (hd : ∀ f, IsReal (wd f)) (hh : ∀ k, IsReal (h k)) :
    IsReal (ffn wg wu wd h) := by
  refine IsReal.sum _ _ fun f => ((IsReal.mul ?_ (IsReal.logistic ?_)).mul ?_).mul (hd f)
  · exact IsReal.sum _ _ fun k => (hh k).mul (hg f k)
  · exact IsReal.sum _ _ fun k => (hh k).mul (hg f k)
  · exact IsReal.sum _ _ fun k => (hh k).mul (hu f k)

/-- A feed-forward network is the sum of its two halves. -/
theorem ffn_halves {n d : ℕ} (wg wu : Fin (d + d) → Fin n → EReal) (wd : Fin (d + d) → EReal) (h : Fin n → EReal) :
    ffn wg wu wd h = ffn (fun f => wg (Fin.castAdd d f)) (fun f => wu (Fin.castAdd d f)) (fun f => wd (Fin.castAdd d f)) h
      + ffn (fun f => wg (Fin.natAdd d f)) (fun f => wu (Fin.natAdd d f)) (fun f => wd (Fin.natAdd d f)) h :=
  Fin.sum_univ_add _

/-! ## The two largest -/

/-- The two largest places exist among at least two. -/
theorem Top.exists {n : ℕ} (l : Fin (n + 2) → EReal) : ∃ a b, Top l a b := by
  classical
  have key : ∀ s : Finset (Fin (n + 2)), s.Nonempty → ∃ a ∈ s, ∀ e ∈ s, l e < l a ∨ (l e = l a ∧ a ≤ e) := by
    intro s hs
    obtain ⟨a, ha, h⟩ := Finset.exists_min_image s (fun e => toLex (OrderDual.toDual (l e), e)) hs
    refine ⟨a, ha, fun e he => ?_⟩
    rcases Prod.Lex.le_iff.1 (h e he) with h | ⟨h, h'⟩
    · exact Or.inl h
    · exact Or.inr ⟨(congrArg OrderDual.ofDual h).symm, h'⟩
  obtain ⟨a, -, ha⟩ := key Finset.univ ⟨0, Finset.mem_univ _⟩
  obtain ⟨b, hb, hb'⟩ := key (Finset.univ.erase a) (Finset.card_pos.1 (by
    rw [Finset.card_erase_of_mem (Finset.mem_univ a), Finset.card_univ, Fintype.card_fin]; omega))
  exact ⟨a, b, fun e => ha e (Finset.mem_univ e), (Finset.mem_erase.1 hb).1,
    fun e he => hb' e (Finset.mem_erase.2 ⟨he, Finset.mem_univ e⟩)⟩

/-- The two largest places are determined. -/
theorem Top.unique {n : ℕ} {l : Fin n → EReal} {a b a' b' : Fin n} (h : Top l a b) (h' : Top l a' b') : a = a' ∧ b = b' := by
  have ha : a = a' := by
    rcases h.1 a' with u | ⟨u, u'⟩ <;> rcases h'.1 a with v | ⟨v, v'⟩
    · exact absurd u (not_lt_of_gt v)
    · exact absurd v.symm u.ne
    · exact absurd u v.ne'
    · exact le_antisymm u' v'
  subst ha
  refine ⟨rfl, ?_⟩
  rcases h.2.2 b' h'.2.1 with u | ⟨u, u'⟩ <;> rcases h'.2.2 b h.2.1 with v | ⟨v, v'⟩
  · exact absurd u (not_lt_of_gt v)
  · exact absurd v.symm u.ne
  · exact absurd u v.ne'
  · exact le_antisymm u' v'

/-- The maximum over a finite type, started from the smallest value, is the value where the function is largest. -/
theorem fold_max_eq {ι : Type} [Fintype ι] (f : ι → EReal) (a : ι) (h : ∀ i, f i ≤ f a) :
    Finset.univ.fold max ⊥ f = f a :=
  le_antisymm ((Finset.fold_max_le _).2 ⟨bot_le, fun i _ => h i⟩) ((Finset.le_fold_max _).2 (Or.inr ⟨a, Finset.mem_univ a, le_rfl⟩))

/-- The minimum over a finite type, started from the largest value, is the value where the function is smallest. -/
theorem fold_min_eq {ι : Type} [Fintype ι] (f : ι → EReal) (a : ι) (h : ∀ i, f a ≤ f i) :
    Finset.univ.fold min ⊤ f = f a :=
  le_antisymm ((Finset.fold_min_le _).2 (Or.inr ⟨a, Finset.mem_univ a, le_rfl⟩)) ((Finset.le_fold_min _).2 ⟨le_top, fun i _ => h i⟩)

/-- Every value lies below the maximum. -/
theorem le_fold_max_of {ι : Type} [Fintype ι] (f : ι → EReal) (i : ι) (b : EReal) : f i ≤ Finset.univ.fold max b f :=
  (Finset.le_fold_max _).2 (Or.inr ⟨i, Finset.mem_univ i, le_rfl⟩)

/-- The least index where the function has the value `v`, read as the minimum over the indices of those that have it and
    of a larger number elsewhere. -/
theorem fold_min_index {n : ℕ} (f : Fin n → EReal) (v M : EReal) (a : Fin n) (hM : ∀ i : Fin n, ((i.val : ℝ) : EReal) ≤ M)
    (ha : f a = v) (h : ∀ i, f i = v → a ≤ i) :
    Finset.univ.fold min ⊤ (fun i : Fin n => if f i = v then ((i.val : ℝ) : EReal) else M) = ((a.val : ℝ) : EReal) := by
  rw [fold_min_eq _ a]
  · rw [if_pos ha]
  · intro i
    rw [if_pos ha]
    by_cases hi : f i = v
    · rw [if_pos hi]
      exact_mod_cast h i hi
    · rw [if_neg hi]; exact hM a

/-- The maximum, at the first place of the largest value. -/
theorem fold_max_first {n : ℕ} (f : Fin n → EReal) (a : Fin n) (h : ∀ i, f i < f a ∨ (f i = f a ∧ a ≤ i)) :
    Finset.univ.fold max ⊥ f = f a :=
  fold_max_eq f a fun i => (h i).elim le_of_lt fun h => h.1.le

/-- The least index of the largest value is the first place of it. -/
theorem fold_min_first {n : ℕ} (f : Fin n → EReal) (M : EReal) (a : Fin n) (hM : ∀ i : Fin n, ((i.val : ℝ) : EReal) ≤ M)
    (h : ∀ i, f i < f a ∨ (f i = f a ∧ a ≤ i)) :
    Finset.univ.fold min ⊤ (fun i : Fin n => if f i = f a then ((i.val : ℝ) : EReal) else M) = ((a.val : ℝ) : EReal) :=
  fold_min_index f (f a) M a hM rfl fun i hi => (h i).elim (fun h => absurd hi h.ne) fun h => h.2

/-- Values at a few places, continued by the smallest value. -/
def lift {n : ℕ} (N : ℕ) (l : Fin n → EReal) (k : Fin N) : EReal := if h : k.val < n then l ⟨k.val, h⟩ else ⊥

/-- The first place of the largest value stays it when values above the smallest are continued by the smallest. -/
theorem lift_first {n N : ℕ} (hn : n ≤ N) (l : Fin n → EReal) (hl : ∀ e, ⊥ < l e) {a b : Fin n} (h : Top l a b) (k : Fin N) :
    lift N l k < lift N l (a.castLE hn) ∨ (lift N l k = lift N l (a.castLE hn) ∧ a.castLE hn ≤ k) := by
  have ha : lift N l (a.castLE hn) = l a := dif_pos a.isLt
  rw [ha]
  by_cases hk : k.val < n
  · rw [lift, dif_pos hk]; exact h.1 ⟨k.val, hk⟩
  · rw [lift, dif_neg hk]; exact Or.inl (hl a)

/-- With the largest place lowered to the smallest value, the second largest comes first. -/
theorem lift_second {n N : ℕ} (hn : n ≤ N) (l : Fin n → EReal) (hl : ∀ e, ⊥ < l e) {a b : Fin n} (h : Top l a b) (k : Fin N) :
    (if k = a.castLE hn then ⊥ else lift N l k) < (if b.castLE hn = a.castLE hn then ⊥ else lift N l (b.castLE hn))
      ∨ ((if k = a.castLE hn then ⊥ else lift N l k) = (if b.castLE hn = a.castLE hn then ⊥ else lift N l (b.castLE hn))
        ∧ b.castLE hn ≤ k) := by
  have hb : lift N l (b.castLE hn) = l b := dif_pos b.isLt
  have hne : b.castLE hn ≠ a.castLE hn := fun e => h.2.1 (Fin.castLE_injective hn e)
  rw [if_neg hne, hb]
  by_cases hka : k = a.castLE hn
  · rw [if_pos hka]; exact Or.inl (hl b)
  · rw [if_neg hka]
    by_cases hk : k.val < n
    · rw [lift, dif_pos hk]
      exact h.2.2 ⟨k.val, hk⟩ fun e => hka (Fin.ext (show k.val = a.val from congrArg Fin.val e))
    · rw [lift, dif_neg hk]; exact Or.inl (hl b)

/-! ## Ranks and passes -/

/-- How many members lie before a row. -/
def rank {n : ℕ} (mem : Fin n → Prop) [DecidablePred mem] (r : Fin n) : ℕ := (Finset.univ.filter fun c : Fin n => c < r ∧ mem c).card

/-- A row's rank lies below the number of rows. -/
theorem rank_lt {n : ℕ} (mem : Fin n → Prop) [DecidablePred mem] (r : Fin n) : rank mem r < n := by
  refine lt_of_le_of_lt (b := (Finset.univ.filter fun c : Fin n => c < r).card) ?_ ?_
  · exact Finset.card_le_card fun c hc => by
      simp only [Finset.mem_filter, Finset.mem_univ, true_and] at hc ⊢; exact hc.1
  · refine lt_of_lt_of_eq (Finset.card_lt_card (Finset.ssubset_univ_iff.2 fun h => ?_)) (Finset.card_fin n)
    have := h ▸ Finset.mem_univ r
    simp at this

/-- Two members with the same rank are the same row. -/
theorem rank_inj {n : ℕ} (mem : Fin n → Prop) [DecidablePred mem] (r r' : Fin n) (hr : mem r) (hr' : mem r')
    (h : rank mem r = rank mem r') : r = r' := by
  have key : ∀ a b : Fin n, mem a → a < b → rank mem a < rank mem b := by
    intro a b ha hab
    refine Finset.card_lt_card ⟨fun c hc => ?_, fun hs => ?_⟩
    · simp only [Finset.mem_filter, Finset.mem_univ, true_and] at hc ⊢; exact ⟨hc.1.trans hab, hc.2⟩
    · have : a ∈ Finset.univ.filter fun c : Fin n => c < a ∧ mem c := hs (by simp [hab, ha])
      simp at this
  rcases lt_trichotomy r r' with u | u | u
  · exact absurd h (key _ _ hr u).ne
  · exact u
  · exact absurd h (key _ _ hr' u).ne'

/-- One pass over the rows gathered for an expert. The table `ct` has a one where a member's rank is the slot's; the rows
    `hc` gathered by it are members' rows; what `Y` makes of them, scattered back by the same table in two parts, is `Y` of
    the row itself where the row is a member whose rank lies in the pass, and zero elsewhere. -/
theorem pass_sum {n C d : ℕ} (mem : Fin n → Prop) [DecidablePred mem] (rk : Fin n → ℕ) (F : ℕ)
    (inj : ∀ r r', mem r → mem r' → rk r = rk r' → r = r') (h : Fin n → Fin d → EReal) (Y : (Fin d → EReal) → EReal)
    (real : ∀ r, IsReal (Y (h r))) (ct : Fin n → Fin C → EReal)
    (hct : ∀ r s, ct r s = if mem r ∧ rk r = s.val + F then 1 else 0) (hc : Fin C → Fin d → EReal)
    (hhc : ∀ s k, hc s k = ∑ r, ct r s * h r k) (r : Fin n) :
    ∑ s, ct r s * Y (hc s) + ∑ s, ct r s * (Y (hc s) - Y (hc s))
      = if mem r ∧ F ≤ rk r ∧ rk r < F + C then Y (h r) else 0 := by
  by_cases hin : mem r ∧ F ≤ rk r ∧ rk r < F + C
  · rw [if_pos hin]
    obtain ⟨hm, hF, hC⟩ := hin
    let s₀ : Fin C := ⟨rk r - F, by omega⟩
    have h1 : ct r s₀ = 1 := by rw [hct, if_pos ⟨hm, by show rk r = rk r - F + F; omega⟩]
    have h0 : ∀ s, s ≠ s₀ → ct r s = 0 := fun s hs => by
      rw [hct, if_neg]
      rintro ⟨-, hs'⟩
      exact hs (Fin.ext (by show s.val = rk r - F; omega))
    have hrow : hc s₀ = h r := by
      funext k
      rw [hhc, Finset.sum_eq_single r, h1, one_mul]
      · intro r' _ hne
        rw [hct, if_neg, zero_mul]
        rintro ⟨hm', hs'⟩
        refine hne (inj r' r hm' hm (hs'.trans ?_))
        show rk r - F + F = rk r
        omega
      · exact fun h => absurd (Finset.mem_univ r) h
    rw [Finset.sum_eq_single s₀, Finset.sum_eq_single s₀, h1, hrow, one_mul, one_mul, (real r).sub_self, add_zero]
    · intro s _ hs; rw [h0 s hs, zero_mul]
    · exact fun h => absurd (Finset.mem_univ _) h
    · intro s _ hs; rw [h0 s hs, zero_mul]
    · exact fun h => absurd (Finset.mem_univ _) h
  · rw [if_neg hin]
    have h0 : ∀ s, ct r s = 0 := fun s => by
      rw [hct, if_neg]
      rintro ⟨hm, hs⟩
      exact hin ⟨hm, by omega, by have := s.isLt; omega⟩
    simp only [h0, zero_mul, Finset.sum_const_zero, add_zero]

/-- Four passes one behind the other, each adding `w * v` where the row is a member with its rank in the pass, add it once
    where the row is a member with its rank below the end of the last. -/
theorem four_passes {m : Prop} [Decidable m] {k : ℕ} (y w v : EReal) (hk : k < 1024) :
    y + w * (if m ∧ 0 ≤ k ∧ k < 0 + 256 then v else 0) + w * (if m ∧ 256 ≤ k ∧ k < 256 + 128 then v else 0)
      + w * (if m ∧ 384 ≤ k ∧ k < 384 + 384 then v else 0) + w * (if m ∧ 768 ≤ k ∧ k < 768 + 256 then v else 0)
      = y + w * (if m then v else 0) := by
  by_cases hm : m
  · simp only [hm, true_and, if_true]
    rcases lt_or_ge k 256 with h | h
    · rw [if_pos (by omega), if_neg (by omega), if_neg (by omega), if_neg (by omega)]; simp
    rcases lt_or_ge k 384 with h | h
    · rw [if_neg (by omega), if_pos (by omega), if_neg (by omega), if_neg (by omega)]; simp
    rcases lt_or_ge k 768 with h | h
    · rw [if_neg (by omega), if_neg (by omega), if_pos (by omega), if_neg (by omega)]; simp
    · rw [if_neg (by omega), if_neg (by omega), if_neg (by omega), if_pos (by omega)]; simp
  · simp [hm]

end Cert.Proof.Moe
end
-- ==== Proof.Route.lean ====
module

public import proofs.«01_k».proof.Proof.Body
public import proofs.«01_k».proof.Proof.Spec
public import Idealize.ShloMosaic.Lib.Pointwise

/-!
The tables of a tile, entry by entry: the normalised rows, the logits continued to all lanes, the lanes of the two largest
logits, and from them the gates, the membership and the ranks.
-/

@[expose] public section

set_option maxRecDepth 16384

noncomputable section

namespace Cert.Proof.Moe

open Cert.KernelIdeal Cert.KernelIdeal.Gen
open Idealize.ShloMosaic

/-! ## Words and constants -/

/-- The number of a small word is its number. -/
theorem toInt_small (k : ℕ) (h : k < 2 ^ 31) : (BitVec.ofNat 32 k).toInt = (k : ℤ) := by
  rw [BitVec.toInt_eq_toNat_of_lt] <;> rw [BitVec.toNat_ofNat, Nat.mod_eq_of_lt (by omega)]
  omega

/-- The number a small word converts to is its number. -/
theorem sitofp_small (k : ℕ) (h : k < 2 ^ 31) : (FloatOps.sitofp .f32 (BitVec.ofNat 32 k) : Ideal .f32) = ((k : ℝ) : EReal) := by
  show (((BitVec.ofNat 32 k).toInt : ℝ) : EReal) = _
  rw [toInt_small k h]; simp

/-- Small words are equal when their numbers are. -/
theorem ofNat_inj {a b : ℕ} (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · exact fun h => by rw [h]

/-- Equal numbers of lanes are equal lanes. -/
theorem lane_inj (a b : ℕ) : ((((a : ℝ)) : EReal) = ((b : ℝ) : EReal)) ↔ a = b := by
  rw [EReal.coe_eq_coe_iff, Nat.cast_inj]

/-- A choice by a truth value. -/
theorem select_ofBool {α : Type} (p : Bool) (a b : α) : Scalar.select (BitVec.ofBool p) a b = if p = true then a else b := by
  cases p <;> rfl

/-- Either of two truth values. -/
theorem ori_ofBool (p q : Bool) : IntOp.ori (BitVec.ofBool p) (BitVec.ofBool q) = BitVec.ofBool (p || q) := by
  cases p <;> cases q <;> rfl

/-- Both of two truth values. -/
theorem andi_ofBool (p q : Bool) : IntOp.andi (BitVec.ofBool p) (BitVec.ofBool q) = BitVec.ofBool (p && q) := by
  cases p <;> cases q <;> rfl

/-- A choice by whether two small words are equal. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  show Scalar.select (BitVec.ofBool (BitVec.ofNat 32 a == BitVec.ofNat 32 b)) x y = _
  rw [select_ofBool]
  simp only [beq_iff_eq, ofNat_inj ha hb]

/-- A choice by whether one small word is less than another. -/
theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  show Scalar.select (BitVec.ofBool ((BitVec.ofNat 32 a).slt (BitVec.ofNat 32 b))) x y = _
  rw [select_ofBool]
  simp only [BitVec.slt, toInt_small a ha, toInt_small b hb, decide_eq_true_eq, Nat.cast_lt]

/-- A sum of numbers is the number of the sum. -/
theorem coe_sum {ι : Type} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) _ _).symm

/-- The pattern of the smallest value. -/
theorem bits_bot : Ideal.ofBits .f32 0xFF800000#32 = ⊥ := by simp [Ideal.ofBits, Ideal.ieee]
/-- The pattern of the largest value. -/
theorem bits_top : Ideal.ofBits .f32 0x7F800000#32 = ⊤ := by simp [Ideal.ofBits, Ideal.ieee]
/-- The pattern of eight. -/
theorem bits_eight : Ideal.ofBits .f32 0x41000000#32 = ((8 : ℝ) : EReal) := by
  simp [Ideal.ofBits, Ideal.ieee, -EReal.coe_mul]; norm_num
/-- The pattern of one half. -/
theorem bits_half : Ideal.ofBits .f32 0x3F000000#32 = ((1 / 2 : ℝ) : EReal) := by
  simp [Ideal.ofBits, Ideal.ieee, -EReal.coe_mul]; norm_num
/-- The pattern of a thousand million. -/
theorem bits_large : Ideal.ofBits .f32 0x4E6E6B28#32 = ((1000000000 : ℝ) : EReal) := by
  simp [Ideal.ofBits, Ideal.ieee, -EReal.coe_mul]; norm_num
/-- The pattern of the second pass's first slot. -/
theorem bits_256 : Ideal.ofBits .f32 0x43800000#32 = ((256 : ℝ) : EReal) := by
  simp [Ideal.ofBits, Ideal.ieee, -EReal.coe_mul]; norm_num
/-- The pattern of the third pass's first slot. -/
theorem bits_384 : Ideal.ofBits .f32 0x43C00000#32 = ((384 : ℝ) : EReal) := by
  simp [Ideal.ofBits, Ideal.ieee, -EReal.coe_mul]; norm_num
/-- The pattern of the fourth pass's first slot. -/
theorem bits_768 : Ideal.ofBits .f32 0x44400000#32 = ((768 : ℝ) : EReal) := by
  simp [Ideal.ofBits, Ideal.ieee, -EReal.coe_mul]; norm_num
/-- The named constant is the smallest value. -/
theorem neg_inf_bot : (Named.named κ "neg_inf" (φ := .f32) 0xFF61B1E6#32 : Ideal .f32) = ⊥ := rfl

/-! ## The routing tables -/

section
variable (x : Vec Ideal S1024x1024 .f32) (g : Vec Ideal S1x1024 .f32) (rt : Vec Ideal S1024x128 .f32) (rb : Vec Ideal S1x128 .f32)

/-- A tile's rows, normalised. -/
theorem pay16_apply (r k : Fin 1024) : k0_pay16 x g (ix2 r k) = rms (fun k => x (ix2 r k)) (fun k => g (ix2 0 k)) k := by
  pointwise [k0_pay16]
  rfl

/-- A tile's rows, normalised, as they are kept. -/
theorem pay17_apply (r k : Fin 1024) : k0_pay17 x g (ix2 r k) = rms (fun k => x (ix2 r k)) (fun k => g (ix2 0 k)) k := by
  pointwise [k0_pay17]
  exact pay16_apply x g r k

/-- The closing normalisation of a tile's rows. -/
theorem pay15_apply (r k : Fin 1024) : k0_pay15 x g (ix2 r k) = rms (fun k => x (ix2 r k)) (fun k => g (ix2 0 k)) k := by
  pointwise [k0_pay15]
  rfl

/-- A lane's number. -/
theorem pay18_apply (r : Fin 1024) (k : Fin 128) : k0_pay18 (F := Ideal) (ix2 r k) = ((k.val : ℝ) : EReal) := by
  pointwise [k0_pay18]
  exact sitofp_small _ (by omega)

/-- The logits at the lanes of the experts, the smallest value at the others. -/
theorem pay19_apply (r : Fin 1024) (k : Fin 128) : k0_pay19 x g rt rb (ix2 r k) = lift 128 (fun e : Fin 8 =>
    logit (rms (fun k => x (ix2 r k)) fun k => g (ix2 0 k)) (fun k => rt (ix2 k (e.castLE (by omega)))) (rb (ix2 0 (e.castLE (by omega))))) k := by
  pointwise [k0_pay19, k0_pay18]
  rw [sitofp_small _ (by omega), bits_eight]
  simp only [pay16_apply, lift]
  by_cases hk : k.val < 8
  · rw [if_pos (by exact_mod_cast hk), dif_pos hk]
    rfl
  · rw [if_neg (by exact_mod_cast hk), dif_neg hk]
    rfl

variable (l : Fin 1024 → Fin 8 → EReal) (a b : Fin 1024 → Fin 8) (hl : ∀ r e, IsReal (l r e)) (ht : ∀ r, Top (l r) (a r) (b r))
  (hlg : ∀ (r : Fin 1024) (k : Fin 128), k0_pay19 x g rt rb (ix2 r k) = lift 128 (l r) k)

/-- An expert's lane. -/
abbrev lane (e : Fin 8) : Fin 128 := e.castLE (by omega)

/-- The logit at an expert's lane. -/
theorem lift_lane (l : Fin 8 → EReal) (e : Fin 8) : lift 128 l (lane e) = l e := dif_pos e.isLt

include hl ht hlg

/-- The largest logit. -/
theorem pay20_apply (r : Fin 1024) : k0_pay20 x g rt rb (ix2 r 0) = l r (a r) := by
  pointwise [k0_pay20]
  simp only [hlg, bits_bot]
  rw [fold_max_first _ (lane (a r)) (lift_first (by omega) (l r) (fun e => (hl r e).bot_lt) (ht r)), lift_lane]

/-- The lane of the largest logit. -/
theorem pay21_apply (r : Fin 1024) : k0_pay21 x g rt rb (ix2 r 0) = (((a r).val : ℝ) : EReal) := by
  pointwise [k0_pay21]
  simp only [pay20_apply x g rt rb l a b hl ht hlg, hlg, pay18_apply, bits_top, bits_large, ← lift_lane (l r) (a r)]
  exact fold_min_first _ _ (lane (a r)) (fun i => by have := i.isLt; exact_mod_cast (by omega : i.val ≤ 1000000000))
    (lift_first (by omega) (l r) (fun e => (hl r e).bot_lt) (ht r))

/-- The logits with the largest lowered. -/
theorem pay22_apply (r : Fin 1024) (k : Fin 128) : k0_pay22 (F := Ideal) k0_pay18 (k0_pay19 x g rt rb) (k0_pay21 x g rt rb) (ix2 r k)
    = if k = lane (a r) then ⊥ else lift 128 (l r) k := by
  pointwise [k0_pay22]
  rw [pay21_apply x g rt rb l a b hl ht hlg, pay18_apply, hlg, neg_inf_bot]
  simp only [lane_inj, Fin.ext_iff]
  rfl

/-- The second largest logit. -/
theorem pay23_apply (r : Fin 1024) : k0_pay23 (F := Ideal) k0_pay18 (k0_pay19 x g rt rb) (k0_pay21 x g rt rb) (ix2 r 0) = l r (b r) := by
  pointwise [k0_pay23]
  simp only [pay22_apply x g rt rb l a b hl ht hlg, bits_bot]
  rw [fold_max_first _ (lane (b r)) (lift_second (by omega) (l r) (fun e => (hl r e).bot_lt) (ht r)), if_neg, lift_lane]
  exact fun e => (ht r).2.1 (Fin.castLE_injective _ e)

/-- The lane of the second largest logit. -/
theorem pay24_apply (r : Fin 1024) : k0_pay24 (F := Ideal) k0_pay18 (k0_pay19 x g rt rb) (k0_pay21 x g rt rb) (ix2 r 0)
    = (((b r).val : ℝ) : EReal) := by
  have hb : l r (b r) = if lane (b r) = lane (a r) then ⊥ else lift 128 (l r) (lane (b r)) := by
    rw [if_neg fun e => (ht r).2.1 (Fin.castLE_injective _ e), lift_lane]
  pointwise [k0_pay24]
  simp only [pay23_apply x g rt rb l a b hl ht hlg, pay22_apply x g rt rb l a b hl ht hlg, pay18_apply, bits_top, bits_large, hb]
  exact fold_min_first _ _ (lane (b r)) (fun i => by have := i.isLt; exact_mod_cast (by omega : i.val ≤ 1000000000))
    (lift_second (by omega) (l r) (fun e => (hl r e).bot_lt) (ht r))

/-- The gates at the lanes of the experts. -/
theorem gateT_apply (r : Fin 1024) (e : Fin 8) : gateT x g rt rb (ix2 r (lane e)) = weight (l r) (a r) (b r) e := by
  unfold gateT
  pointwise [k0_pay25]
  rw [pay20_apply x g rt rb l a b hl ht hlg, pay21_apply x g rt rb l a b hl ht hlg, pay23_apply x g rt rb l a b hl ht hlg,
    pay24_apply x g rt rb l a b hl ht hlg, pay18_apply]
  simp only [lane_inj, weight, Fin.ext_iff]
  rfl

/-- The membership at any lane: one at the lanes of the two largest logits. -/
theorem pay26_apply (r : Fin 1024) (k : Fin 128) : k0_pay26 (F := Ideal) k0_pay18 (k0_pay19 x g rt rb) (k0_pay21 x g rt rb) (ix2 r k)
    = if k = lane (a r) ∨ k = lane (b r) then 1 else 0 := by
  pointwise [k0_pay26]
  rw [pay21_apply x g rt rb l a b hl ht hlg, pay24_apply x g rt rb l a b hl ht hlg, pay18_apply]
  rw [ori_ofBool, select_ofBool]
  simp only [lane_inj, Fin.ext_iff, Bool.or_eq_true, decide_eq_true_eq]
  rfl

/-- The membership as it is kept. -/
theorem membT_apply (r : Fin 1024) (k : Fin 128) : membT x g rt rb (ix2 r k) = if k = lane (a r) ∨ k = lane (b r) then 1 else 0 := by
  unfold membT
  pointwise [k0_pay27]
  exact pay26_apply x g rt rb l a b hl ht hlg r k

/-- The ranks: how many earlier rows are members at the lane. -/
theorem rankT_apply (r : Fin 1024) (k : Fin 128) : rankT x g rt rb (ix2 r k)
    = ((rank (fun c : Fin 1024 => k = lane (a c) ∨ k = lane (b c)) r : ℝ) : EReal) := by
  unfold rankT
  pointwise [k0_pay28]
  simp only [pay26_apply x g rt rb l a b hl ht hlg]
  have h1 : ∀ c : Fin 1024, (Scalar.select (IntOp.cmpi .slt (BitVec.ofNat 32 c.val) (BitVec.ofNat 32 r.val))
      (if k = lane (a c) ∨ k = lane (b c) then (1 : EReal) else 0) 0)
      = ((if c < r ∧ (k = lane (a c) ∨ k = lane (b c)) then 1 else 0 : ℝ) : EReal) := by
    intro c
    rw [select_slt (by omega) (by omega)]
    by_cases h : c.val < r.val <;> by_cases h' : k = lane (a c) ∨ k = lane (b c) <;> simp [h, h', Fin.lt_def]
  have h2 : ∀ c : Fin 1024, iota (κ := .tc) S1024x1024 32 [0] iota_S1024x1024_d0_w32 (ix2 r c) = BitVec.ofNat 32 r.val := by
    intro c
    pointwise []
  simp only [h2, h1]
  rw [coe_sum, rank, Finset.card_filter]
  push_cast
  rfl
end
end Cert.Proof.Moe
-- ==== Proof.Expert.lean ====
module

public import proofs.«01_k».proof.Proof.Route

/-!
One expert's turn over a tile: the rows its four passes gather, what its network makes of them and what comes back to the
tile's rows.
-/

@[expose] public section

set_option maxRecDepth 16384

noncomputable section

namespace Cert.Proof.Moe

open Cert.KernelIdeal Cert.KernelIdeal.Gen
open Idealize.ShloMosaic

/-- A sum over lanes that keeps one lane's value is that value. -/
theorem sum_pick (i : grid0.Coords) (v : Fin 128 → EReal) (e : Fin 8) (he : (i 1).val = e.val) :
    ∑ k : Fin 128, Scalar.select (IntOp.cmpi .eq (BitVec.ofNat 32 k.val) (BitVec.ofNat 32 (i 1).val)) (v k) 0 = v (lane e) := by
  have h : ∀ k : Fin 128, Scalar.select (IntOp.cmpi .eq (BitVec.ofNat 32 k.val) (BitVec.ofNat 32 (i 1).val)) (v k) 0
      = if k = lane e then v k else 0 := by
    intro k
    have := (lane e).isLt
    rw [he, select_eq (by omega) (by omega)]
    simp only [Fin.ext_iff]
    rfl
  simp only [h, Finset.sum_ite_eq', Finset.mem_univ, if_true]

section
variable (i : grid0.Coords) (e : Fin 8) (he : (i 1).val = e.val) (v6 v13 : Vec Ideal S1024x128 .f32)
  (mem : Fin 1024 → Prop) [DecidablePred mem]
  (hm : ∀ r, v6 (ix2 r (lane e)) = if mem r then 1 else 0)
  (hr : ∀ r, v13 (ix2 r (lane e)) = ((rank mem r : ℝ) : EReal))

include he

/-- A table's column of the expert. -/
theorem pay29_apply (r : Fin 1024) : k0_pay29 (F := Ideal) i v6 (ix2 r 0) = v6 (ix2 r (lane e)) := by
  pointwise [k0_pay29]
  exact sum_pick i (fun k => v6 (ix2 r k)) e he

/-- A table's column of the expert. -/
theorem pay30_apply (r : Fin 1024) : k0_pay30 (F := Ideal) i v13 (ix2 r 0) = v13 (ix2 r (lane e)) := by
  pointwise [k0_pay30]
  exact sum_pick i (fun k => v13 (ix2 r k)) e he

include hm hr

/-- The number of rows gathered is above the rank of every member. -/
theorem pay31_gt (r : Fin 1024) (h : mem r) (f : ℝ) (hf : f ≤ rank mem r) : (f : EReal) < k0_pay31 (F := Ideal) i v6 v13 := by
  pointwise [k0_pay31]
  refine lt_of_lt_of_le ?_ (le_fold_max_of _ (r, 0) _)
  rw [pay29_apply i e he, pay30_apply i e he, hm, hr, if_pos h, one_mul, ← EReal.coe_one, ← EReal.coe_add, EReal.coe_lt_coe_iff]
  linarith

/-- A pass is taken when a member's rank reaches it. -/
theorem runs_of (r : Fin 1024) (h : mem r) (f : ℝ) (bits : BitVec 32) (hb : Ideal.ofBits .f32 bits = (f : EReal)) (hf : f ≤ rank mem r) :
    runs (F := Ideal) i v6 v13 bits := by
  have h1 : Scalar.cmpf (F := Ideal) .ogt (k0_pay31 (F := Ideal) i v6 v13) (Scalar.ofBits .f32 bits) = 1#1 := by
    show BitVec.ofBool (decide (Ideal.ofBits .f32 bits < k0_pay31 (F := Ideal) i v6 v13)) = 1#1
    rw [hb, decide_eq_true (pay31_gt i e he v6 v13 mem hm hr r h f hf)]
    rfl
  unfold runs
  rw [h1]
  decide

/-- A pass's table: one where a member's rank is the slot. -/
theorem table_entry (r : Fin 1024) (s F : ℕ) (hs : s < 2 ^ 31) (b : EReal) (hb : b = ((F : ℝ) : EReal)) :
    Scalar.select (IntOp.andi (BitVec.ofBool (decide (Ideal.ofBits .f32 1056964608#32 < k0_pay29 (F := Ideal) i v6 (ix2 r 0))))
      (BitVec.ofBool (decide (k0_pay30 (F := Ideal) i v13 (ix2 r 0) = (FloatOps.sitofp .f32 (BitVec.ofNat 32 s) : Ideal .f32) + b))))
      (1 : EReal) 0 = if mem r ∧ rank mem r = s + F then 1 else 0 := by
  rw [pay29_apply i e he, pay30_apply i e he, hm, hr, bits_half, sitofp_small s hs, hb, andi_ofBool, select_ofBool,
    ← EReal.coe_add, ← Nat.cast_add]
  simp only [lane_inj, Bool.and_eq_true, decide_eq_true_eq]
  by_cases h : mem r
  · rw [if_pos h]
    have : (((1 / 2 : ℝ)) : EReal) < 1 := by rw [← EReal.coe_one, EReal.coe_lt_coe_iff]; norm_num
    simp only [this, h]
  · rw [if_neg h]
    have : ¬ (((1 / 2 : ℝ)) : EReal) < 0 := by rw [← EReal.coe_zero, EReal.coe_lt_coe_iff]; norm_num
    simp only [this, h, false_and]

/-- The first pass's table. -/
theorem pay33_apply (r : Fin 1024) (s : Fin 256) :
    k0_pay33 (F := Ideal) i v6 v13 (ix2 r s) = if mem r ∧ rank mem r = s.val + 0 then 1 else 0 := by
  rw [← table_entry i e he v6 v13 mem hm hr r s.val 0 (by omega) 0 (by simp)]
  pointwise [k0_pay33, k0_pay32]
  try rw [add_zero]

/-- The second pass's table. -/
theorem pay40_apply (r : Fin 1024) (s : Fin 128) :
    k0_pay40 (F := Ideal) i v6 v13 (ix2 r s) = if mem r ∧ rank mem r = s.val + 256 then 1 else 0 := by
  rw [← table_entry i e he v6 v13 mem hm hr r s.val 256 (by omega) (Ideal.ofBits .f32 0x43800000#32) (by rw [bits_256]; norm_num)]
  pointwise [k0_pay40, k0_pay39]

/-- The third pass's table. -/
theorem pay2_apply (r : Fin 1024) (s : Fin 384) :
    k0_pay2 (F := Ideal) (k0_pay29 i v6) (k0_pay30 i v13) (ix2 r s) = if mem r ∧ rank mem r = s.val + 384 then 1 else 0 := by
  rw [← table_entry i e he v6 v13 mem hm hr r s.val 384 (by omega) (Ideal.ofBits .f32 0x43C00000#32) (by rw [bits_384]; norm_num)]
  pointwise [k0_pay2, k0_pay1]

/-- The fourth pass's table. -/
theorem pay9_apply (r : Fin 1024) (s : Fin 256) :
    k0_pay9 (F := Ideal) (k0_pay29 i v6) (k0_pay30 i v13) (ix2 r s) = if mem r ∧ rank mem r = s.val + 768 then 1 else 0 := by
  rw [← table_entry i e he v6 v13 mem hm hr r s.val 768 (by omega) (Ideal.ofBits .f32 0x44400000#32) (by rw [bits_768]; norm_num)]
  pointwise [k0_pay9, k0_pay8]
end

/-! ## Gathering and the network -/

section
variable (i : grid0.Coords) (v6 v13 : Vec Ideal S1024x128 .f32) (h : Vec Ideal S1024x1024 .bf16)
  (p q : FVec Ideal S1024x1 .f32)

/-- The first pass's rows. -/
theorem pay34_apply (s : Fin 256) (k : Fin 1024) : k0_pay34 (F := Ideal) i v6 v13 h (ix2 s k)
    = ∑ r, k0_pay33 (F := Ideal) i v6 v13 (ix2 r s) * h (ix2 r k) := by
  pointwise [k0_pay34, k0_pay33]

/-- The second pass's rows. -/
theorem pay41_apply (s : Fin 128) (k : Fin 1024) : k0_pay41 (F := Ideal) i v6 v13 h (ix2 s k)
    = ∑ r, k0_pay40 (F := Ideal) i v6 v13 (ix2 r s) * h (ix2 r k) := by
  pointwise [k0_pay41, k0_pay40]

/-- The third pass's rows. -/
theorem pay3_apply (s : Fin 384) (k : Fin 1024) : k0_pay3 (F := Ideal) p q h (ix2 s k)
    = ∑ r, k0_pay2 (F := Ideal) p q (ix2 r s) * h (ix2 r k) := by
  pointwise [k0_pay3, k0_pay2]

/-- The fourth pass's rows. -/
theorem pay10_apply (s : Fin 256) (k : Fin 1024) : k0_pay10 (F := Ideal) p q h (ix2 s k)
    = ∑ r, k0_pay9 (F := Ideal) p q (ix2 r s) * h (ix2 r k) := by
  pointwise [k0_pay10, k0_pay9]
end

/-- One column of what a half of an expert's network makes of a row. -/
abbrev half (wg wu : Vec Ideal S1x1024x1408 .bf16) (wd : Vec Ideal S1x1408x1024 .bf16) (j : Fin 1024) : (Fin 1024 → EReal) → EReal :=
  ffn (fun f k => wg (ix3 0 k f)) (fun f k => wu (ix3 0 k f)) (fun f => wd (ix3 0 f j))

section
variable (wg wu : Vec Ideal S1x1024x1408 .bf16) (wd : Vec Ideal S1x1408x1024 .bf16)

/-- What the half makes of the first pass's rows. -/
theorem pay36_apply (hc : Vec Ideal S256x1024 .bf16) (s : Fin 256) (j : Fin 1024) :
    k0_pay36 (F := Ideal) hc wg wu wd (ix2 s j) = half wg wu wd j fun k => hc (ix2 s k) := by
  pointwise [k0_pay36, k0_pay35]
  rfl

/-- The second half added to the first pass's rows. -/
theorem pay37_apply (hc : Vec Ideal S256x1024 .bf16) (y : Vec Ideal S256x1024 .f32) (s : Fin 256) (j : Fin 1024) :
    k0_pay37 (F := Ideal) hc wg wu wd y (ix2 s j) = y (ix2 s j) + half wg wu wd j fun k => hc (ix2 s k) := by
  pointwise [k0_pay37, k0_pay35]
  rfl

/-- What the half makes of the second pass's rows. -/
theorem pay43_apply (hc : Vec Ideal S128x1024 .bf16) (s : Fin 128) (j : Fin 1024) :
    k0_pay43 (F := Ideal) hc wg wu wd (ix2 s j) = half wg wu wd j fun k => hc (ix2 s k) := by
  pointwise [k0_pay43, k0_pay42]
  rfl

/-- The second half added to the second pass's rows. -/
theorem pay44_apply (hc : Vec Ideal S128x1024 .bf16) (y : Vec Ideal S128x1024 .f32) (s : Fin 128) (j : Fin 1024) :
    k0_pay44 (F := Ideal) hc wg wu wd y (ix2 s j) = y (ix2 s j) + half wg wu wd j fun k => hc (ix2 s k) := by
  pointwise [k0_pay44, k0_pay42]
  rfl

/-- What the half makes of the third pass's rows. -/
theorem pay5_apply (hc : Vec Ideal S384x1024 .bf16) (s : Fin 384) (j : Fin 1024) :
    k0_pay5 (F := Ideal) hc wg wu wd (ix2 s j) = half wg wu wd j fun k => hc (ix2 s k) := by
  pointwise [k0_pay5, k0_pay4]
  rfl

/-- The second half added to the third pass's rows. -/
theorem pay6_apply (hc : Vec Ideal S384x1024 .bf16) (y : Vec Ideal S384x1024 .f32) (s : Fin 384) (j : Fin 1024) :
    k0_pay6 (F := Ideal) hc wg wu wd y (ix2 s j) = y (ix2 s j) + half wg wu wd j fun k => hc (ix2 s k) := by
  pointwise [k0_pay6, k0_pay4]
  rfl

/-- What the half makes of the fourth pass's rows. -/
theorem pay12_apply (hc : Vec Ideal S256x1024 .bf16) (s : Fin 256) (j : Fin 1024) :
    k0_pay12 (F := Ideal) hc wg wu wd (ix2 s j) = half wg wu wd j fun k => hc (ix2 s k) := by
  pointwise [k0_pay12, k0_pay11]
  rfl

/-- The second half added to the fourth pass's rows. -/
theorem pay13_apply (hc : Vec Ideal S256x1024 .bf16) (y : Vec Ideal S256x1024 .f32) (s : Fin 256) (j : Fin 1024) :
    k0_pay13 (F := Ideal) hc wg wu wd y (ix2 s j) = y (ix2 s j) + half wg wu wd j fun k => hc (ix2 s k) := by
  pointwise [k0_pay13, k0_pay11]
  rfl
end

/-! ## Back to the rows -/

section
variable (i : grid0.Coords) (e : Fin 8) (he : (i 1).val = e.val) (gate : Vec Ideal S1024x128 .f32) (y : Vec Ideal S1024x1024 .f32)
include he

/-- The first pass's rows come back. -/
theorem pay38_apply (yc : Vec Ideal S256x1024 .f32) (ct : Vec Ideal S1024x256 .bf16) (r j : Fin 1024) :
    k0_pay38 (F := Ideal) i yc ct gate y (ix2 r j) = y (ix2 r j) + gate (ix2 r (lane e)) *
      (∑ s, ct (ix2 r s) * yc (ix2 s j) + ∑ s, ct (ix2 r s) * (yc (ix2 s j) - yc (ix2 s j))) := by
  pointwise [k0_pay38]
  rw [sum_pick i (fun k => gate (ix2 r k)) e he]

/-- The second pass's rows come back. -/
theorem pay45_apply (yc : Vec Ideal S128x1024 .f32) (ct : Vec Ideal S1024x128 .bf16) (r j : Fin 1024) :
    k0_pay45 (F := Ideal) i yc ct gate y (ix2 r j) = y (ix2 r j) + gate (ix2 r (lane e)) *
      (∑ s, ct (ix2 r s) * yc (ix2 s j) + ∑ s, ct (ix2 r s) * (yc (ix2 s j) - yc (ix2 s j))) := by
  pointwise [k0_pay45]
  rw [sum_pick i (fun k => gate (ix2 r k)) e he]

/-- The third pass's rows come back. -/
theorem pay7_apply (yc : Vec Ideal S384x1024 .f32) (ct : Vec Ideal S1024x384 .bf16) (r j : Fin 1024) :
    k0_pay7 (F := Ideal) (BitVec.ofNat 32 (i 1).val) lanes yc ct gate y (ix2 r j) = y (ix2 r j) + gate (ix2 r (lane e)) *
      (∑ s, ct (ix2 r s) * yc (ix2 s j) + ∑ s, ct (ix2 r s) * (yc (ix2 s j) - yc (ix2 s j))) := by
  pointwise [k0_pay7]
  rw [sum_pick i (fun k => gate (ix2 r k)) e he]

/-- The fourth pass's rows come back. -/
theorem pay14_apply (yc : Vec Ideal S256x1024 .f32) (ct : Vec Ideal S1024x256 .bf16) (r j : Fin 1024) :
    k0_pay14 (F := Ideal) (BitVec.ofNat 32 (i 1).val) lanes yc ct gate y (ix2 r j) = y (ix2 r j) + gate (ix2 r (lane e)) *
      (∑ s, ct (ix2 r s) * yc (ix2 s j) + ∑ s, ct (ix2 r s) * (yc (ix2 s j) - yc (ix2 s j))) := by
  pointwise [k0_pay14]
  rw [sum_pick i (fun k => gate (ix2 r k)) e he]
end
/-! ## The expert's turn -/

section
variable (i : grid0.Coords) (e : Fin 8) (he : (i 1).val = e.val) (v6 v13 : Vec Ideal S1024x128 .f32)
  (mem : Fin 1024 → Prop) [DecidablePred mem]
  (hm : ∀ r, v6 (ix2 r (lane e)) = if mem r then 1 else 0)
  (hr : ∀ r, v13 (ix2 r (lane e)) = ((rank mem r : ℝ) : EReal))
  (h : Vec Ideal S1024x1024 .bf16)
  (wg0 wu0 : Vec Ideal S1x1024x1408 .bf16) (wd0 : Vec Ideal S1x1408x1024 .bf16)
  (wg wu : Vec Ideal S1x1024x1408 .bf16) (wd : Vec Ideal S1x1408x1024 .bf16) (gate : Vec Ideal S1024x128 .f32)
  (y : Vec Ideal S1024x1024 .f32) (r j : Fin 1024)
  (real : ∀ r, IsReal (half wg0 wu0 wd0 j (fun k => h (ix2 r k)) + half wg wu wd j fun k => h (ix2 r k)))

include he hm hr real

/-- What the first pass adds to a row. -/
theorem back1_apply : back1 (F := Ideal) i v6 v13 h wg0 wu0 wd0 wg wu wd gate y (ix2 r j)
    = y (ix2 r j) + gate (ix2 r (lane e)) * (if mem r ∧ 0 ≤ rank mem r ∧ rank mem r < 0 + 256 then
        half wg0 wu0 wd0 j (fun k => h (ix2 r k)) + half wg wu wd j fun k => h (ix2 r k) else 0) := by
  unfold back1
  by_cases hrun : run1 (F := Ideal) i v6 v13
  · rw [if_pos hrun, pay38_apply i e he]
    simp only [pay37_apply, pay36_apply]
    rw [pass_sum mem (rank mem) 0 (rank_inj mem) (fun r k => h (ix2 r k))
      (fun v => half wg0 wu0 wd0 j v + half wg wu wd j v) real (fun r s => k0_pay33 (F := Ideal) i v6 v13 (ix2 r s))
      (fun r s => pay33_apply i e he v6 v13 mem hm hr r s) (fun s k => k0_pay34 (F := Ideal) i v6 v13 h (ix2 s k))
      (fun s k => pay34_apply i v6 v13 h s k) r]
  · rw [if_neg hrun, if_neg, mul_zero, add_zero]
    rintro ⟨h1, h2, -⟩
    exact hrun (runs_of i e he v6 v13 mem hm hr r h1 0 _ (Ideal.ofBits_zero_f32.trans EReal.coe_zero.symm) (by exact_mod_cast h2))

/-- What the second pass adds to a row. -/
theorem back2_apply : back2 (F := Ideal) i v6 v13 h wg0 wu0 wd0 wg wu wd gate y (ix2 r j)
    = y (ix2 r j) + gate (ix2 r (lane e)) * (if mem r ∧ 256 ≤ rank mem r ∧ rank mem r < 256 + 128 then
        half wg0 wu0 wd0 j (fun k => h (ix2 r k)) + half wg wu wd j fun k => h (ix2 r k) else 0) := by
  unfold back2
  by_cases hrun : run2 (F := Ideal) i v6 v13
  · rw [if_pos hrun, pay45_apply i e he]
    simp only [pay44_apply, pay43_apply]
    rw [pass_sum mem (rank mem) 256 (rank_inj mem) (fun r k => h (ix2 r k))
      (fun v => half wg0 wu0 wd0 j v + half wg wu wd j v) real (fun r s => k0_pay40 (F := Ideal) i v6 v13 (ix2 r s))
      (fun r s => pay40_apply i e he v6 v13 mem hm hr r s) (fun s k => k0_pay41 (F := Ideal) i v6 v13 h (ix2 s k))
      (fun s k => pay41_apply i v6 v13 h s k) r]
  · rw [if_neg hrun, if_neg, mul_zero, add_zero]
    rintro ⟨h1, h2, -⟩
    exact hrun (runs_of i e he v6 v13 mem hm hr r h1 256 _ (bits_256) (by exact_mod_cast h2))

/-- What the third pass adds to a row. -/
theorem back3_apply : back3 (F := Ideal) i v6 v13 h wg0 wu0 wd0 wg wu wd gate y (ix2 r j)
    = y (ix2 r j) + gate (ix2 r (lane e)) * (if mem r ∧ 384 ≤ rank mem r ∧ rank mem r < 384 + 384 then
        half wg0 wu0 wd0 j (fun k => h (ix2 r k)) + half wg wu wd j fun k => h (ix2 r k) else 0) := by
  unfold back3
  by_cases hrun : run3 (F := Ideal) i v6 v13
  · rw [if_pos hrun, pay7_apply i e he]
    simp only [pay6_apply, pay5_apply]
    rw [pass_sum mem (rank mem) 384 (rank_inj mem) (fun r k => h (ix2 r k))
      (fun v => half wg0 wu0 wd0 j v + half wg wu wd j v) real (fun r s => k0_pay2 (F := Ideal) (k0_pay29 i v6) (k0_pay30 i v13) (ix2 r s))
      (fun r s => pay2_apply i e he v6 v13 mem hm hr r s) (fun s k => k0_pay3 (F := Ideal) (k0_pay29 i v6) (k0_pay30 i v13) h (ix2 s k))
      (fun s k => pay3_apply h (k0_pay29 i v6) (k0_pay30 i v13) s k) r]
  · rw [if_neg hrun, if_neg, mul_zero, add_zero]
    rintro ⟨h1, h2, -⟩
    exact hrun (runs_of i e he v6 v13 mem hm hr r h1 384 _ (bits_384) (by exact_mod_cast h2))

/-- What the fourth pass adds to a row. -/
theorem back4_apply : back4 (F := Ideal) i v6 v13 h wg0 wu0 wd0 wg wu wd gate y (ix2 r j)
    = y (ix2 r j) + gate (ix2 r (lane e)) * (if mem r ∧ 768 ≤ rank mem r ∧ rank mem r < 768 + 256 then
        half wg0 wu0 wd0 j (fun k => h (ix2 r k)) + half wg wu wd j fun k => h (ix2 r k) else 0) := by
  unfold back4
  by_cases hrun : run4 (F := Ideal) i v6 v13
  · rw [if_pos hrun, pay14_apply i e he]
    simp only [pay13_apply, pay12_apply]
    rw [pass_sum mem (rank mem) 768 (rank_inj mem) (fun r k => h (ix2 r k))
      (fun v => half wg0 wu0 wd0 j v + half wg wu wd j v) real (fun r s => k0_pay9 (F := Ideal) (k0_pay29 i v6) (k0_pay30 i v13) (ix2 r s))
      (fun r s => pay9_apply i e he v6 v13 mem hm hr r s) (fun s k => k0_pay10 (F := Ideal) (k0_pay29 i v6) (k0_pay30 i v13) h (ix2 s k))
      (fun s k => pay10_apply h (k0_pay29 i v6) (k0_pay30 i v13) s k) r]
  · rw [if_neg hrun, if_neg, mul_zero, add_zero]
    rintro ⟨h1, h2, -⟩
    exact hrun (runs_of i e he v6 v13 mem hm hr r h1 768 _ (bits_768) (by exact_mod_cast h2))

/-- What the four passes add to a row: the expert's network of it, weighted by its gate, where the row is a member. -/
theorem backAll_apply : backAll (F := Ideal) i v6 v13 h wg0 wu0 wd0 wg wu wd gate y (ix2 r j)
    = y (ix2 r j) + gate (ix2 r (lane e)) * (if mem r then
        half wg0 wu0 wd0 j (fun k => h (ix2 r k)) + half wg wu wd j fun k => h (ix2 r k) else 0) := by
  unfold backAll
  rw [back4_apply i e he v6 v13 mem hm hr h wg0 wu0 wd0 wg wu wd gate _ r j real,
    back3_apply i e he v6 v13 mem hm hr h wg0 wu0 wd0 wg wu wd gate _ r j real,
    back2_apply i e he v6 v13 mem hm hr h wg0 wu0 wd0 wg wu wd gate _ r j real,
    back1_apply i e he v6 v13 mem hm hr h wg0 wu0 wd0 wg wu wd gate _ r j real]
  exact four_passes _ _ _ (rank_lt mem r)
end

end Cert.Proof.Moe
-- ==== Proof.Blocks.lean ====
module

public import proofs.«01_k».proof.Proof.Main
public import proofs.«01_k».proof.Proof.Expert
public import Idealize.ShloMosaic.Lib.StableHlo.Run
public import Idealize.ShloMosaic.Lib.Pipeline.ValueKit.Geometry

/-!
The arrays the region finds and each window's block of them, entry by entry of the arguments.
-/

@[expose] public section

set_option maxRecDepth 16384

noncomputable section

namespace Cert.Proof.Moe

open Cert.KernelIdeal Cert.KernelIdeal.Gen
open Idealize.ShloMosaic Idealize.ShloMosaic.TcCoe

variable (m : (ℓ : Loc nD τ sig) → Buf (Elt Ideal) ℓ) (c : Dev nD)

/-! ## The arguments -/

/-- The activations. -/
abbrev a0 : Vec Ideal S16384x1024 .f32 := m ((c : Thread nD τ).loc main_arg0)
/-- The gains of the normalisation before the experts. -/
abbrev a1 : Vec Ideal S1024 .f32 := m ((c : Thread nD τ).loc main_arg1)
/-- The router. -/
abbrev a2 : Vec Ideal S1024x8 .f32 := m ((c : Thread nD τ).loc main_arg2)
/-- The router's bias. -/
abbrev a3 : Vec Ideal S8 .f32 := m ((c : Thread nD τ).loc main_arg3)
/-- The experts' gates and what stands beside them. -/
abbrev a4 : Vec Ideal S8x1024x5632 .f32 := m ((c : Thread nD τ).loc main_arg4)
/-- The experts' projections down. -/
abbrev a5 : Vec Ideal S8x2816x1024 .f32 := m ((c : Thread nD τ).loc main_arg5)
/-- The gains of the closing normalisation. -/
abbrev a6 : Vec Ideal S1024 .f32 := m ((c : Thread nD τ).loc main_arg6)

/-! ## The arrays when the region is entered -/

/-- The closing gains, as a row. -/
theorem V_gf : V m c main_v0 = shapeCast S1x1024 (a6 m c) shapeCasts_S1024_S1x1024 := by
  show StableHlo.after _ _ (Proc.devRef .tc main_v0) = _
  simp only [List.flatten_cons, List.flatten_nil, List.append_nil, List.cons_append, List.nil_append]
  after_results
  rfl
/-- The gains, as a row. -/
theorem V_g : V m c main_v1 = shapeCast S1x1024 (a1 m c) shapeCasts_S1024_S1x1024 := by
  show StableHlo.after _ _ (Proc.devRef .tc main_v1) = _
  simp only [List.flatten_cons, List.flatten_nil, List.append_nil, List.cons_append, List.nil_append]
  after_results
  rfl
/-- The router, continued to all lanes. -/
theorem V_rt : V m c main_v2 = pad S1024x128 ![0, 0] ![0, 120] ![0, 0] (a2 m c)
    (sitofp (F := Ideal) .f32 (constantI S_ 32 0#32)) pads_S1024x8_S1024x128_000_01200 h_S_ := by
  show StableHlo.after _ _ (Proc.devRef .tc main_v2) = _
  simp only [List.flatten_cons, List.flatten_nil, List.append_nil, List.cons_append, List.nil_append]
  after_results
  rfl
/-- The router's bias, continued to all lanes. -/
theorem V_rb : V m c main_v4 = shapeCast S1x128 (pad S128 ![0] ![120] ![0] (a3 m c)
    (sitofp (F := Ideal) .f32 (constantI S_ 32 0#32)) pads_S8_S128_01200 h_S_) shapeCasts_S128_S1x128 := by
  show StableHlo.after _ _ (Proc.devRef .tc main_v4) = _
  simp only [List.flatten_cons, List.flatten_nil, List.append_nil, List.cons_append, List.nil_append]
  after_results
  rfl
/-- The experts' gates. -/
theorem V_gu : V m c main_v5 = truncf (F := Ideal) (φ := .f32) .bf16 (a4 m c) bitsLt_bf16_f32 := by
  show StableHlo.after _ _ (Proc.devRef .tc main_v5) = _
  simp only [List.flatten_cons, List.flatten_nil, List.append_nil, List.cons_append, List.nil_append]
  after_results
/-- The experts' projections down. -/
theorem V_wd : V m c main_v6 = truncf (F := Ideal) (φ := .f32) .bf16 (a5 m c) bitsLt_bf16_f32 := by
  show StableHlo.after _ _ (Proc.devRef .tc main_v6) = _
  simp only [List.flatten_cons, List.flatten_nil, List.append_nil, List.cons_append, List.nil_append]
  after_results

/-- A closing gain. -/
theorem V_gf_apply (k : Fin 1024) : V m c main_v0 (ix2 0 k) = a6 m c (ix1 k) := by
  rw [V_gf]
  generalize a6 m c = a
  pointwise []
/-- A gain. -/
theorem V_g_apply (k : Fin 1024) : V m c main_v1 (ix2 0 k) = a1 m c (ix1 k) := by
  rw [V_g]
  generalize a1 m c = a
  pointwise []
/-- The router at an expert's lane. -/
theorem V_rt_apply (k : Fin 1024) (e : Fin 8) : V m c main_v2 (ix2 k (lane e)) = a2 m c (ix2 k e) := by
  rw [V_rt]
  generalize a2 m c = a
  pointwise []
  exact dif_pos e.isLt
/-- The router's bias at an expert's lane. -/
theorem V_rb_apply (e : Fin 8) : V m c main_v4 (ix2 0 (lane e)) = a3 m c (ix1 e) := by
  rw [V_rb]
  generalize a3 m c = a
  pointwise []
  exact dif_pos e.isLt
/-- The experts' gates, entry by entry. -/
theorem V_gu_apply (i : S8x1024x5632.Idx) : V m c main_v5 i = a4 m c i := by
  rw [V_gu]; rfl
/-- The experts' projections down, entry by entry. -/
theorem V_wd_apply (i : S8x2816x1024.Idx) : V m c main_v6 i = a5 m c i := by
  rw [V_wd]; rfl

/-! ## The windows' blocks -/

/-- At a point the block of the activations are the tile's. -/
theorem index0 : ∀ t : Fin cfg0.N, win0_0.index t = ![t.val / 16, 0] := (by decide +kernel : ∀ t : Fin grid0.N, _)
/-- At a point the block of the gains are the whole row. -/
theorem index1 : ∀ t : Fin cfg0.N, win0_1.index t = ![0, 0] := (by decide +kernel : ∀ t : Fin grid0.N, _)
/-- At a point the block of the router is whole. -/
theorem index2 : ∀ t : Fin cfg0.N, win0_2.index t = ![0, 0] := (by decide +kernel : ∀ t : Fin grid0.N, _)
/-- At a point the block of the router's bias is whole. -/
theorem index3 : ∀ t : Fin cfg0.N, win0_3.index t = ![0, 0] := (by decide +kernel : ∀ t : Fin grid0.N, _)
/-- At a point the block of the gates are the expert's, this half of them. -/
theorem index4 : ∀ t : Fin cfg0.N, win0_4.index t = ![t.val % 16 / 2, 0, t.val % 2] := (by decide +kernel : ∀ t : Fin grid0.N, _)
/-- At a point the block of the values beside the gates are the expert's, this half of them. -/
theorem index5 : ∀ t : Fin cfg0.N, win0_5.index t = ![t.val % 16 / 2, 0, 2 + t.val % 2] := (by decide +kernel : ∀ t : Fin grid0.N, _)
/-- At a point the block of the projections are the expert's, this half of them. -/
theorem index6 : ∀ t : Fin cfg0.N, win0_6.index t = ![t.val % 16 / 2, t.val % 2, 0] := (by decide +kernel : ∀ t : Fin grid0.N, _)
/-- At a point the block of the closing gains are the whole row. -/
theorem index7 : ∀ t : Fin cfg0.N, win0_7.index t = ![0, 0] := (by decide +kernel : ∀ t : Fin grid0.N, _)
/-- At a point the block of the result is the tile's. -/
theorem index8 : ∀ t : Fin cfg0.N, win0_8.index t = ![t.val / 16, 0] := (by decide +kernel : ∀ t : Fin grid0.N, _)

/-- The row of the activations a tile's row is. -/
abbrev rowOf (t : Fin cfg0.N) (r : Fin 1024) : Fin 16384 :=
  ⟨t.val / 16 * 1024 + r.val, by have h := t.isLt; have h' : cfg0.N = 256 := rfl; have := r.isLt; omega⟩

/-- The expert of a point. -/
abbrev expOf (t : Fin cfg0.N) : Fin 8 := ⟨t.val % 16 / 2, by omega⟩

/-- A tile of activations. -/
theorem iblk0_apply (t : Fin cfg0.N) (r k : Fin 1024) : iblk m c 0 t (ix2 r k) = a0 m c (ix2 (rowOf t r) k) := by
  blk_simp [iblk]
  refine (congrFun (V_main_arg0 m c) _).trans (congrArg (a0 m c) ?_)
  blk_ext [index0 t]
/-- The gains. -/
theorem iblk1_apply (t : Fin cfg0.N) (k : Fin 1024) : iblk m c 1 t (ix2 0 k) = a1 m c (ix1 k) := by
  blk_simp [iblk]
  refine Eq.trans (congrArg (V m c main_v1) ?_) (V_g_apply m c k)
  blk_ext [index1 t]
/-- The router at an expert's lane. -/
theorem iblk2_apply (t : Fin cfg0.N) (k : Fin 1024) (e : Fin 8) : iblk m c 2 t (ix2 k (lane e)) = a2 m c (ix2 k e) := by
  blk_simp [iblk]
  refine Eq.trans (congrArg (V m c main_v2) ?_) (V_rt_apply m c k e)
  blk_ext [index2 t]
/-- The router's bias at an expert's lane. -/
theorem iblk3_apply (t : Fin cfg0.N) (e : Fin 8) : iblk m c 3 t (ix2 0 (lane e)) = a3 m c (ix1 e) := by
  blk_simp [iblk]
  refine Eq.trans (congrArg (V m c main_v4) ?_) (V_rb_apply m c e)
  blk_ext [index3 t]
/-- The closing gains. -/
theorem iblk7_apply (t : Fin cfg0.N) (k : Fin 1024) : iblk m c 7 t (ix2 0 k) = a6 m c (ix1 k) := by
  blk_simp [iblk]
  refine Eq.trans (congrArg (V m c main_v0) ?_) (V_gf_apply m c k)
  blk_ext [index7 t]
/-- A half of the expert's gates. -/
theorem iblk4_apply (t : Fin cfg0.N) (k : Fin 1024) (f : Fin 1408) : iblk m c 4 t (ix3 0 k f)
    = a4 m c (ix3 (expOf t) k ⟨t.val % 2 * 1408 + f.val, by omega⟩) := by
  blk_simp [iblk]
  refine Eq.trans (V_gu_apply m c _) (congrArg (a4 m c) ?_)
  blk_ext [index4 t]
/-- A half of what stands beside the expert's gates. -/
theorem iblk5_apply (t : Fin cfg0.N) (k : Fin 1024) (f : Fin 1408) : iblk m c 5 t (ix3 0 k f)
    = a4 m c (ix3 (expOf t) k ⟨(2 + t.val % 2) * 1408 + f.val, by omega⟩) := by
  blk_simp [iblk]
  refine Eq.trans (V_gu_apply m c _) (congrArg (a4 m c) ?_)
  blk_ext [index5 t]
/-- A half of the expert's projections down. -/
theorem iblk6_apply (t : Fin cfg0.N) (f : Fin 1408) (k : Fin 1024) : iblk m c 6 t (ix3 0 f k)
    = a5 m c (ix3 (expOf t) ⟨t.val % 2 * 1408 + f.val, by omega⟩ k) := by
  blk_simp [iblk]
  refine Eq.trans (V_wd_apply m c _) (congrArg (a5 m c) ?_)
  blk_ext [index6 t]
end Cert.Proof.Moe
-- ==== Proof.KValue.lean ====
module

public import proofs.«01_k».proof.Proof.Blocks

/-!
The result array of the kernel's run, row by row: a row of the specification.
-/

@[expose] public section

set_option maxRecDepth 16384

noncomputable section

namespace Cert.Proof.Moe

open Cert.KernelIdeal Cert.KernelIdeal.Gen
open Idealize.ShloMosaic Idealize.ShloMosaic.TcCoe

variable (m : (ℓ : Loc nD τ sig) → Buf (Elt Ideal) ℓ) (c : Dev nD)

/-! ## The specification at the arguments -/

/-- A row of activations. -/
abbrev xs (R : Fin 16384) (k : Fin 1024) : EReal := a0 m c (ix2 R k)
/-- The gains. -/
abbrev gs (k : Fin 1024) : EReal := a1 m c (ix1 k)
/-- The router's columns. -/
abbrev rts (e : Fin 8) (k : Fin 1024) : EReal := a2 m c (ix2 k e)
/-- The router's biases. -/
abbrev rbs (e : Fin 8) : EReal := a3 m c (ix1 e)
/-- The experts' gate columns. -/
abbrev wgs (e : Fin 8) (f : Fin 2816) (k : Fin 1024) : EReal := a4 m c (ix3 e k ⟨f.val, by omega⟩)
/-- The columns beside the experts' gates. -/
abbrev wus (e : Fin 8) (f : Fin 2816) (k : Fin 1024) : EReal := a4 m c (ix3 e k ⟨2816 + f.val, by omega⟩)
/-- The experts' projections down. -/
abbrev wds (e : Fin 8) (j : Fin 1024) (f : Fin 2816) : EReal := a5 m c (ix3 e f j)
/-- The closing gains. -/
abbrev gfs (k : Fin 1024) : EReal := a6 m c (ix1 k)
/-- A row, normalised. -/
abbrev hs (R : Fin 16384) : Fin 1024 → EReal := rms (xs m c R) (gs m c)
/-- A row's logits. -/
abbrev ls (R : Fin 16384) (e : Fin 8) : EReal := logit (hs m c R) (rts m c e) (rbs m c e)

/-- Every argument that enters the mixture of experts is real. -/
structure Reals : Prop where
  x : ∀ R k, IsReal (xs m c R k)
  g : ∀ k, IsReal (gs m c k)
  rt : ∀ e k, IsReal (rts m c e k)
  rb : ∀ e, IsReal (rbs m c e)
  gu : ∀ i, IsReal (a4 m c i)
  wd : ∀ i, IsReal (a5 m c i)

variable {m c} in
/-- A normalised row is real. -/
theorem Reals.h (hR : Reals m c) (R : Fin 16384) (k : Fin 1024) : IsReal (hs m c R k) := rms_real (hR.x R) hR.g k

variable {m c} in
/-- The logits are real. -/
theorem Reals.l (hR : Reals m c) (R : Fin 16384) (e : Fin 8) : IsReal (ls m c R e) := logit_real (hR.h R) (hR.rt e) (hR.rb e)

/-! ## A tile's tables -/

section
variable (t : Fin cfg0.N) (A B : Fin 16384 → Fin 8) (hR : Reals m c) (hT : ∀ R, Top (ls m c R) (A R) (B R))

/-- A tile's rows are the same at the tile's first point. -/
theorem rowOf_ts (r : Fin 1024) : rowOf (ts t) r = rowOf t r := by
  have : (ts t).val / 16 = t.val / 16 := by
    show (t.val / 16 * 16) / 16 = t.val / 16
    omega
  exact Fin.ext (by show (ts t).val / 16 * 1024 + r.val = t.val / 16 * 1024 + r.val; rw [this])

/-- A tile's normalised rows. -/
theorem hAt_apply (r k : Fin 1024) : hAt m c t (ix2 r k) = hs m c (rowOf t r) k := by
  unfold hAt
  rw [pay17_apply]
  simp only [iblk0_apply, iblk1_apply, rowOf_ts]

/-- A tile's logits. -/
theorem lgAt_apply (r : Fin 1024) (k : Fin 128) : k0_pay19 (iblk m c 0 (ts t)) (iblk m c 1 (ts t)) (iblk m c 2 (ts t)) (iblk m c 3 (ts t)) (ix2 r k)
    = lift 128 (ls m c (rowOf t r)) k := by
  rw [pay19_apply]
  simp only [iblk0_apply, iblk1_apply, rowOf_ts]
  refine congrArg (fun l => lift 128 l k) (funext fun e => ?_)
  rw [iblk3_apply]
  refine congrArg (fun w => logit (hs m c (rowOf t r)) w (rbs m c e)) (funext fun k => ?_)
  exact iblk2_apply m c (ts t) k e

include hR hT

/-- A tile's gates. -/
theorem gateAt_apply (r : Fin 1024) (e : Fin 8) : gateAt m c t (ix2 r (lane e))
    = weight (ls m c (rowOf t r)) (A (rowOf t r)) (B (rowOf t r)) e :=
  gateT_apply _ _ _ _ (fun r => ls m c (rowOf t r)) (fun r => A (rowOf t r)) (fun r => B (rowOf t r))
    (fun r => hR.l _) (fun r => hT _) (lgAt_apply m c t) r e

/-- A tile's membership. -/
theorem membAt_apply (r : Fin 1024) (k : Fin 128) : membAt m c t (ix2 r k)
    = if k = lane (A (rowOf t r)) ∨ k = lane (B (rowOf t r)) then 1 else 0 :=
  membT_apply _ _ _ _ (fun r => ls m c (rowOf t r)) (fun r => A (rowOf t r)) (fun r => B (rowOf t r))
    (fun r => hR.l _) (fun r => hT _) (lgAt_apply m c t) r k

/-- A tile's ranks. -/
theorem rankAt_apply (r : Fin 1024) (k : Fin 128) : rankAt m c t (ix2 r k)
    = ((rank (fun q : Fin 1024 => k = lane (A (rowOf t q)) ∨ k = lane (B (rowOf t q))) r : ℝ) : EReal) :=
  rankT_apply _ _ _ _ (fun r => ls m c (rowOf t r)) (fun r => A (rowOf t r)) (fun r => B (rowOf t r))
    (fun r => hR.l _) (fun r => hT _) (lgAt_apply m c t) r k

/-! ## An expert's turn -/

/-- What an expert adds to a row. -/
abbrev term (R : Fin 16384) (j : Fin 1024) (e : Fin 8) : EReal :=
  weight (ls m c R) (A R) (B R) e * ffn (wgs m c e) (wus m c e) (wds m c e j) (hs m c R)

omit hR hT in
/-- The two halves at a point and the one before are the expert's network. -/
theorem halves_apply (t' : Fin cfg0.N) (ht : t'.val + 1 = t.val) (h2 : t.val % 2 = 1) (j : Fin 1024) (h : Fin 1024 → EReal) :
    half (iblk m c 4 t') (iblk m c 5 t') (iblk m c 6 t') j h + half (iblk m c 4 t) (iblk m c 5 t) (iblk m c 6 t) j h
      = ffn (wgs m c (expOf t)) (wus m c (expOf t)) (wds m c (expOf t) j) h := by
  have he : expOf t' = expOf t := Fin.ext (by show t'.val % 16 / 2 = t.val % 16 / 2; omega)
  have h2' : t'.val % 2 = 0 := by omega
  refine Eq.trans ?_ (ffn_halves (d := 1408) (wgs m c (expOf t)) (wus m c (expOf t)) (wds m c (expOf t) j) h).symm
  unfold half
  congr 1 <;> congr 1 <;> funext f
  · funext k
    exact (iblk4_apply m c t' k f).trans (congrArg (a4 m c) (congrArg₂ (fun a b => ix3 a k b) he (Fin.ext (by
      show t'.val % 2 * 1408 + f.val = f.val; omega))))
  · funext k
    exact (iblk5_apply m c t' k f).trans (congrArg (a4 m c) (congrArg₂ (fun a b => ix3 a k b) he (Fin.ext (by
      show (2 + t'.val % 2) * 1408 + f.val = 2816 + f.val; omega))))
  · exact (iblk6_apply m c t' f j).trans (congrArg (a5 m c) (congrArg₂ (fun a b => ix3 a b j) he (Fin.ext (by
      show t'.val % 2 * 1408 + f.val = f.val; omega))))
  · funext k
    exact (iblk4_apply m c t k f).trans (congrArg (fun b => a4 m c (ix3 (expOf t) k b)) (Fin.ext (by
      show t.val % 2 * 1408 + f.val = 1408 + f.val; omega)))
  · funext k
    exact (iblk5_apply m c t k f).trans (congrArg (fun b => a4 m c (ix3 (expOf t) k b)) (Fin.ext (by
      show (2 + t.val % 2) * 1408 + f.val = 2816 + (1408 + f.val); omega)))
  · exact (iblk6_apply m c t f j).trans (congrArg (fun b => a5 m c (ix3 (expOf t) b j)) (Fin.ext (by
      show t.val % 2 * 1408 + f.val = 1408 + f.val; omega)))

omit hT in
/-- An expert's network of a row is real. -/
theorem ffn_isReal (e : Fin 8) (R : Fin 16384) (j : Fin 1024) : IsReal (ffn (wgs m c e) (wus m c e) (wds m c e j) (hs m c R)) :=
  ffn_real (fun _ _ => hR.gu _) (fun _ _ => hR.gu _) (fun _ => hR.wd _) (hR.h R)

/-- What comes back to a tile's row at an expert's last point. -/
theorem backAt_apply (t' : Fin cfg0.N) (ht : t'.val + 1 = t.val) (h2 : t.val % 2 = 1) (y : Vec Ideal S1024x1024 .f32) (r j : Fin 1024) :
    backAt m c t t' y (ix2 r j) = y (ix2 r j) + term m c A B (rowOf t r) j (expOf t) := by
  have hrow : ∀ r, (fun k => hAt m c t (ix2 r k)) = hs m c (rowOf t r) := fun r => funext (hAt_apply m c t r)
  unfold backAt
  rw [backAll_apply (grid0.coords t) (expOf t) (expert_at t) (membAt m c t) (rankAt m c t)
    (fun r => lane (expOf t) = lane (A (rowOf t r)) ∨ lane (expOf t) = lane (B (rowOf t r)))
    (fun r => membAt_apply m c t A B hR hT r _) (fun r => rankAt_apply m c t A B hR hT r _) (hAt m c t)
    (iblk m c 4 t') (iblk m c 5 t') (iblk m c 6 t') (iblk m c 4 t) (iblk m c 5 t) (iblk m c 6 t) (gateAt m c t) y r j
    (fun r => by rw [halves_apply m c t t' ht h2, hrow]; exact ffn_isReal m c hR _ _ _)]
  rw [halves_apply m c t t' ht h2, hrow, gateAt_apply m c t A B hR hT]
  refine congrArg (y (ix2 r j) + ·) ?_
  unfold term
  by_cases hm : lane (expOf t) = lane (A (rowOf t r)) ∨ lane (expOf t) = lane (B (rowOf t r))
  · rw [if_pos hm]
  · have hne : expOf t ≠ A (rowOf t r) ∧ expOf t ≠ B (rowOf t r) :=
      ⟨fun e => hm (Or.inl (congrArg lane e)), fun e => hm (Or.inr (congrArg lane e))⟩
    rw [if_neg hm, weight, if_neg hne.1, if_neg hne.2, mul_zero, zero_mul]

/-! ## The turns of all experts -/

/-- What an expert adds, by its number. -/
abbrev termN (R : Fin 16384) (j : Fin 1024) (n : ℕ) : EReal := if h : n < 8 then term m c A B R j ⟨n, h⟩ else 0

/-- At the first point of an expert the tile holds the activations with the earlier experts' parts added. -/
theorem yAt_experts (n : ℕ) (hn : n < 8) : ∀ t : Fin cfg0.N, t.val % 16 = 2 * n → ∀ r j : Fin 1024,
    yAt m c t.val t.isLt (ix2 r j) = xs m c (rowOf t r) j + ∑ e ∈ Finset.range n, termN m c A B (rowOf t r) j e := by
  induction n with
  | zero =>
    intro t ht r j
    rw [yAt_start m c t (by omega), iblk0_apply]
    simp
  | succ n ih =>
    intro t ht r j
    have hlt := t.isLt
    let t₁ : Fin cfg0.N := ⟨t.val - 1, by omega⟩
    let t₀ : Fin cfg0.N := ⟨t.val - 2, by omega⟩
    have h1 : t₁.val = t.val - 1 := rfl
    have h0 : t₀.val = t.val - 2 := rfl
    have e1 : rowOf t₁ r = rowOf t r := Fin.ext (by show t₁.val / 16 * 1024 + r.val = t.val / 16 * 1024 + r.val; omega)
    have e0 : rowOf t₀ r = rowOf t r := Fin.ext (by show t₀.val / 16 * 1024 + r.val = t.val / 16 * 1024 + r.val; omega)
    have ee : expOf t₁ = ⟨n, by omega⟩ := Fin.ext (by show t₁.val % 16 / 2 = n; omega)
    rw [yAt_first m c t t₁ (by omega) (by omega) (by omega), yAt_last m c t₁ t₀ (by omega) (by omega) (by omega),
      backAt_apply m c t₁ A B hR hT t₀ (by omega) (by omega), ih (by omega) t₀ (by omega) r j, e1, e0, ee,
      Finset.sum_range_succ, termN, dif_pos (show n < 8 by omega), add_assoc]

/-- What is written back of a tile: rows of the specification. -/
theorem yAt_last_point (t : Fin cfg0.N) (ht : t.val % 16 = 15) (r j : Fin 1024) : yAt m c t.val t.isLt (ix2 r j)
    = outRow (xs m c (rowOf t r)) (gs m c) (rts m c) (rbs m c) (wgs m c) (wus m c) (wds m c) (gfs m c)
      (A (rowOf t r)) (B (rowOf t r)) j := by
  have hlt := t.isLt
  let t₀ : Fin cfg0.N := ⟨t.val - 1, by omega⟩
  have h0 : t₀.val = t.val - 1 := rfl
  have ee : expOf t = ⟨7, by omega⟩ := Fin.ext (by show t.val % 16 / 2 = 7; omega)
  have e0 : rowOf t₀ r = rowOf t r := Fin.ext (by show t₀.val / 16 * 1024 + r.val = t.val / 16 * 1024 + r.val; omega)
  rw [yAt_end m c t t₀ (by omega) ht, pay15_apply]
  have hrow : (fun j => backAt m c t t₀ (yAt m c t₀.val t₀.isLt) (ix2 r j))
      = fun j => xs m c (rowOf t r) j + ∑ e, term m c A B (rowOf t r) j e := by
    funext j
    rw [backAt_apply m c t A B hR hT t₀ (by omega) (by omega), yAt_experts m c A B hR hT 7 (by omega) t₀ (by omega) r j, e0, ee,
      add_assoc]
    refine congrArg (xs m c (rowOf t r) j + ·) ?_
    have := Finset.sum_range_succ (termN m c A B (rowOf t r) j) 7
    rw [Finset.sum_range] at this
    refine (Eq.trans ?_ this.symm).trans (Finset.sum_congr rfl fun e _ => dif_pos e.isLt)
    rw [termN, dif_pos (by omega)]
  rw [hrow]
  refine congrArg (fun g => rms _ g j) (funext fun k => iblk7_apply m c t k)

/-! ## The result array -/

/-- The specification as an array. -/
def outArr (i : S16384x1024.Idx) : EReal :=
  outRow (xs m c (i 0)) (gs m c) (rts m c) (rbs m c) (wgs m c) (wus m c) (wds m c) (gfs m c) (A (i 0)) (B (i 0)) (i 1)

/-- After the run the result array is the specification. -/
theorem final_y : (dats m 0 c).arrAt 8 cfg0.N = outArr m c A B := by
  refine (dats m 0 c).arrAt_eq_of_covers 8 _ (by decide +kernel) fun t hf y => ?_
  blk_simp
  rw [after0_8]
  have ht : t.val % 16 = 15 := (flush0_8 t).1 hf
  have hy : y = ix2 (y 0) (y 1) := by
    funext a; fin_cases a <;> rfl
  have he : (win0_8.blk t).view.emb y = ix2 (rowOf t (y 0)) (y 1) := by
    blk_ext [index8 t]
  rw [he]
  conv_lhs => rw [hy]
  exact yAt_last_point m c A B hR hT t ht (y 0) (y 1)
end
end Cert.Proof.Moe
-- ==== Proof.Sort.lean ====
module

public import proofs.«01_k».proof.Proof.Spec
public import Idealize.ShloMosaic.Lib.Pointwise
public import Idealize.ShloMosaic.Lib.SortFacts

/-!
A stable sort's first two places are the two largest values' places, the lower first among equals.
-/

@[expose] public section

noncomputable section

namespace Cert.Proof.Moe

open Idealize.ShloMosaic

/-- Two relations that agree whenever the second place stands earlier in the list sort the list alike. -/
theorem stableSort_eq {ι : Type} (R B : ι → ι → Bool) (l : List ι) (h : l.Pairwise fun a b => R b a = B b a) :
    stableSort R l = stableSort B l := by
  induction l with
  | nil => rfl
  | cons a l ih =>
    rw [List.pairwise_cons] at h
    unfold stableSort
    rw [ih h.2]
    exact insertBefore_congr R B a _ fun b hb => h.1 b ((perm_stableSort B l).mem_iff.mp hb)

section
variable {n : ℕ} (l : Fin (n + 2) → EReal)

/-- The larger value first. -/
def larger (k k' : Fin (n + 2)) : Bool := decide (l k' < l k)

/-- The larger value first, the lower place first among equals. -/
def first (k k' : Fin (n + 2)) : Bool := decide (l k' < l k ∨ l k = l k' ∧ k < k')

/-- The stable sort by value alone is the sort by value and place. -/
theorem sortedFrom_larger : sortedFrom (larger l) = sortedFrom (first l) := by
  have h : sortPositions (n + 2) (larger l) = sortPositions (n + 2) (first l) := by
    refine stableSort_eq _ _ _ ((List.pairwise_lt_finRange (n + 2)).imp fun {a b} hab => ?_)
    have : ¬ b < a := not_lt_of_gt hab
    simp [larger, first, this]
  funext k
  unfold sortedFrom
  rw [List.get_of_eq h]
  rfl

/-- A later place is not before an earlier one. -/
theorem sorted_first (i j : Fin (n + 2)) (hij : i < j) :
    l (sortedFrom (first l) j) < l (sortedFrom (first l) i)
      ∨ (l (sortedFrom (first l) j) = l (sortedFrom (first l) i) ∧ sortedFrom (first l) i ≤ sortedFrom (first l) j) := by
  have h := sortedFrom_noInversion (first l) (first l) ?_ (fun _ _ h => h) ?_ i j hij
  · simp only [first, decide_eq_false_iff_not, not_or, not_lt, not_and] at h
    rcases lt_or_eq_of_le h.1 with h' | h'
    · exact Or.inl h'
    · exact Or.inr ⟨h', h.2 h'⟩
  · intro a b h
    simp only [first, decide_eq_true_eq, decide_eq_false_iff_not, not_or, not_lt, not_and] at h ⊢
    rcases h with h | ⟨h, h'⟩
    · exact ⟨h.le, fun e => absurd h (by rw [e]; exact lt_irrefl _)⟩
    · exact ⟨h.ge, fun _ => h'.le⟩
  · intro a b c hab hbc
    simp only [first, decide_eq_false_iff_not, not_or, not_lt, not_and] at hab hbc ⊢
    refine ⟨hab.1.trans hbc.1, fun e => ?_⟩
    have e1 : l a = l b := le_antisymm hab.1 (e ▸ hbc.1)
    have e2 : l b = l c := e1 ▸ e
    exact (hbc.2 e2).trans (hab.2 e1)

/-- The first two places of the sort are the two largest. -/
theorem sorted_top : Top l (sortedFrom (larger l) 0) (sortedFrom (larger l) 1) := by
  rw [sortedFrom_larger]
  refine ⟨fun e => ?_, fun h => ?_, fun e he => ?_⟩
  · obtain ⟨k, rfl⟩ := sortedFrom_surjective (first l) e
    by_cases hk : k = 0
    · subst hk; exact Or.inr ⟨rfl, le_rfl⟩
    · exact sorted_first l 0 k (Fin.pos_of_ne_zero hk)
  · exact absurd (congrArg Fin.val (sortedFrom_injective (first l) h)) (by simp)
  · obtain ⟨k, rfl⟩ := sortedFrom_surjective (first l) e
    have hk : k ≠ 0 := fun h => he (by rw [h])
    by_cases hk1 : k = 1
    · subst hk1; exact Or.inr ⟨rfl, le_rfl⟩
    · refine sorted_first l 1 k ?_
      rw [Fin.lt_def]
      have h0 : k.val ≠ 0 := fun h => hk (Fin.ext h)
      have h1 : k.val ≠ 1 := fun h => hk1 (Fin.ext h)
      show 1 % (n + 2) < k.val
      rw [Nat.mod_eq_of_lt (by omega)]
      omega
end

/-- A compare of values is the relation of the sort. -/
theorem larger_eq {n : ℕ} (l : Fin (n + 2) → EReal) (k k' : Fin (n + 2)) :
    (FloatOps.cmpfTotal (F := Ideal) (φ := .f32) .gt (l k) (l k') == 1#1) = larger l k k' := by
  rw [Ideal.cmpfTotal_def]
  simp only [Ideal.cmp, CmpDirection.ordered, larger]
  cases decide (l k' < l k) <;> rfl

section
variable {m n : ℕ} (x : (⟨2, ![m, n + 2]⟩ : Shape).Idx → EReal) (h : (⟨2, ![m, n + 2]⟩ : Shape).Slices (fun _ => 0) ⟨2, ![m, 2]⟩)
  (R : Fin m) (i : Fin 2)

/-- A place along a row. -/
theorem along_row (k k' : Fin (n + 2)) : (ix2 R k' : (⟨2, ![m, n + 2]⟩ : Shape).Idx).along 1 k = ix2 R k := by
  funext a
  match a with
  | ⟨0, _⟩ => rfl
  | ⟨1, _⟩ => rfl

/-- The order of a row's places is the one by value. -/
theorem sort_row (q : Fin (n + 2)) : sortedFrom (fun k k' : Fin (n + 2) => FloatOps.cmpfTotal (F := Ideal) (φ := .f32) .gt
      (x ((ix2 R q : (⟨2, ![m, n + 2]⟩ : Shape).Idx).along 1 k)) (x ((ix2 R q : (⟨2, ![m, n + 2]⟩ : Shape).Idx).along 1 k')) == 1#1)
    = sortedFrom (larger fun k => x (ix2 R k)) := by
  refine congrArg sortedFrom (funext fun k => funext fun k' => ?_)
  exact (congrArg₂ (fun a b => FloatOps.cmpfTotal (F := Ideal) (φ := .f32) .gt (x a) (x b) == 1#1) (along_row R k q)
    (along_row R k' q)).trans (larger_eq (fun k => x (ix2 R k)) k k')

/-- The largest values of a row. -/
theorem topK_values : (Host.topK ⟨2, ![m, 2]⟩ 1 (FloatOps.cmpfTotal (F := Ideal) (φ := .f32) .gt) x h).1 (ix2 R i)
    = x (ix2 R (sortedFrom (larger fun k => x (ix2 R k)) (i.castLE (by omega)))) := by
  have e := extractStridedSlice_apply (fun _ => 0) (fun j : (⟨2, ![m, n + 2]⟩ : Shape).Idx => x (j.along 1 (sortedFrom
    (fun k k' => FloatOps.cmpfTotal (F := Ideal) (φ := .f32) .gt (x (j.along 1 k)) (x (j.along 1 k')) == 1#1) (j 1)))) h (ix2 R i)
    (ix2 R (i.castLE (by omega))) (fun a => match a with | ⟨0, _⟩ => (Nat.zero_add _).symm | ⟨1, _⟩ => (Nat.zero_add _).symm)
  refine Eq.trans ?_ (e.trans ?_)
  · rfl
  · exact (congrArg x (along_row R _ _)).trans (congrArg (fun π => x (ix2 R (π (i.castLE (by omega))))) (sort_row x R _))

/-- Their places. -/
theorem topK_indices : (Host.topK ⟨2, ![m, 2]⟩ 1 (FloatOps.cmpfTotal (F := Ideal) (φ := .f32) .gt) x h).2 (ix2 R i)
    = BitVec.ofNat 32 (sortedFrom (larger fun k => x (ix2 R k)) (i.castLE (by omega))).val := by
  have e := extractStridedSlice_apply (fun _ => 0) (fun j : (⟨2, ![m, n + 2]⟩ : Shape).Idx => BitVec.ofNat 32 ((j.along 1 (sortedFrom
    (fun k k' => FloatOps.cmpfTotal (F := Ideal) (φ := .f32) .gt (x (j.along 1 k)) (x (j.along 1 k')) == 1#1) (j 1))) 1).val) h (ix2 R i)
    (ix2 R (i.castLE (by omega))) (fun a => match a with | ⟨0, _⟩ => (Nat.zero_add _).symm | ⟨1, _⟩ => (Nat.zero_add _).symm)
  refine Eq.trans ?_ (e.trans ?_)
  · rfl
  · exact congrArg (fun π => BitVec.ofNat 32 (π (i.castLE (by omega))).val) (sort_row x R _)
end
end Cert.Proof.Moe
-- ==== Proof.Ref.lean ====
module
public import proofs.«01_k».proof.Proof.Gen.ReferenceIdeal.Run
public import proofs.«01_k».proof.Proof.Gen.ReferenceIdeal.Read
@[expose] public section
-- ==== Proof.RefValue.lean ====
module

public import proofs.«01_k».proof.Proof.Sort
public import proofs.«01_k».proof.Proof.Route
public import proofs.«01_k».proof.Proof.Ref

/-!
The reference's result, row by row: a row of the specification.
-/

@[expose] public section

set_option maxRecDepth 16384

noncomputable section

namespace Cert.Proof.Moe

open Cert.ReferenceIdeal Cert.ReferenceIdeal.Gen Cert.ReferenceIdeal.Read
open Idealize.ShloMosaic

section
variable (x0 : S16384x1024.Idx → EReal) (x1 : S1024.Idx → EReal) (x2 : S1024x8.Idx → EReal) (x3 : S8.Idx → EReal)
  (x4 : S8x1024x5632.Idx → EReal) (x5 : S8x2816x1024.Idx → EReal) (x6 : S1024.Idx → EReal)

/-! ## Routing -/

/-- The normalised rows. -/
theorem ref_h (R : Fin 16384) (k : Fin 1024) :
    val_main_v12 (F := Ideal) x0 x1 (ix2 R k) = rms (fun k => x0 (ix2 R k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- A row's logits. -/
abbrev refL (R : Fin 16384) (e : Fin 8) : EReal :=
  logit (rms (fun k => x0 (ix2 R k)) (fun k => x1 (ix1 k))) (fun k => x2 (ix2 k e)) (x3 (ix1 e))

/-- The logits. -/
theorem ref_l (R : Fin 16384) (e : Fin 8) : val_main_v16 (F := Ideal) x0 x1 x2 x3 (ix2 R e) = refL x0 x1 x2 x3 R e := by
  pointwise [val_main_v16, val_main_v15, val_main_v14, val_main_v13]
  simp only [ref_h]
  rfl

/-- The place of the largest or second largest logit. -/
abbrev place (R : Fin 16384) (i : Fin 2) : Fin 8 :=
  sortedFrom (larger (n := 6) (refL x0 x1 x2 x3 R)) (i.castLE (by omega))

/-- The two largest logits. -/
theorem ref_values (R : Fin 16384) (i : Fin 2) :
    val_main_values (F := Ideal) x0 x1 x2 x3 (ix2 R i) = refL x0 x1 x2 x3 R (place x0 x1 x2 x3 R i) := by
  refine (topK_values (n := 6) (val_main_v16 (F := Ideal) x0 x1 x2 x3) sliceFits_S16384x8_S16384x2 R i).trans ?_
  refine (ref_l x0 x1 x2 x3 R _).trans ?_
  rw [show (fun k : Fin 8 => val_main_v16 (F := Ideal) x0 x1 x2 x3 (ix2 R k)) = refL x0 x1 x2 x3 R from
    funext fun k => ref_l x0 x1 x2 x3 R k]

/-- Their places. -/
theorem ref_indices (R : Fin 16384) (i : Fin 2) :
    val_main_indices (F := Ideal) x0 x1 x2 x3 (ix2 R i) = BitVec.ofNat 32 (place x0 x1 x2 x3 R i).val := by
  refine (topK_indices (n := 6) (val_main_v16 (F := Ideal) x0 x1 x2 x3) sliceFits_S16384x8_S16384x2 R i).trans ?_
  rw [show (fun k : Fin 8 => val_main_v16 (F := Ideal) x0 x1 x2 x3 (ix2 R k)) = refL x0 x1 x2 x3 R from
    funext fun k => ref_l x0 x1 x2 x3 R k]

section
variable (R : Fin 16384) (a b : Fin 8) (hl : ∀ e, IsReal (refL x0 x1 x2 x3 R e)) (ht : Top (refL x0 x1 x2 x3 R) a b)
include ht

/-- The place of the largest. -/
theorem place_zero : place x0 x1 x2 x3 R 0 = a := ((sorted_top (n := 6) (refL x0 x1 x2 x3 R)).unique ht).1

/-- The place of the second largest. -/
theorem place_one : place x0 x1 x2 x3 R 1 = b := ((sorted_top (n := 6) (refL x0 x1 x2 x3 R)).unique ht).2

/-- The larger of the two is the first. -/
theorem ref_max : val_main_v17 (F := Ideal) x0 x1 x2 x3 (ix1 R) = refL x0 x1 x2 x3 R a := by
  pointwise [val_main_v17, val_main_cst_2]
  rw [bits_bot]
  simp only [ref_values]
  rw [fold_max_eq _ (0 : Fin 2), place_zero x0 x1 x2 x3 R a b ht]
  intro i
  rw [place_zero x0 x1 x2 x3 R a b ht]
  exact (ht.1 _).elim le_of_lt fun h => h.1.le

include hl

/-- The two weights. -/
theorem ref_weights (i : Fin 2) : val_main_v27 (F := Ideal) x0 x1 x2 x3 (ix2 R i)
    = weight (refL x0 x1 x2 x3 R) a b (place x0 x1 x2 x3 R i) := by
  have h0 : Ideal.exp (refL x0 x1 x2 x3 R a - refL x0 x1 x2 x3 R a) = 1 := by
    rw [(hl a).sub_self]
    show Ideal.exp ((0 : ℝ) : EReal) = 1
    rw [IsReal.exp_coe, Real.exp_zero, EReal.coe_one]
  pointwise [val_main_v27, val_main_v26, val_main_v25, val_main_v24, val_main_v23, val_main_v22, val_main_v21, val_main_v20,
    val_main_v19, val_main_v18, val_main_cst_3, val_main_cst_4]
  rw [bits_bot, ref_max x0 x1 x2 x3 R a b ht, max_eq_right bot_le, Fin.sum_univ_two]
  simp only [ref_values]
  rw [place_zero x0 x1 x2 x3 R a b ht, place_one x0 x1 x2 x3 R a b ht, h0]
  match i with
  | 0 =>
    rw [place_zero x0 x1 x2 x3 R a b ht, h0, weight, if_pos rfl]
  | 1 =>
    rw [place_one x0 x1 x2 x3 R a b ht, weight, if_neg ht.2.1, if_pos rfl]

/-- The gates. -/
theorem ref_gates (e : Fin 8) : val_main_v32 (F := Ideal) x0 x1 x2 x3 (ix2 R e) = weight (refL x0 x1 x2 x3 R) a b e := by
  have key : ∀ p : Fin 8, FloatOps.uitofp (F := Ideal) .f32 (IntOp.cmpi .eq (BitVec.ofNat 32 p.val) (BitVec.ofNat 32 e.val))
      = if e = p then 1 else 0 := by
    have hc : ∀ e p : Fin 8, IntOp.cmpi .eq (BitVec.ofNat 32 p.val) (BitVec.ofNat 32 e.val) = if e = p then 1#1 else 0#1 := by
      decide +kernel
    intro p
    rw [hc]
    by_cases h : e = p
    · rw [if_pos h, if_pos h]
      exact congrArg Real.toEReal (Nat.cast_one (R := ℝ))
    · rw [if_neg h, if_neg h]
      exact congrArg Real.toEReal (Nat.cast_zero (R := ℝ))
  pointwise [val_main_v32, val_main_v31, val_main_v30, val_main_v29, val_main_v28, val_main_cst_5, val_main_call0_v0,
    val_main_call0_v1, val_main_call0_v2, val_main_call0_v3, val_main_call0_v4]
  rw [Fin.sum_univ_two]
  simp only [ref_indices, key, ref_weights x0 x1 x2 x3 R a b hl ht]
  rw [place_zero x0 x1 x2 x3 R a b ht, place_one x0 x1 x2 x3 R a b ht]
  by_cases ha : e = a
  · have hb : e ≠ b := fun h => ht.2.1 (h.symm.trans ha)
    rw [if_pos ha, if_neg hb, one_mul, zero_mul, add_zero, ha]
  · by_cases hb : e = b
    · rw [if_neg ha, if_pos hb, one_mul, zero_mul, zero_add, hb]
    · rw [if_neg ha, if_neg hb, zero_mul, zero_mul, zero_add, weight, if_neg ha, if_neg hb]
end

/-! ## The experts -/

/-- An expert's network of a row. -/
abbrev refNet (e : Fin 8) (j : Fin 1024) (h : Fin 1024 → EReal) : EReal :=
  ffn (fun (f : Fin 2816) k => x4 (ix3 e k ⟨f.val, by omega⟩)) (fun f k => x4 (ix3 e k ⟨2816 + f.val, by omega⟩))
    (fun f => x5 (ix3 e f j)) h

/-- The first expert. -/
theorem ref_expert0 (R : Fin 16384) (j : Fin 1024) : val_main_v47 (F := Ideal) x0 x1 x2 x3 x4 x5 (ix2 R j)
    = val_main_v33 (F := Ideal) (ix2 R j)
      + val_main_v32 (F := Ideal) x0 x1 x2 x3 (ix2 R 0) * refNet x4 x5 0 j (fun k => val_main_v12 (F := Ideal) x0 x1 (ix2 R k)) := by
  pointwise [val_main_v34, val_main_v35, val_main_v36, val_main_v37, val_main_v38, val_main_v39, val_main_v40, val_main_v41, val_main_v42, val_main_v43, val_main_v44, val_main_v45, val_main_v46, val_main_v47,
    val_main_call1_v0, val_main_call1_v1, val_main_call1_v2, val_main_call1_v3, val_main_call1_v4, val_main_call1_v5, val_main_call1_cst,
    val_main_call1_cst_0]
  rfl

/-- The second expert. -/
theorem ref_expert1 (R : Fin 16384) (j : Fin 1024) : val_main_v61 (F := Ideal) x0 x1 x2 x3 x4 x5 (ix2 R j)
    = val_main_v47 (F := Ideal) x0 x1 x2 x3 x4 x5 (ix2 R j)
      + val_main_v32 (F := Ideal) x0 x1 x2 x3 (ix2 R 1) * refNet x4 x5 1 j (fun k => val_main_v12 (F := Ideal) x0 x1 (ix2 R k)) := by
  pointwise [val_main_v48, val_main_v49, val_main_v50, val_main_v51, val_main_v52, val_main_v53, val_main_v54, val_main_v55, val_main_v56, val_main_v57, val_main_v58, val_main_v59, val_main_v60, val_main_v61,
    val_main_call2_v0, val_main_call2_v1, val_main_call2_v2, val_main_call2_v3, val_main_call2_v4, val_main_call2_v5, val_main_call2_cst,
    val_main_call2_cst_0]
  rfl

/-- The third expert. -/
theorem ref_expert2 (R : Fin 16384) (j : Fin 1024) : val_main_v75 (F := Ideal) x0 x1 x2 x3 x4 x5 (ix2 R j)
    = val_main_v61 (F := Ideal) x0 x1 x2 x3 x4 x5 (ix2 R j)
      + val_main_v32 (F := Ideal) x0 x1 x2 x3 (ix2 R 2) * refNet x4 x5 2 j (fun k => val_main_v12 (F := Ideal) x0 x1 (ix2 R k)) := by
  pointwise [val_main_v62, val_main_v63, val_main_v64, val_main_v65, val_main_v66, val_main_v67, val_main_v68, val_main_v69, val_main_v70, val_main_v71, val_main_v72, val_main_v73, val_main_v74, val_main_v75,
    val_main_call3_v0, val_main_call3_v1, val_main_call3_v2, val_main_call3_v3, val_main_call3_v4, val_main_call3_v5, val_main_call3_cst,
    val_main_call3_cst_0]
  rfl

/-- The fourth expert. -/
theorem ref_expert3 (R : Fin 16384) (j : Fin 1024) : val_main_v89 (F := Ideal) x0 x1 x2 x3 x4 x5 (ix2 R j)
    = val_main_v75 (F := Ideal) x0 x1 x2 x3 x4 x5 (ix2 R j)
      + val_main_v32 (F := Ideal) x0 x1 x2 x3 (ix2 R 3) * refNet x4 x5 3 j (fun k => val_main_v12 (F := Ideal) x0 x1 (ix2 R k)) := by
  pointwise [val_main_v76, val_main_v77, val_main_v78, val_main_v79, val_main_v80, val_main_v81, val_main_v82, val_main_v83, val_main_v84, val_main_v85, val_main_v86, val_main_v87, val_main_v88, val_main_v89,
    val_main_call4_v0, val_main_call4_v1, val_main_call4_v2, val_main_call4_v3, val_main_call4_v4, val_main_call4_v5, val_main_call4_cst,
    val_main_call4_cst_0]
  rfl

/-- The fifth expert. -/
theorem ref_expert4 (R : Fin 16384) (j : Fin 1024) : val_main_v103 (F := Ideal) x0 x1 x2 x3 x4 x5 (ix2 R j)
    = val_main_v89 (F := Ideal) x0 x1 x2 x3 x4 x5 (ix2 R j)
      + val_main_v32 (F := Ideal) x0 x1 x2 x3 (ix2 R 4) * refNet x4 x5 4 j (fun k => val_main_v12 (F := Ideal) x0 x1 (ix2 R k)) := by
  pointwise [val_main_v90, val_main_v91, val_main_v92, val_main_v93, val_main_v94, val_main_v95, val_main_v96, val_main_v97, val_main_v98, val_main_v99, val_main_v100, val_main_v101, val_main_v102, val_main_v103,
    val_main_call5_v0, val_main_call5_v1, val_main_call5_v2, val_main_call5_v3, val_main_call5_v4, val_main_call5_v5, val_main_call5_cst,
    val_main_call5_cst_0]
  rfl

/-- The sixth expert. -/
theorem ref_expert5 (R : Fin 16384) (j : Fin 1024) : val_main_v117 (F := Ideal) x0 x1 x2 x3 x4 x5 (ix2 R j)
    = val_main_v103 (F := Ideal) x0 x1 x2 x3 x4 x5 (ix2 R j)
      + val_main_v32 (F := Ideal) x0 x1 x2 x3 (ix2 R 5) * refNet x4 x5 5 j (fun k => val_main_v12 (F := Ideal) x0 x1 (ix2 R k)) := by
  pointwise [val_main_v104, val_main_v105, val_main_v106, val_main_v107, val_main_v108, val_main_v109, val_main_v110, val_main_v111, val_main_v112, val_main_v113, val_main_v114, val_main_v115, val_main_v116, val_main_v117,
    val_main_call6_v0, val_main_call6_v1, val_main_call6_v2, val_main_call6_v3, val_main_call6_v4, val_main_call6_v5, val_main_call6_cst,
    val_main_call6_cst_0]
  rfl

/-- The seventh expert. -/
theorem ref_expert6 (R : Fin 16384) (j : Fin 1024) : val_main_v131 (F := Ideal) x0 x1 x2 x3 x4 x5 (ix2 R j)
    = val_main_v117 (F := Ideal) x0 x1 x2 x3 x4 x5 (ix2 R j)
      + val_main_v32 (F := Ideal) x0 x1 x2 x3 (ix2 R 6) * refNet x4 x5 6 j (fun k => val_main_v12 (F := Ideal) x0 x1 (ix2 R k)) := by
  pointwise [val_main_v118, val_main_v119, val_main_v120, val_main_v121, val_main_v122, val_main_v123, val_main_v124, val_main_v125, val_main_v126, val_main_v127, val_main_v128, val_main_v129, val_main_v130, val_main_v131,
    val_main_call7_v0, val_main_call7_v1, val_main_call7_v2, val_main_call7_v3, val_main_call7_v4, val_main_call7_v5, val_main_call7_cst,
    val_main_call7_cst_0]
  rfl

/-- The eighth expert. -/
theorem ref_expert7 (R : Fin 16384) (j : Fin 1024) : val_main_v145 (F := Ideal) x0 x1 x2 x3 x4 x5 (ix2 R j)
    = val_main_v131 (F := Ideal) x0 x1 x2 x3 x4 x5 (ix2 R j)
      + val_main_v32 (F := Ideal) x0 x1 x2 x3 (ix2 R 7) * refNet x4 x5 7 j (fun k => val_main_v12 (F := Ideal) x0 x1 (ix2 R k)) := by
  pointwise [val_main_v132, val_main_v133, val_main_v134, val_main_v135, val_main_v136, val_main_v137, val_main_v138, val_main_v139, val_main_v140, val_main_v141, val_main_v142, val_main_v143, val_main_v144, val_main_v145,
    val_main_call8_v0, val_main_call8_v1, val_main_call8_v2, val_main_call8_v3, val_main_call8_v4, val_main_call8_v5, val_main_call8_cst,
    val_main_call8_cst_0]
  rfl

/-- The rows with all experts' parts added. -/
theorem ref_sum (R : Fin 16384) (a b : Fin 8) (hl : ∀ e, IsReal (refL x0 x1 x2 x3 R e)) (ht : Top (refL x0 x1 x2 x3 R) a b) (j : Fin 1024) :
    val_main_v146 (F := Ideal) x0 x1 x2 x3 x4 x5 (ix2 R j) = x0 (ix2 R j)
      + ∑ e, weight (refL x0 x1 x2 x3 R) a b e * refNet x4 x5 e j (rms (fun k => x0 (ix2 R k)) (fun k => x1 (ix1 k))) := by
  have hh : (fun k => val_main_v12 (F := Ideal) x0 x1 (ix2 R k)) = rms (fun k => x0 (ix2 R k)) (fun k => x1 (ix1 k)) :=
    funext fun k => ref_h x0 x1 R k
  have h33 : val_main_v33 (F := Ideal) (ix2 R j) = (0 : EReal) := by
    pointwise [val_main_v33, val_main_cst_6]
  pointwise [val_main_v146]
  rw [ref_expert7, ref_expert6, ref_expert5, ref_expert4, ref_expert3, ref_expert2, ref_expert1, ref_expert0, hh, h33, zero_add]
  simp only [ref_gates x0 x1 x2 x3 R a b hl ht]
  rw [Fin.sum_univ_eight]

/-- The reference's result at a row. -/
theorem ref_out (R : Fin 16384) (a b : Fin 8) (hl : ∀ e, IsReal (refL x0 x1 x2 x3 R e)) (ht : Top (refL x0 x1 x2 x3 R) a b) (j : Fin 1024) :
    val_main_v159 (F := Ideal) x0 x1 x2 x3 x4 x5 x6 (ix2 R j)
      = outRow (fun k => x0 (ix2 R k)) (fun k => x1 (ix1 k)) (fun e k => x2 (ix2 k e)) (fun e => x3 (ix1 e))
        (fun e (f : Fin 2816) k => x4 (ix3 e k ⟨f.val, by omega⟩)) (fun e f k => x4 (ix3 e k ⟨2816 + f.val, by omega⟩))
        (fun e j f => x5 (ix3 e f j)) (fun k => x6 (ix1 k)) a b j := by
  have hrow : (fun j => val_main_v146 (F := Ideal) x0 x1 x2 x3 x4 x5 (ix2 R j)) = fun j => x0 (ix2 R j)
      + ∑ e, weight (refL x0 x1 x2 x3 R) a b e * refNet x4 x5 e j (rms (fun k => x0 (ix2 R k)) (fun k => x1 (ix1 k))) :=
    funext fun j => ref_sum x0 x1 x2 x3 x4 x5 R a b hl ht j
  refine Eq.trans ?_ (congrArg (fun x => rms x (fun k => x6 (ix1 k)) j) hrow)
  pointwise [val_main_v159, val_main_v158, val_main_v157, val_main_v156, val_main_v155, val_main_v154, val_main_v153, val_main_v152,
    val_main_v151, val_main_v150, val_main_v149, val_main_v148, val_main_v147, val_main_cst_7, val_main_cst_8, val_main_cst_9]
  rfl
end
end Cert.Proof.Moe
-- ==== Proof.Finite.lean ====
module

public import proofs.«01_k».proof.Pre_finite
public import proofs.«01_k».proof.Proof.Route
public import Idealize.ShloMosaic.Lib.ReduceAll

/-!
What the precondition says: every element of the first six arguments is real.
-/

@[expose] public section

noncomputable section

namespace Cert.Proof.Moe

open Cert.Pre_finite Cert.Pre_finite.Facts
open Idealize.ShloMosaic

/-- Two truth values whose conjunction is true are true. -/
theorem andi_one {a b : BitVec 1} (h : IntOp.andi a b = 1#1) : a = 1#1 ∧ b = 1#1 := by
  revert a b
  decide

/-- Every index of an array without axes is the same. -/
instance : Subsingleton S_.Idx := ⟨fun _ _ => funext fun a => a.elim0⟩

/-- An array every element of which lies below the largest value in magnitude is an array of reals. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : IsReal (x i : EReal) := by
  have h1 := Host.reduce_andi_all _ _ h hu j e i
  have h2 : BitVec.ofBool (decide (max (x i : EReal) (-(x i : EReal)) < Ideal.ofBits .f32 0x7F800000#32)) = 1#1 := h1
  rw [bits_top] at h2
  refine IsReal.of_bounds ?_
  by_contra hc
  rw [decide_eq_false hc] at h2
  exact absurd h2 (by decide)

/-- The precondition at the six arguments. -/
theorem reals_of_finite [Facts] (x0 : FVec Ideal S16384x1024 .f32) (x1 : FVec Ideal S1024 .f32) (x2 : FVec Ideal S1024x8 .f32)
    (x3 : FVec Ideal S8 .f32) (x4 : FVec Ideal S8x1024x5632 .f32) (x5 : FVec Ideal S8x2816x1024 .f32) (x6 : FVec Ideal S1024 .f32)
    (h : fn (F := Ideal) x0 x1 x2 x3 x4 x5 x6 = fun _ => 1#1) :
    (∀ i, IsReal (x0 i : EReal)) ∧ (∀ i, IsReal (x1 i : EReal)) ∧ (∀ i, IsReal (x2 i : EReal)) ∧ (∀ i, IsReal (x3 i : EReal))
      ∧ (∀ i, IsReal (x4 i : EReal)) ∧ ∀ i, IsReal (x5 i : EReal) := by
  have h0 := congrFun h (Shape.Idx.first h_S_)
  obtain ⟨h, h5⟩ := andi_one h0
  obtain ⟨h, h4⟩ := andi_one h
  obtain ⟨h, h3⟩ := andi_one h
  obtain ⟨h, h2⟩ := andi_one h
  obtain ⟨h0, h1⟩ := andi_one h
  exact ⟨real_of_all x0 _ _ _ _ h0, real_of_all x1 _ _ _ _ h1, real_of_all x2 _ _ _ _ h2, real_of_all x3 _ _ _ _ h3,
    real_of_all x4 _ _ _ _ h4, real_of_all x5 _ _ _ _ h5⟩

end Cert.Proof.Moe
-- ==== Proof.Value.lean ====
module

public import proofs.«01_k».proof.Defs
public import proofs.«01_k».proof.Proof.KValue
public import proofs.«01_k».proof.Proof.RefValue
public import proofs.«01_k».proof.Proof.Finite
public import proofs.«01_k».proof.Proof.Gen.KernelIdeal
public import proofs.«01_k».proof.Proof.Gen.ReferenceIdeal

/-!
The kernel's result is the reference's.
-/

@[expose] public section

set_option maxRecDepth 16384

noncomputable section

namespace Cert.Proof.Moe

open Idealize.ShloMosaic Idealize.ShloMosaic.TcCoe Idealize.SL.Sem

attribute [local instance] Cert.KernelIdeal.Gen.facts

section
open Cert.KernelIdeal Cert.KernelIdeal.Gen

/-- Two facts of every execution hold together. -/
theorem run_and {p : (c : Thread nD τ) → Prog (TpuEff nD τ sig (Elt Ideal) _ c.2) PUnit} {s : MemSt nD τ sig (Elt Ideal)}
    {Q Q' : PUnit × MemSt nD τ sig (Elt Ideal) → Prop}
    (h : θ_run (defs (F := Ideal)) p s Q) (h' : θ_run (defs (F := Ideal)) p s Q') : θ_run (defs (F := Ideal)) p s fun r => Q r ∧ Q' r :=
  ⟨fun t ht hf => ⟨h.post t ht hf, h'.post t ht hf⟩, h.progress, h.fair⟩

/-- The kernel's run ends with the specification in its result, the arguments as they were. -/
theorem kernel_run (m : (ℓ : Loc nD τ sig) → Buf (Elt Ideal) ℓ) (ρ : Dev nD → PrngReg) (hR : ∀ c, Reals m c)
    (A B : Dev nD → Fin 16384 → Fin 8) (hT : ∀ c R, Top (ls m c R) (A c R) (B c R)) :
    θ_run (defs (F := Ideal)) (onTc (τ := τ) (main (F := Ideal))) ⟨m, fun _ => 0, ρ⟩ (fun r => ∀ c : Dev nD,
      r.2.mem ((c.tc : Thread nD τ).loc main_v7) = outArr m c (A c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1.1 c).1 8).trans (final_y m c (A c) (B c) (hR c) (hT c)), h.2.1 c⟩)
    (run_and (run_main (F := Ideal) m ρ) (frame_run (F := Ideal) m ρ))
end

/-- From a memory of reals the kernel and the reference end with the same result. -/
theorem agree [Cert.Pre_finite.Facts] : Cert.algebraic_KernelIdeal_ReferenceIdeal_pre_finite (hReferenceIdeal := Cert.ReferenceIdeal.Gen.facts) := by
  intro m g m' g' hpre harg
  have hR : ∀ c, Reals m c := fun c => by
    obtain ⟨h0, h1, h2, h3, h4, h5⟩ := reals_of_finite _ _ _ _ _ _ _ (hpre c)
    exact ⟨fun R k => h0 _, fun k => h1 _, fun e k => h2 _, fun e => h3 _, h4, h5⟩
  choose A B hT using fun (c : Dev Cert.KernelIdeal.nD) (R : Fin 16384) => Top.exists (n := 6) (ls m c R)
  refine ⟨fun c => outArr m c (A c) (B c), kernel_run m g hR A B hT, ?_⟩
  refine (θ_run Cert.ReferenceIdeal.defs _ _).mono (fun r h c => ⟨(h c).1.trans ?_, (h c).2⟩) (Cert.ReferenceIdeal.Value.run m' g')
  obtain ⟨e0, e1, e2, e3, e4, e5, e6⟩ := harg c
  refine (Cert.ReferenceIdeal.Read.val_main_v159_eq _).trans ?_
  have l0 : StableHlo.launchContents m' c (Proc.devRef .tc Cert.ReferenceIdeal.main_arg0) = a0 m c := e0
  have l1 : StableHlo.launchContents m' c (Proc.devRef .tc Cert.ReferenceIdeal.main_arg1) = a1 m c := e1
  have l2 : StableHlo.launchContents m' c (Proc.devRef .tc Cert.ReferenceIdeal.main_arg2) = a2 m c := e2
  have l3 : StableHlo.launchContents m' c (Proc.devRef .tc Cert.ReferenceIdeal.main_arg3) = a3 m c := e3
  have l4 : StableHlo.launchContents m' c (Proc.devRef .tc Cert.ReferenceIdeal.main_arg4) = a4 m c := e4
  have l5 : StableHlo.launchContents m' c (Proc.devRef .tc Cert.ReferenceIdeal.main_arg5) = a5 m c := e5
  have l6 : StableHlo.launchContents m' c (Proc.devRef .tc Cert.ReferenceIdeal.main_arg6) = a6 m c := e6
  rw [l0, l1, l2, l3, l4, l5, l6]
  funext i
  have hi : i = ix2 (i 0) (i 1) := by
    funext a; fin_cases a <;> rfl
  rw [hi]
  exact ref_out (a0 m c) (a1 m c) (a2 m c) (a3 m c) (a4 m c) (a5 m c) (a6 m c) (i 0) (A c (i 0)) (B c (i 0))
    (fun e => (hR c).l (i 0) e) (hT c (i 0)) (i 1)

end Cert.Proof.Moe
-- ==== Proof.Proj.lean ====
module

public import proofs.«01_k».proof.Proof.Spec
public import proofs.«01_k».proof.Proof.Gen.Kernel2Ideal.Frame
public import Idealize.ShloMosaic.Lib.Pointwise
public import Idealize.ShloMosaic.Lib.WholeRead

/-!
What one grid point of the projections leaves in its staging buffers, entry by entry of its blocks.
-/

@[expose] public section

set_option maxRecDepth 16384

noncomputable section

namespace Cert.Proof.Proj

open Cert.Kernel2Ideal Cert.Kernel2Ideal.Gen
open Idealize.ShloMosaic
open Cert.Proof.Moe (rms)

/-- The logarithm of the logistic function. -/
def logsig (y : EReal) : EReal :=
  -(max (-y) 0 + Ideal.log1p (Ideal.exp (-FloatOps.absf (F := Ideal) (φ := .f32) (-y))))

/-! ## The values stored -/

section
variable (x : Vec Ideal S512x1024 .f32) (g : Vec Ideal S1x1024 .f32)

/-- A tile's row, normalised. -/
abbrev hrow (r : Fin 512) : Fin 1024 → EReal := rms (fun k => x (ix2 r k)) fun k => g (ix2 0 k)

/-- A tile's rows, normalised. -/
theorem pay4_apply (r : Fin 512) (k : Fin 1024) : k0_pay4 x g (ix2 r k) = hrow x g r k := by
  pointwise [k0_pay4]
  rfl

/-- The first third of the columns: the rows against the columns. -/
theorem pay5_apply (w : Vec Ideal S1152x1024 .bf16) (r : Fin 512) (j : Fin 1152) :
    k0_pay5 x g w (ix2 r j) = ∑ k, hrow x g r k * w (ix2 j k) := by
  pointwise [k0_pay5]
  simp only [pay4_apply]

/-- The second third of the columns. -/
theorem pay6_apply (w : Vec Ideal S1152x1024 .bf16) (r : Fin 512) (j : Fin 1152) :
    k0_pay6 x g w (ix2 r j) = ∑ k, hrow x g r k * w (ix2 j k) := by
  pointwise [k0_pay6]
  simp only [pay4_apply]

/-- The last third of the columns, up to the gates. -/
theorem pay10_apply (w : Vec Ideal S1152x1024 .bf16) (r : Fin 512) (j : Fin 1024) :
    k0_pay10 (k0_pay7 x g w) (ix2 r j) = ∑ k, hrow x g r k * w (ix2 (j.castLE (by omega)) k) := by
  pointwise [k0_pay10, k0_pay7]
  simp only [pay4_apply]
  rfl

/-- The gates: the logarithm of the logistic function of the column with its bias. -/
theorem pay9_apply (w : Vec Ideal S1152x1024 .bf16) (b : Vec Ideal S1x128 .f32) (r : Fin 512) (j : Fin 128) :
    k0_pay9 (k0_pay8 x g w b) (ix2 r j) = logsig ((∑ k, hrow x g r k * w (ix2 ⟨1024 + j, by omega⟩ k)) + b (ix2 0 j)) := by
  pointwise [k0_pay9, k0_pay8, k0_pay7]
  simp only [pay4_apply, ne_eq, not_true_eq_false, if_false, zero_sub, logsig]

/-- The heads' queries, a head's width of columns by rows. -/
theorem pay11_apply (w : Vec Ideal S768x1024 .bf16) (d : Fin 768) (r : Fin 512) :
    k0_pay11 (k0_pay4 x g) w (ix3 0 d r) = ∑ k, hrow x g r k * w (ix2 d k) := by
  pointwise [k0_pay11]
  simp only [pay4_apply]
  exact Finset.sum_congr rfl fun k _ => mul_comm _ _

/-- The heads' keys. -/
theorem pay12_apply (w : Vec Ideal S768x1024 .bf16) (d : Fin 768) (r : Fin 512) :
    k0_pay12 (k0_pay4 x g) w (ix3 0 d r) = ∑ k, hrow x g r k * w (ix2 d k) := by
  pointwise [k0_pay12]
  simp only [pay4_apply]
  exact Finset.sum_congr rfl fun k _ => mul_comm _ _

/-- The heads' values. -/
theorem pay13_apply (w : Vec Ideal S768x1024 .bf16) (d : Fin 768) (r : Fin 512) :
    k0_pay1 (k0_pay13 (k0_pay4 x g) w) (ix3 0 d r) = ∑ k, hrow x g r k * w (ix2 d k) := by
  pointwise [k0_pay1, k0_pay13]
  simp only [pay4_apply]
  exact Finset.sum_congr rfl fun k _ => mul_comm _ _
end

/-! ## The staging buffers after a point -/

/-- Rows against columns, each loaded from its buffer. -/
theorem load_dot {n : ℕ} {M0 : Memref sig .tc .vmem S512x1024 .f32} {M1 : Memref sig .tc .vmem S1x1024 .f32}
    {M2 : Memref sig .tc .vmem S3456x1024 .bf16} (h0 : M0.IsWhole) (h1 : M1.IsWhole) (h2 : M2.IsWhole)
    (x : Vec Ideal S512x1024 .f32) (g : Vec Ideal S1x1024 .f32) (w : Vec Ideal S3456x1024 .bf16) (o : ℕ)
    (i0 : ∀ a : Fin 2, ![0, 0] a + ![512, 1024] a ≤ S512x1024.size a) (i1 : ∀ a : Fin 2, ![0, 0] a + ![1, 1024] a ≤ S1x1024.size a)
    (i2 : ∀ a : Fin 2, ![o, 0] a + ![n, 1024] a ≤ S3456x1024.size a) (r : Fin 512) (j : Fin n) (J : Fin 3456) (hJ : J.val = o + j.val) :
    ∑ k, hrow (View.readAt (Elt Ideal) M0.view (Rect.unit (s := S512x1024) ![0, 0] ![512, 1024] i0).toLoadRect (h0.unread x))
        (View.readAt (Elt Ideal) M1.view (Rect.unit (s := S1x1024) ![0, 0] ![1, 1024] i1).toLoadRect (h1.unread g)) r k
      * View.readAt (Elt Ideal) M2.view (Rect.unit (s := S3456x1024) ![o, 0] ![n, 1024] i2).toLoadRect (h2.unread w) (ix2 j k)
    = ∑ k, hrow x g r k * w (ix2 J k) := by
  refine Finset.sum_congr rfl fun k _ => congrArg₂ (· * ·) ?_ ?_
  · refine congrFun (congrArg₂ rms (funext fun k => ?_) (funext fun k => ?_)) k
    · rw [h0.readAt_unread]
      refine congrArg x (funext fun a => Fin.ext ?_)
      fin_cases a
      · show 0 + 1 * r.val = r.val
        omega
      · show 0 + 1 * k.val = k.val
        omega
    · rw [h1.readAt_unread]
      refine congrArg g (funext fun a => Fin.ext ?_)
      fin_cases a
      · rfl
      · show 0 + 1 * k.val = k.val
        omega
  · rw [h2.readAt_unread]
    refine congrArg w (funext fun a => Fin.ext ?_)
    fin_cases a
    · show o + 1 * j.val = J.val
      omega
    · show 0 + 1 * k.val = k.val
      omega

/-- A bias loaded from its buffer. -/
theorem load_bias {M3 : Memref sig .tc .vmem S1x128 .f32} (h3 : M3.IsWhole) (b : Vec Ideal S1x128 .f32)
    (i3 : ∀ a : Fin 2, ![0, 0] a + ![1, 128] a ≤ S1x128.size a) (j : Fin 128) :
    View.readAt (Elt Ideal) M3.view (Rect.unit (s := S1x128) ![0, 0] ![1, 128] i3).toLoadRect (h3.unread b) (ix2 0 j) = b (ix2 0 j) := by
  rw [h3.readAt_unread]
  refine congrArg b (funext fun a => Fin.ext ?_)
  fin_cases a
  · rfl
  · show 0 + 1 * j.val = j.val
    omega

/-- The place of a column of a stored part. -/
theorem emb_cols {n o : ℕ} (inb : ∀ a : Fin 2, ![0, o] a + ![512, n] a ≤ S512x3456.size a) (r : Fin 512) (j : Fin n) (J : Fin 3456)
    (hJ : J.val = o + j.val) : (Rect.unit (s := S512x3456) ![0, o] ![512, n] inb).emb (ix2 r j) = ix2 r J := by
  refine funext fun a => Fin.ext ?_
  fin_cases a
  · show 0 + 1 * r.val = r.val
    omega
  · show o + 1 * j.val = J.val
    omega

/-- The place in a tile stored whole. -/
theorem emb_tile (inb : ∀ a : Fin 3, ![0, 0, 0] a + ![1, 768, 512] a ≤ S1x768x512.size a) (d : Fin 768) (r : Fin 512) :
    (Rect.unit (s := S1x768x512) ![0, 0, 0] ![1, 768, 512] inb).emb (ix3 0 d r) = ix3 0 d r := by
  refine funext fun a => Fin.ext ?_
  fin_cases a
  · rfl
  · show 0 + 1 * d.val = d.val
    omega
  · show 0 + 1 * r.val = r.val
    omega

section
variable (x : Vec Ideal S512x1024 .f32) (g : Vec Ideal S1x1024 .f32) (w : Vec Ideal S3456x1024 .bf16) (b : Vec Ideal S1x128 .f32)

/-- A row against a row of the matrix. -/
abbrev dotAt (r : Fin 512) (j : Fin 3456) : EReal := ∑ k, hrow x g r k * w (ix2 j k)

/-- What a point leaves in its tile of projections. -/
def projAt (y : S512x3456.Idx) : EReal :=
  if h : 3328 ≤ (y 1).val then logsig (dotAt x g w (y 0) (y 1) + b (ix2 0 ⟨(y 1).val - 3328, by have h : (y 1).val < 3456 := (y 1).isLt; omega⟩))
  else dotAt x g w (y 0) (y 1)

/-- What a point leaves in a tile of heads, from row `o` of the matrix on. -/
def headAt (o : ℕ) (ho : o + 768 ≤ 3456) (y : S1x768x512.Idx) : EReal :=
  dotAt x g w (y 2) ⟨o + (y 1).val, by have h : (y 1).val < 768 := (y 1).isLt; omega⟩
end

section
variable (m : (ℓ : Loc nD τ sig) → Buf (Elt Ideal) ℓ) (c : Dev nD) (t : Fin cfg0.N)

/-- The tile of projections. -/
theorem outs4_eq (y : S512x3456.Idx) : (outsAt0 m c t).1 y
    = projAt (iblk m c 0 t) (iblk m c 1 t) (iblk m c 2 t) (iblk m c 3 t) y := by
  unfold outsAt0 out0_A_4
  dsimp only
  generalize iblk m c 0 t = x, iblk m c 1 t = g, iblk m c 2 t = w, iblk m c 3 t = b
  refine View.read_writes_apply_of_pieces (Val := Elt Ideal) _ _ (projAt x g w b) _ ?_ _ (cover0_A_4 ..)
  unfold kernelRun0_A kernelRun0_A.sl.H4_4 kernelRun0_A.sl.r_1 kernelRun0_A.sl.r_2
  simp only [List.forall_mem_cons]
  refine ⟨?_, ?_, ?_, ?_, fun _ h => absurd h List.not_mem_nil⟩
  · intro y
    obtain ⟨r, j, rfl⟩ : ∃ (r : Fin 512) (j : Fin 128), y = ix2 r j := ⟨y 0, y 1, by funext a; fin_cases a <;> rfl⟩
    refine (pay9_apply _ _ _ _ r j).trans (Eq.trans ?_ (congrArg (projAt x g w b) (emb_cols _ r j ⟨3328 + j.val, by omega⟩ rfl)).symm)
    refine Eq.trans ?_ (dif_pos (Nat.le_add_right 3328 j.val)).symm
    refine congrArg logsig (congrArg₂ (· + ·) (load_dot _ _ _ x g w 2304 _ _ _ r _ ⟨3328 + j.val, by omega⟩ (Nat.add_assoc 2304 1024 j.val)) ?_)
    refine (load_bias _ b _ j).trans (congrArg (fun j => b (ix2 0 j)) (Fin.ext ?_))
    show j.val = 3328 + j.val - 3328
    omega
  · intro y
    obtain ⟨r, j, rfl⟩ : ∃ (r : Fin 512) (j : Fin 1024), y = ix2 r j := ⟨y 0, y 1, by funext a; fin_cases a <;> rfl⟩
    refine (pay10_apply _ _ _ r j).trans (Eq.trans ?_ (congrArg (projAt x g w b) (emb_cols _ r j ⟨2304 + j.val, by omega⟩ rfl)).symm)
    refine Eq.trans ?_ (dif_neg (show ¬ 3328 ≤ 2304 + j.val by omega)).symm
    exact load_dot _ _ _ x g w 2304 _ _ _ r _ _ rfl
  · intro y
    obtain ⟨r, j, rfl⟩ : ∃ (r : Fin 512) (j : Fin 1152), y = ix2 r j := ⟨y 0, y 1, by funext a; fin_cases a <;> rfl⟩
    refine (pay6_apply _ _ _ r j).trans (Eq.trans ?_ (congrArg (projAt x g w b) (emb_cols _ r j ⟨1152 + j.val, by omega⟩ rfl)).symm)
    refine Eq.trans ?_ (dif_neg (show ¬ 3328 ≤ 1152 + j.val by omega)).symm
    exact load_dot _ _ _ x g w 1152 _ _ _ r j _ rfl
  · intro y
    obtain ⟨r, j, rfl⟩ : ∃ (r : Fin 512) (j : Fin 1152), y = ix2 r j := ⟨y 0, y 1, by funext a; fin_cases a <;> rfl⟩
    refine (pay5_apply _ _ _ r j).trans (Eq.trans ?_ (congrArg (projAt x g w b) (emb_cols _ r j ⟨0 + j.val, by omega⟩ rfl)).symm)
    refine Eq.trans ?_ (dif_neg (show ¬ 3328 ≤ 0 + j.val by omega)).symm
    exact load_dot _ _ _ x g w 0 _ _ _ r j _ rfl

/-- The tile of queries. -/
theorem outs5_eq (y : S1x768x512.Idx) : (outsAt0 m c t).2.1 y = headAt (iblk m c 0 t) (iblk m c 1 t) (iblk m c 2 t) 1024 (by decide) y := by
  unfold outsAt0 out0_A_5
  dsimp only
  generalize iblk m c 0 t = x, iblk m c 1 t = g, iblk m c 2 t = w, iblk m c 3 t = b
  refine View.read_writes_apply_of_pieces (Val := Elt Ideal) _ _ (headAt x g w 1024 (by decide)) _ ?_ _ (cover0_A_5 ..)
  unfold kernelRun0_A kernelRun0_A.sl.r
  simp only [List.forall_mem_cons]
  refine ⟨?_, fun _ h => absurd h List.not_mem_nil⟩
  intro y
  obtain ⟨d, r, rfl⟩ : ∃ (d : Fin 768) (r : Fin 512), y = ix3 0 d r := ⟨y 1, y 2, by funext a; fin_cases a <;> first | rfl | exact Subsingleton.elim (α := Fin 1) _ _⟩
  refine (pay11_apply _ _ _ d r).trans (Eq.trans ?_ (congrArg (headAt x g w 1024 (by decide)) (emb_tile _ d r)).symm)
  exact load_dot _ _ _ x g w 1024 _ _ _ r d _ rfl

/-- The tile of keys. -/
theorem outs6_eq (y : S1x768x512.Idx) : (outsAt0 m c t).2.2.1 y = headAt (iblk m c 0 t) (iblk m c 1 t) (iblk m c 2 t) 1792 (by decide) y := by
  unfold outsAt0 out0_A_6
  dsimp only
  generalize iblk m c 0 t = x, iblk m c 1 t = g, iblk m c 2 t = w, iblk m c 3 t = b
  refine View.read_writes_apply_of_pieces (Val := Elt Ideal) _ _ (headAt x g w 1792 (by decide)) _ ?_ _ (cover0_A_6 ..)
  unfold kernelRun0_A kernelRun0_A.sl.r
  simp only [List.forall_mem_cons]
  refine ⟨?_, fun _ h => absurd h List.not_mem_nil⟩
  intro y
  obtain ⟨d, r, rfl⟩ : ∃ (d : Fin 768) (r : Fin 512), y = ix3 0 d r := ⟨y 1, y 2, by funext a; fin_cases a <;> first | rfl | exact Subsingleton.elim (α := Fin 1) _ _⟩
  refine (pay12_apply _ _ _ d r).trans (Eq.trans ?_ (congrArg (headAt x g w 1792 (by decide)) (emb_tile _ d r)).symm)
  exact load_dot _ _ _ x g w 1792 _ _ _ r d _ rfl

set_option maxHeartbeats 1000000 in
/-- The tile of values. -/
theorem outs7_eq (y : S1x768x512.Idx) : (outsAt0 m c t).2.2.2.1 y = headAt (iblk m c 0 t) (iblk m c 1 t) (iblk m c 2 t) 2560 (by decide) y := by
  unfold outsAt0 out0_A_7
  dsimp only
  generalize iblk m c 0 t = x, iblk m c 1 t = g, iblk m c 2 t = w, iblk m c 3 t = b
  refine View.read_writes_apply_of_pieces (Val := Elt Ideal) _ _ (headAt x g w 2560 (by decide)) _ ?_ _ (cover0_A_7 ..)
  unfold kernelRun0_A kernelRun0_A.sl.r_3 kernelRun0_A.sl.r
  simp only [List.forall_mem_cons]
  refine ⟨?_, fun _ h => absurd h List.not_mem_nil⟩
  intro y
  obtain ⟨d, r, rfl⟩ : ∃ (d : Fin 768) (r : Fin 512), y = ix3 0 d r := ⟨y 1, y 2, by funext a; fin_cases a <;> first | rfl | exact Subsingleton.elim (α := Fin 1) _ _⟩
  refine (pay13_apply _ _ _ d r).trans (Eq.trans ?_ (congrArg (headAt x g w 2560 (by decide)) (emb_tile _ d r)).symm)
  exact load_dot _ _ _ x g w 2560 _ _ _ r d _ rfl
end
end Cert.Proof.Proj
-- ==== Proof.ProjValue.lean ====
module

public import proofs.«01_k».proof.Proof.Proj
public import Idealize.ShloMosaic.Lib.StableHlo.Run
public import Idealize.ShloMosaic.Lib.Pipeline.ValueKit.Geometry

/-!
The arrays the projections' region finds and leaves, entry by entry of the arguments.
-/

@[expose] public section

set_option maxRecDepth 16384

noncomputable section

namespace Cert.Proof.Proj

open Cert.Kernel2Ideal Cert.Kernel2Ideal.Gen
open Idealize.ShloMosaic Idealize.ShloMosaic.TcCoe
open Cert.Proof.Moe (rms)

variable (m : (ℓ : Loc nD τ sig) → Buf (Elt Ideal) ℓ) (c : Dev nD)

/-! ## The arguments -/

/-- The activations. -/
abbrev a0 : Vec Ideal S16384x1024 .f32 := m ((c : Thread nD τ).loc main_arg0)
/-- The gains. -/
abbrev a1 : Vec Ideal S1024 .f32 := m ((c : Thread nD τ).loc main_arg1)
/-- The projections' matrix. -/
abbrev a2 : Vec Ideal S1024x3332 .f32 := m ((c : Thread nD τ).loc main_arg2)
/-- The gates' bias. -/
abbrev a3 : Vec Ideal S4 .f32 := m ((c : Thread nD τ).loc main_arg3)

/-! ## The arrays when the region is entered -/

/-- The gains, as a row. -/
theorem V_g : V m c main_v9 = shapeCast S1x1024 (a1 m c) shapeCasts_S1024_S1x1024 := by
  show StableHlo.after _ _ (Proc.devRef .tc main_v9) = _
  simp only [List.flatten_cons, List.flatten_nil, List.append_nil, List.cons_append, List.nil_append]
  after_results
  rfl

/-- The gates' bias, continued to all lanes. -/
theorem V_b : V m c main_v8 = shapeCast S1x128 (pad S128 ![0] ![124] ![0] (a3 m c)
    (sitofp (F := Ideal) .f32 (constantI S_ 32 0#32)) pads_S4_S128_01240 h_S_) shapeCasts_S128_S1x128 := by
  show StableHlo.after _ _ (Proc.devRef .tc main_v8) = _
  simp only [List.flatten_cons, List.flatten_nil, List.append_nil, List.cons_append, List.nil_append]
  after_results
  rfl

/-- The matrix's columns, as rows. -/
abbrev columns : Vec Ideal S3332x1024 .f32 := transpose S3332x1024 [1, 0] (a2 m c) transposes_S1024x3332_S3332x1024_1_0

/-- The matrix's columns as rows, reordered and continued. -/
theorem V_w : V m c main_v6 = truncf (F := Ideal) (φ := .f32) .bf16 (concatenate S3456x1024 0
    [⟨S1024x1024, extractStridedSlice S1024x1024 ![2308, 0] (columns m c) slices_S3332x1024_S1024x1024_2308_0⟩,
     ⟨S2304x1024, extractStridedSlice S2304x1024 ![0, 0] (columns m c) slices_S3332x1024_S2304x1024_0_0⟩,
     ⟨S128x1024, pad S128x1024 ![0, 0] ![124, 0] ![0, 0] (extractStridedSlice S4x1024 ![2304, 0] (columns m c) slices_S3332x1024_S4x1024_2304_0)
       (sitofp (F := Ideal) .f32 (constantI S_ 32 0#32)) pads_S4x1024_S128x1024_01240_000 h_S_⟩]
    concatenates_S1024x1024_S2304x1024_S128x1024_S3456x1024_d0) bitsLt_bf16_f32 := by
  show StableHlo.after _ _ (Proc.devRef .tc main_v6) = _
  simp only [List.flatten_cons, List.flatten_nil, List.append_nil, List.cons_append, List.nil_append]
  after_results
  rfl

/-- A gain. -/
theorem V_g_apply (k : Fin 1024) : V m c main_v9 (ix2 0 k) = a1 m c (ix1 k) := by
  rw [V_g]
  generalize a1 m c = a
  pointwise []

/-- A gate's bias. -/
theorem V_b_apply (e : Fin 4) : V m c main_v8 (ix2 0 (e.castLE (by omega))) = a3 m c (ix1 e) := by
  rw [V_b]
  generalize a3 m c = a
  pointwise []
  exact dif_pos e.isLt

/-- A row of the reordered matrix that is a column of the first part. -/
theorem V_w_pr (j : Fin 3456) (hj : j.val < 1024) (k : Fin 1024) : V m c main_v6 (ix2 j k) = a2 m c (ix2 k ⟨2308 + j.val, by omega⟩) := by
  rw [V_w]
  unfold columns
  generalize a2 m c = a
  pointwise []
  exact dif_pos hj

/-- A row of the reordered matrix that is a column of the heads or a gate. -/
theorem V_w_heads (j : Fin 3456) (hj : 1024 ≤ j.val) (hj' : j.val < 3332) (k : Fin 1024) :
    V m c main_v6 (ix2 j k) = a2 m c (ix2 k ⟨j.val - 1024, by omega⟩) := by
  rw [V_w]
  unfold columns
  generalize a2 m c = a
  pointwise []
  rw [dif_neg (by omega)]
  by_cases h : j.val - 1024 < 2304
  · rw [dif_pos h]
  · rw [dif_neg h, dif_pos (by omega)]
    refine congrArg (fun q => a (ix2 k q)) (Fin.ext ?_)
    show 2304 + (j.val - 1024 - 2304) = j.val - 1024
    omega

/-! ## The windows' blocks -/

/-- At a point the block of the activations are the tile's. -/
theorem index0 : ∀ t : Fin cfg0.N, win0_0.index t = ![t.val, 0] := (by decide +kernel : ∀ t : Fin grid0.N, _)
/-- At a point the block of the gains are the whole row. -/
theorem index1 : ∀ t : Fin cfg0.N, win0_1.index t = ![0, 0] := (by decide +kernel : ∀ t : Fin grid0.N, _)
/-- At a point the block of the matrix is whole. -/
theorem index2 : ∀ t : Fin cfg0.N, win0_2.index t = ![0, 0] := (by decide +kernel : ∀ t : Fin grid0.N, _)
/-- At a point the block of the bias is whole. -/
theorem index3 : ∀ t : Fin cfg0.N, win0_3.index t = ![0, 0] := (by decide +kernel : ∀ t : Fin grid0.N, _)
/-- At a point the block of the projections is the tile's. -/
theorem index4 : ∀ t : Fin cfg0.N, win0_4.index t = ![t.val, 0] := (by decide +kernel : ∀ t : Fin grid0.N, _)
/-- At a point the block of the queries is the tile's rows of their sequence. -/
theorem index5 : ∀ t : Fin cfg0.N, win0_5.index t = ![t.val / 16, 0, t.val % 16] := (by decide +kernel : ∀ t : Fin grid0.N, _)
/-- At a point the block of the keys is the tile's rows of their sequence. -/
theorem index6 : ∀ t : Fin cfg0.N, win0_6.index t = ![t.val / 16, 0, t.val % 16] := (by decide +kernel : ∀ t : Fin grid0.N, _)
/-- At a point the block of the values is the tile's rows of their sequence. -/
theorem index7 : ∀ t : Fin cfg0.N, win0_7.index t = ![t.val / 16, 0, t.val % 16] := (by decide +kernel : ∀ t : Fin grid0.N, _)

/-- The row of the activations a tile's row is. -/
abbrev rowOf (t : Fin cfg0.N) (r : Fin 512) : Fin 16384 :=
  ⟨t.val * 512 + r.val, by have h := t.isLt; have h' : cfg0.N = 32 := rfl; have := r.isLt; omega⟩

/-- A tile of activations. -/
theorem iblk0_apply (t : Fin cfg0.N) (r : Fin 512) (k : Fin 1024) : iblk m c 0 t (ix2 r k) = a0 m c (ix2 (rowOf t r) k) := by
  blk_simp [iblk]
  refine (congrFun (V_main_arg0 m c) _).trans (congrArg (a0 m c) ?_)
  blk_ext [index0 t]
/-- The gains. -/
theorem iblk1_apply (t : Fin cfg0.N) (k : Fin 1024) : iblk m c 1 t (ix2 0 k) = a1 m c (ix1 k) := by
  blk_simp [iblk]
  refine Eq.trans (congrArg (V m c main_v9) ?_) (V_g_apply m c k)
  blk_ext [index1 t]
/-- The reordered matrix. -/
theorem iblk2_apply (t : Fin cfg0.N) (j : Fin 3456) (k : Fin 1024) : iblk m c 2 t (ix2 j k) = V m c main_v6 (ix2 j k) := by
  blk_simp [iblk]
  refine congrArg (V m c main_v6) ?_
  blk_ext [index2 t]
/-- The continued bias. -/
theorem iblk3_apply (t : Fin cfg0.N) (j : Fin 128) : iblk m c 3 t (ix2 0 j) = V m c main_v8 (ix2 0 j) := by
  blk_simp [iblk]
  refine congrArg (V m c main_v8) ?_
  blk_ext [index3 t]

/-! ## The arrays the region leaves -/

/-- A row of the activations, normalised. -/
abbrev hs (R : Fin 16384) : Fin 1024 → EReal := rms (fun k => a0 m c (ix2 R k)) fun k => a1 m c (ix1 k)

/-- A normalised row against a row of the reordered matrix. -/
abbrev dotOf (R : Fin 16384) (j : Fin 3456) : EReal := ∑ k, hs m c R k * V m c main_v6 (ix2 j k)

/-- A tile's row against a row of the matrix. -/
theorem dotAt_eq (t : Fin cfg0.N) (r : Fin 512) (j : Fin 3456) :
    dotAt (iblk m c 0 t) (iblk m c 1 t) (iblk m c 2 t) r j = dotOf m c (rowOf t r) j := by
  refine Finset.sum_congr rfl fun k _ => congrArg₂ (· * ·) ?_ (iblk2_apply m c t j k)
  exact congrFun (congrArg₂ rms (funext fun k => iblk0_apply m c t r k) (funext fun k => iblk1_apply m c t k)) k

/-- A projection: the last 128 columns are the gates' logarithms. -/
def projOf (R : Fin 16384) (j : Fin 3456) : EReal :=
  if h : 3328 ≤ j.val then logsig (dotOf m c R j + V m c main_v8 (ix2 0 ⟨j.val - 3328, by omega⟩)) else dotOf m c R j

/-- The projections. -/
def projArr (i : S16384x3456.Idx) : EReal := projOf m c (i 0) (i 1)

/-- The heads' projections, from row `o` of the reordered matrix on. -/
def headArr (o : ℕ) (ho : o + 768 ≤ 3456) (i : S2x768x8192.Idx) : EReal :=
  dotOf m c ⟨(i 0).val * 8192 + (i 2).val, by have h : (i 0).val < 2 := (i 0).isLt; have h' : (i 2).val < 8192 := (i 2).isLt; omega⟩
    ⟨o + (i 1).val, by have h : (i 1).val < 768 := (i 1).isLt; omega⟩

/-- A tile of projections is the tile's part of their array. -/
theorem projAt_eq (t : Fin cfg0.N) (y : S512x3456.Idx) :
    projAt (iblk m c 0 t) (iblk m c 1 t) (iblk m c 2 t) (iblk m c 3 t) y = projArr m c (ix2 (rowOf t (y 0)) (y 1)) := by
  refine Eq.trans ?_ (rfl : projOf m c (rowOf t (y 0)) (y 1) = _)
  unfold projAt projOf
  by_cases h : 3328 ≤ (y 1).val
  · refine (dif_pos h).trans (Eq.trans ?_ (dif_pos h).symm)
    exact congrArg logsig (congrArg₂ (· + ·) (dotAt_eq m c t (y 0) (y 1)) (iblk3_apply m c t _))
  · refine (dif_neg h).trans (Eq.trans ?_ (dif_neg h).symm)
    exact dotAt_eq m c t (y 0) (y 1)

/-- After the region the projections. -/
theorem final4 : (dats m 0 c).arrAt 4 cfg0.N = projArr m c := by
  refine (dats m 0 c).arrAt_eq_of_covers 4 _ (by decide +kernel) fun t hf y => ?_
  blk_simp
  rw [after0_4, outs4_eq, projAt_eq]
  refine congrArg (projArr m c) (Eq.symm ?_)
  blk_ext [index4 t] <;> rfl

/-- The place of a row of a tile in its sequence. -/
abbrev headIdx (t : Fin cfg0.N) (y : S1x768x512.Idx) : S2x768x8192.Idx :=
  ix3 ⟨t.val / 16, by have h := t.isLt; have h' : cfg0.N = 32 := rfl; omega⟩ (y 1)
    ⟨t.val % 16 * 512 + (y 2).val, by have h : (y 2).val < 512 := (y 2).isLt; omega⟩

/-- A tile of heads is the tile's part of their array. -/
theorem headAt_eq (t : Fin cfg0.N) (o : ℕ) (ho : o + 768 ≤ 3456) (y : S1x768x512.Idx) :
    headAt (iblk m c 0 t) (iblk m c 1 t) (iblk m c 2 t) o ho y = headArr m c o ho (headIdx t y) := by
  refine (dotAt_eq m c t _ _).trans (congrArg (fun R => dotOf m c R _) (Fin.ext ?_))
  show t.val * 512 + (y 2).val = t.val / 16 * 8192 + (t.val % 16 * 512 + (y 2).val)
  omega

/-- After the region the queries. -/
theorem final5 : (dats m 0 c).arrAt 5 cfg0.N = headArr m c 1024 (by decide) := by
  refine (dats m 0 c).arrAt_eq_of_covers 5 _ (by decide +kernel) fun t hf y => ?_
  blk_simp
  rw [after0_5, outs5_eq, headAt_eq]
  refine congrArg (headArr m c 1024 (by decide)) (Eq.symm ?_)
  blk_ext [index5 t] <;> rfl

/-- After the region the keys. -/
theorem final6 : (dats m 0 c).arrAt 6 cfg0.N = headArr m c 1792 (by decide) := by
  refine (dats m 0 c).arrAt_eq_of_covers 6 _ (by decide +kernel) fun t hf y => ?_
  blk_simp
  rw [after0_6, outs6_eq, headAt_eq]
  refine congrArg (headArr m c 1792 (by decide)) (Eq.symm ?_)
  blk_ext [index6 t] <;> rfl

/-- After the region the values. -/
theorem final7 : (dats m 0 c).arrAt 7 cfg0.N = headArr m c 2560 (by decide) := by
  refine (dats m 0 c).arrAt_eq_of_covers 7 _ (by decide +kernel) fun t hf y => ?_
  blk_simp
  rw [after0_7, outs7_eq, headAt_eq]
  refine congrArg (headArr m c 2560 (by decide)) (Eq.symm ?_)
  blk_ext [index7 t] <;> rfl

/-! ## The results -/

/-- What a buffer holds after the region. -/
abbrev W (r : Ref sig .tc) := Pipeline.withArrays (cfgs 0).spec c (V0 m c) (fun w => (dats m 0 c).arrAt w (cfgs 0).N) (Proc.devRef .tc r)

/-- The windows' arrays are distinct. -/
theorem arrs_inj : Function.Injective (Pipeline.arrRef (cfgs 0).spec) := by
  show Function.Injective (Pipeline.arrRef spec0)
  decide

/-- After the region the projections' buffer. -/
theorem W4 : W m c main_v10_0 = projArr m c :=
  (Pipeline.withArrays_arr (cfgs 0).spec arrs_inj c (V0 m c) (fun w => (dats m 0 c).arrAt w (cfgs 0).N) 4).trans (final4 m c)
/-- After the region the queries' buffer. -/
theorem W5 : W m c main_v10_1 = headArr m c 1024 (by decide) :=
  (Pipeline.withArrays_arr (cfgs 0).spec arrs_inj c (V0 m c) (fun w => (dats m 0 c).arrAt w (cfgs 0).N) 5).trans (final5 m c)
/-- After the region the keys' buffer. -/
theorem W6 : W m c main_v10_2 = headArr m c 1792 (by decide) :=
  (Pipeline.withArrays_arr (cfgs 0).spec arrs_inj c (V0 m c) (fun w => (dats m 0 c).arrAt w (cfgs 0).N) 6).trans (final6 m c)
/-- After the region the values' buffer. -/
theorem W7 : W m c main_v10_3 = headArr m c 2560 (by decide) :=
  (Pipeline.withArrays_arr (cfgs 0).spec arrs_inj c (V0 m c) (fun w => (dats m 0 c).arrAt w (cfgs 0).N) 7).trans (final7 m c)

/-- A normalised row against a column of the projections' matrix. -/
abbrev colOf (R : Fin 16384) (j : Fin 3332) : EReal := ∑ k, hs m c R k * a2 m c (ix2 k j)

/-- The reordered matrix begins with the activations' columns. -/
theorem dotOf_pr (R : Fin 16384) (j : Fin 3456) (hj : j.val < 1024) : dotOf m c R j = colOf m c R ⟨2308 + j.val, by omega⟩ :=
  Finset.sum_congr rfl fun k _ => congrArg (hs m c R k * ·) (V_w_pr m c j hj k)

/-- The heads' and the gates' columns follow. -/
theorem dotOf_heads (R : Fin 16384) (j : Fin 3456) (e : Fin 3332) (hj : j.val = 1024 + e.val) (he : e.val < 2308) :
    dotOf m c R j = colOf m c R e := by
  obtain ⟨j, hj'⟩ := j
  obtain rfl : j = 1024 + e.val := hj
  refine Finset.sum_congr rfl fun k _ => congrArg (hs m c R k * ·) ((V_w_heads m c _ (by simp) (by show 1024 + e.val < 3332; omega) k).trans ?_)
  exact congrArg (fun x => a2 m c (ix2 k x)) (Fin.ext (by simp))

section
variable (b : Fin 2) (q : Fin 8192)

/-- A row of a sequence among all rows. -/
abbrev seqRow : Fin 16384 := ⟨b.val * 8192 + q.val, by omega⟩

/-- What the host leaves in a buffer. -/
abbrev out (r : Ref sig .tc) := Pipeline.afterTail₀ cfgs (dats m) 0 (V0 m) [hostOps1] c r

/-- The activations' projection. -/
theorem res_pr (j : Fin 1024) : out m c main_v12 (ix3 b q j) = colOf m c (seqRow b q) ⟨2308 + j.val, by omega⟩ := by
  have h : out m c main_v12 = shapeCast S2x8192x1024 (extractStridedSlice S16384x1024 ![0, 0] (W m c main_v10_0) slices_S16384x3456_S16384x1024_0_0) shapeCasts_S16384x1024_S2x8192x1024 := by
    show StableHlo.after _ _ (Proc.devRef .tc main_v12) = _
    simp only [List.flatten_cons, List.flatten_nil, List.append_nil, List.cons_append, List.nil_append]
    after_results
    rfl
  rw [h, W4]
  pointwise [projArr]
  exact (dif_neg (show ¬3328 ≤ j.val by omega)).trans (dotOf_pr m c (seqRow b q) _ j.isLt)

/-- The gates' logarithms. -/
theorem res_logf (e : Fin 4) : out m c main_v20 (ix3 b q e) = logsig (colOf m c (seqRow b q) ⟨2304 + e.val, by omega⟩ + a3 m c (ix1 e)) := by
  have h : out m c main_v20 = shapeCast S2x8192x4 (extractStridedSlice S16384x4 ![0, 3328] (W m c main_v10_0) slices_S16384x3456_S16384x4_0_3328) shapeCasts_S16384x4_S2x8192x4 := by
    show StableHlo.after _ _ (Proc.devRef .tc main_v20) = _
    simp only [List.flatten_cons, List.flatten_nil, List.append_nil, List.cons_append, List.nil_append]
    after_results
    rfl
  rw [h, W4]
  pointwise [projArr]
  refine (dif_pos (show 3328 ≤ 3328 + e.val by omega)).trans (congrArg logsig (congrArg₂ (· + ·)
    (dotOf_heads m c (seqRow b q) _ _ (by show 3328 + e.val = 1024 + (2304 + e.val); omega) (by show 2304 + e.val < 2308; omega)) ?_))
  exact Eq.trans (congrArg (fun x => V m c main_v8 (ix2 0 x)) (Fin.ext (by simp))) (V_b_apply m c e)

/-- The queries. -/
theorem res_q (h : Fin 12) (d : Fin 64) : out m c main_v14 (ix4 b q h d) = colOf m c (seqRow b q) ⟨h.val * 64 + d.val, by omega⟩ := by
  have e : out m c main_v14 = transpose S2x8192x12x64 [0, 3, 1, 2] (shapeCast S2x12x64x8192 (W m c main_v10_1) shapeCasts_S2x768x8192_S2x12x64x8192) transposes_S2x12x64x8192_S2x8192x12x64_0_3_1_2 := by
    show StableHlo.after _ _ (Proc.devRef .tc main_v14) = _
    simp only [List.flatten_cons, List.flatten_nil, List.append_nil, List.cons_append, List.nil_append]
    after_results
    rfl
  rw [e, W5]
  pointwise [headArr]
  exact dotOf_heads m c (seqRow b q) _ _ (by show 1024 + (h.val * 64 + d.val) = 1024 + (h.val * 64 + d.val); omega) (by show h.val * 64 + d.val < 2308; omega)

/-- The keys. -/
theorem res_k (h : Fin 12) (d : Fin 64) : out m c main_v16 (ix4 b q h d) = colOf m c (seqRow b q) ⟨768 + (h.val * 64 + d.val), by omega⟩ := by
  have e : out m c main_v16 = transpose S2x8192x12x64 [0, 3, 1, 2] (shapeCast S2x12x64x8192 (W m c main_v10_2) shapeCasts_S2x768x8192_S2x12x64x8192) transposes_S2x12x64x8192_S2x8192x12x64_0_3_1_2 := by
    show StableHlo.after _ _ (Proc.devRef .tc main_v16) = _
    simp only [List.flatten_cons, List.flatten_nil, List.append_nil, List.cons_append, List.nil_append]
    after_results
    rfl
  rw [e, W6]
  pointwise [headArr]
  exact dotOf_heads m c (seqRow b q) _ _ (by show 1792 + (h.val * 64 + d.val) = 1024 + (768 + (h.val * 64 + d.val)); omega) (by show 768 + (h.val * 64 + d.val) < 2308; omega)

/-- The values. -/
theorem res_v (h : Fin 12) (d : Fin 64) : out m c main_v18 (ix4 b q h d) = colOf m c (seqRow b q) ⟨1536 + (h.val * 64 + d.val), by omega⟩ := by
  have e : out m c main_v18 = transpose S2x8192x12x64 [0, 3, 1, 2] (shapeCast S2x12x64x8192 (W m c main_v10_3) shapeCasts_S2x768x8192_S2x12x64x8192) transposes_S2x12x64x8192_S2x8192x12x64_0_3_1_2 := by
    show StableHlo.after _ _ (Proc.devRef .tc main_v18) = _
    simp only [List.flatten_cons, List.flatten_nil, List.append_nil, List.cons_append, List.nil_append]
    after_results
    rfl
  rw [e, W7]
  pointwise [headArr]
  exact dotOf_heads m c (seqRow b q) _ _ (by show 2560 + (h.val * 64 + d.val) = 1024 + (1536 + (h.val * 64 + d.val)); omega) (by show 1536 + (h.val * 64 + d.val) < 2308; omega)

end
end Cert.Proof.Proj
-- ==== Proof.ProjRef.lean ====
module

public import proofs.«01_k».proof.Defs
public import proofs.«01_k».proof.Proof.ProjValue
public import proofs.«01_k».proof.Proof.Gen.Kernel2Ideal
public import proofs.«01_k».proof.Proof.Gen.Reference2Ideal
public import proofs.«01_k».proof.Proof.Gen.Reference2Ideal.Read

/-!
The projections' results are the reference's.
-/

@[expose] public section

set_option maxRecDepth 16384

noncomputable section

namespace Cert.Proof.Proj

open Idealize.ShloMosaic Idealize.ShloMosaic.TcCoe Idealize.SL.Sem
open Cert.Proof.Moe (rms)

attribute [local instance] Cert.Kernel2Ideal.Gen.facts

section
open Cert.Kernel2Ideal Cert.Kernel2Ideal.Gen

/-- What the run leaves in the arguments. -/
theorem args_kept {F : FTy → Type} [FloatOps F] (m : (ℓ : Loc nD τ sig) → Buf (Elt F) ℓ) (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  have k : ∀ b, b ∈ Pipeline.restRefs sig (cfgs 0).spec → _ := (h c).2
  exact ⟨((h c).1 0).trans (((dats m 0 c).arrAt_in 0 rfl _).trans (V_main_arg0 m c)),
    (k main_arg1 (Pipeline.mem_restRefs_of main_arg1 (by decide) (by decide))).trans (W_main_arg1 m (dats m) c),
    (k main_arg2 (Pipeline.mem_restRefs_of main_arg2 (by decide) (by decide))).trans (W_main_arg2 m (dats m) c),
    (k main_arg3 (Pipeline.mem_restRefs_of main_arg3 (by decide) (by decide))).trans (W_main_arg3 m (dats m) c)⟩

/-- The run at any interpretation of the floats: the arguments as they were, the semaphores at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main_quiescent m ρ)

/-- The kernel's run ends with what the host leaves in the results, the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = out m c main_v14
      ∧ r.2.mem ((c.tc : Thread nD τ).loc main_v16) = out m c main_v16
      ∧ r.2.mem ((c.tc : Thread nD τ).loc main_v18) = out m c main_v18
      ∧ r.2.mem ((c.tc : Thread nD τ).loc main_v20) = out m c main_v20
      ∧ r.2.mem ((c.tc : Thread nD τ).loc main_v12) = out m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main_quiescent (F := Ideal) m ρ)
  have k : ∀ b, b ∈ Pipeline.restRefs sig (cfgs 0).spec → _ := (h.1 c).2
  exact ⟨k main_v14 (Pipeline.mem_restRefs_of main_v14 (by decide) (by decide)),
    k main_v16 (Pipeline.mem_restRefs_of main_v16 (by decide) (by decide)),
    k main_v18 (Pipeline.mem_restRefs_of main_v18 (by decide) (by decide)),
    k main_v20 (Pipeline.mem_restRefs_of main_v20 (by decide) (by decide)),
    k main_v12 (Pipeline.mem_restRefs_of main_v12 (by decide) (by decide)), args_kept m r h.1 c⟩
end

/-! ## The reference's stages -/

section
open Cert.Reference2Ideal Cert.Reference2Ideal.Read
variable (x0 : Vec Ideal S16384x1024 .f32) (x1 : Vec Ideal S1024 .f32) (x2 : Vec Ideal S1024x3332 .f32) (x3 : Vec Ideal S4 .f32)
  (b : Fin 2) (q : Fin 8192)

/-- A normalised row against a column of the matrix. -/
abbrev refCol (j : Fin 3332) : EReal :=
  ∑ k, rms (fun k => x0 (ix2 (seqRow b q) k)) (fun k => x1 (ix1 k)) k * x2 (ix2 k j)

/-- The normalised activations. -/
theorem ref_rms (k : Fin 1024) : val_main_v13 (F := Ideal) x0 x1 (ix3 b q k) = rms (fun k => x0 (ix2 (seqRow b q) k)) (fun k => x1 (ix1 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection. -/
theorem ref_dot (j : Fin 3332) : val_main_v14 (F := Ideal) x0 x1 x2 (ix3 b q j) = refCol x0 x1 x2 b q j := by
  pointwise [val_main_v14]
  exact Finset.sum_congr rfl fun k _ => congrArg (· * x2 (ix2 k j)) (ref_rms x0 x1 b q k)

/-- The queries. -/
theorem ref_q (h : Fin 12) (d : Fin 64) : val_main_v20 (F := Ideal) x0 x1 x2 (ix4 b q h d) = refCol x0 x1 x2 b q ⟨h.val * 64 + d.val, by omega⟩ := by
  pointwise [val_main_v20, val_main_v15]
  exact ref_dot x0 x1 x2 b q _

/-- The keys. -/
theorem ref_k (h : Fin 12) (d : Fin 64) : val_main_v21 (F := Ideal) x0 x1 x2 (ix4 b q h d) = refCol x0 x1 x2 b q ⟨768 + (h.val * 64 + d.val), by omega⟩ := by
  pointwise [val_main_v21, val_main_v16]
  exact ref_dot x0 x1 x2 b q _

/-- The values. -/
theorem ref_v (h : Fin 12) (d : Fin 64) : val_main_v22 (F := Ideal) x0 x1 x2 (ix4 b q h d) = refCol x0 x1 x2 b q ⟨1536 + (h.val * 64 + d.val), by omega⟩ := by
  pointwise [val_main_v22, val_main_v17]
  exact ref_dot x0 x1 x2 b q _

/-- The activations' projection. -/
theorem ref_pr (j : Fin 1024) : val_main_v19 (F := Ideal) x0 x1 x2 (ix3 b q j) = refCol x0 x1 x2 b q ⟨2308 + j.val, by omega⟩ := by
  pointwise [val_main_v19]
  exact ref_dot x0 x1 x2 b q _

/-- The gates' logarithms. -/
theorem ref_logf (e : Fin 4) : val_main_v26 (F := Ideal) x0 x1 x2 x3 (ix3 b q e)
    = logsig (refCol x0 x1 x2 b q ⟨2304 + e.val, by omega⟩ + x3 (ix1 e)) := by
  pointwise [val_main_v26, val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v5, val_main_call0_call0_v3, val_main_call0_call0_v2, val_main_call0_call0_v0, val_main_call0_call0_cst, val_main_call0_v0, val_main_v25, val_main_v24, val_main_v23, val_main_v18]
  simp only [ne_eq, not_true_eq_false, if_false]
  exact congrArg (fun z => logsig (z + x3 (ix1 e))) (ref_dot x0 x1 x2 b q _)
/-- The reference's run ends with its stages in the results, the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = val_main_v20 (F := Ideal) (m ((c.tc : Thread nD τ).loc main_arg0)) (m ((c.tc : Thread nD τ).loc main_arg1)) (m ((c.tc : Thread nD τ).loc main_arg2))
      ∧ r.2.mem ((c.tc : Thread nD τ).loc main_v21) = val_main_v21 (F := Ideal) (m ((c.tc : Thread nD τ).loc main_arg0)) (m ((c.tc : Thread nD τ).loc main_arg1)) (m ((c.tc : Thread nD τ).loc main_arg2))
      ∧ r.2.mem ((c.tc : Thread nD τ).loc main_v22) = val_main_v22 (F := Ideal) (m ((c.tc : Thread nD τ).loc main_arg0)) (m ((c.tc : Thread nD τ).loc main_arg1)) (m ((c.tc : Thread nD τ).loc main_arg2))
      ∧ r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v19) = val_main_v19 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.Reference2Ideal.Value.run m ρ)
  obtain ⟨h0, h1, h2, h3, h4, hargs⟩ := h c
  exact ⟨h0.trans (val_main_v20_eq (m ((c.tc : Thread nD τ).loc main_arg0)) (m ((c.tc : Thread nD τ).loc main_arg1)) (m ((c.tc : Thread nD τ).loc main_arg2))), h1.trans (val_main_v21_eq (m ((c.tc : Thread nD τ).loc main_arg0)) (m ((c.tc : Thread nD τ).loc main_arg1)) (m ((c.tc : Thread nD τ).loc main_arg2))), h2.trans (val_main_v22_eq (m ((c.tc : Thread nD τ).loc main_arg0)) (m ((c.tc : Thread nD τ).loc main_arg1)) (m ((c.tc : Thread nD τ).loc main_arg2))), h3.trans (val_main_v26_eq m c), h4.trans (val_main_v19_eq (m ((c.tc : Thread nD τ).loc main_arg0)) (m ((c.tc : Thread nD τ).loc main_arg1)) (m ((c.tc : Thread nD τ).loc main_arg2))), hargs⟩
end

/-- The kernel and the reference end with the same results. -/
theorem agree : Cert.algebraic_Kernel2Ideal_Reference2Ideal (hReference2Ideal := Cert.Reference2Ideal.Gen.facts) := by
  intro m g m' g' _ harg
  refine ⟨fun c => out m c Cert.Kernel2Ideal.main_v14, fun c => out m c Cert.Kernel2Ideal.main_v16, fun c => out m c Cert.Kernel2Ideal.main_v18,
    fun c => out m c Cert.Kernel2Ideal.main_v20, fun c => out m c Cert.Kernel2Ideal.main_v12, kernel_run m g, ?_⟩
  refine (θ_run Cert.Reference2Ideal.defs _ _).mono (fun r h c => ?_) (ref_run m' g')
  obtain ⟨e0, e1, e2, e3⟩ := harg c
  obtain ⟨h0, h1, h2, h3, h4, hargs⟩ := h c
  rw [e0, e1, e2] at h0 h1 h2 h4
  rw [e0, e1, e2, e3] at h3
  refine ⟨h0.trans ?_, h1.trans ?_, h2.trans ?_, h3.trans ?_, h4.trans ?_, hargs⟩
  · funext i
    have hi : i = ix4 (i 0) (i 1) (i 2) (i 3) := by
      funext a; fin_cases a <;> rfl
    rw [hi]
    exact (ref_q (a0 m c) (a1 m c) (a2 m c) (i 0) (i 1) (i 2) (i 3)).trans (res_q m c (i 0) (i 1) (i 2) (i 3)).symm
  · funext i
    have hi : i = ix4 (i 0) (i 1) (i 2) (i 3) := by
      funext a; fin_cases a <;> rfl
    rw [hi]
    exact (ref_k (a0 m c) (a1 m c) (a2 m c) (i 0) (i 1) (i 2) (i 3)).trans (res_k m c (i 0) (i 1) (i 2) (i 3)).symm
  · funext i
    have hi : i = ix4 (i 0) (i 1) (i 2) (i 3) := by
      funext a; fin_cases a <;> rfl
    rw [hi]
    exact (ref_v (a0 m c) (a1 m c) (a2 m c) (i 0) (i 1) (i 2) (i 3)).trans (res_v m c (i 0) (i 1) (i 2) (i 3)).symm
  · funext i
    have hi : i = ix3 (i 0) (i 1) (i 2) := by
      funext a; fin_cases a <;> rfl
    rw [hi]
    exact (ref_logf (a0 m c) (a1 m c) (a2 m c) (a3 m c) (i 0) (i 1) (i 2)).trans (res_logf m c (i 0) (i 1) (i 2)).symm
  · funext i
    have hi : i = ix3 (i 0) (i 1) (i 2) := by
      funext a; fin_cases a <;> rfl
    rw [hi]
    exact (ref_pr (a0 m c) (a1 m c) (a2 m c) (i 0) (i 1) (i 2)).trans (res_pr m c (i 0) (i 1) (i 2)).symm

end Cert.Proof.Proj
-- ==== Proof.Samp.lean ====
module

public import proofs.«01_k».proof.Proof.Proj
public import proofs.«01_k».proof.Proof.Gen.Kernel3Ideal.Frame
public import Idealize.ShloMosaic.Lib.Pointwise
public import Idealize.ShloMosaic.Lib.WholeRead
public import Idealize.ShloMosaic.Lib.StableHlo.Run
public import Idealize.ShloMosaic.Lib.Pipeline.ValueKit.Geometry

/-!
The projections of the decoding step: what the one grid point leaves in its staging buffer, and what the host makes of it.
-/

@[expose] public section

set_option maxRecDepth 16384

noncomputable section

namespace Cert.Proof.Samp

open Cert.Kernel3Ideal Cert.Kernel3Ideal.Gen
open Idealize.ShloMosaic Idealize.ShloMosaic.TcCoe
open Cert.Proof.Moe (rms)
open Cert.Proof.Proj (logsig)

/-! ## The values stored -/

section
variable (x : Vec Ideal S128x1024 .f32) (g : Vec Ideal S1x1024 .f32)

/-- A tile's row, normalised. -/
abbrev hrow (r : Fin 128) : Fin 1024 → EReal := rms (fun k => x (ix2 r k)) fun k => g (ix2 0 k)

/-- A tile's rows, normalised. -/
theorem pay3_apply (r : Fin 128) (k : Fin 1024) : k0_pay3 x g (ix2 r k) = hrow x g r k := by
  pointwise [k0_pay3]
  rfl

/-- The first third of the columns: the rows against the columns. -/
theorem pay4_apply (w : Vec Ideal S1152x1024 .bf16) (r : Fin 128) (j : Fin 1152) :
    k0_pay4 x g w (ix2 r j) = ∑ k, hrow x g r k * w (ix2 j k) := by
  pointwise [k0_pay4]
  simp only [pay3_apply]

/-- The second third of the columns. -/
theorem pay5_apply (w : Vec Ideal S1152x1024 .bf16) (r : Fin 128) (j : Fin 1152) :
    k0_pay5 x g w (ix2 r j) = ∑ k, hrow x g r k * w (ix2 j k) := by
  pointwise [k0_pay5]
  simp only [pay3_apply]

/-- The last third of the columns, up to the gates. -/
theorem pay2_apply (w : Vec Ideal S1152x1024 .bf16) (r : Fin 128) (j : Fin 1024) :
    k0_pay2 (k0_pay6 x g w) (ix2 r j) = ∑ k, hrow x g r k * w (ix2 (j.castLE (by omega)) k) := by
  pointwise [k0_pay2, k0_pay6]
  simp only [pay3_apply]
  rfl

/-- The gates: the logarithm of the logistic function of the column with its bias. -/
theorem pay1_apply (w : Vec Ideal S1152x1024 .bf16) (b : Vec Ideal S1x128 .f32) (r : Fin 128) (j : Fin 128) :
    k0_pay1 (k0_pay7 x g w b) (ix2 r j) = logsig ((∑ k, hrow x g r k * w (ix2 ⟨1024 + j, by omega⟩ k)) + b (ix2 0 j)) := by
  pointwise [k0_pay1, k0_pay7, k0_pay6]
  simp only [pay3_apply, ne_eq, not_true_eq_false, if_false, zero_sub, logsig]

end

/-! ## The staging buffers after a point -/

/-- Rows against columns, each loaded from its buffer. -/
theorem load_dot {n : ℕ} {M0 : Memref sig .tc .vmem S128x1024 .f32} {M1 : Memref sig .tc .vmem S1x1024 .f32}
    {M2 : Memref sig .tc .vmem S3456x1024 .bf16} (h0 : M0.IsWhole) (h1 : M1.IsWhole) (h2 : M2.IsWhole)
    (x : Vec Ideal S128x1024 .f32) (g : Vec Ideal S1x1024 .f32) (w : Vec Ideal S3456x1024 .bf16) (o : ℕ)
    (i0 : ∀ a : Fin 2, ![0, 0] a + ![128, 1024] a ≤ S128x1024.size a) (i1 : ∀ a : Fin 2, ![0, 0] a + ![1, 1024] a ≤ S1x1024.size a)
    (i2 : ∀ a : Fin 2, ![o, 0] a + ![n, 1024] a ≤ S3456x1024.size a) (r : Fin 128) (j : Fin n) (J : Fin 3456) (hJ : J.val = o + j.val) :
    ∑ k, hrow (View.readAt (Elt Ideal) M0.view (Rect.unit (s := S128x1024) ![0, 0] ![128, 1024] i0).toLoadRect (h0.unread x))
        (View.readAt (Elt Ideal) M1.view (Rect.unit (s := S1x1024) ![0, 0] ![1, 1024] i1).toLoadRect (h1.unread g)) r k
      * View.readAt (Elt Ideal) M2.view (Rect.unit (s := S3456x1024) ![o, 0] ![n, 1024] i2).toLoadRect (h2.unread w) (ix2 j k)
    = ∑ k, hrow x g r k * w (ix2 J k) := by
  refine Finset.sum_congr rfl fun k _ => congrArg₂ (· * ·) ?_ ?_
  · refine congrFun (congrArg₂ rms (funext fun k => ?_) (funext fun k => ?_)) k
    · rw [h0.readAt_unread]
      refine congrArg x (funext fun a => Fin.ext ?_)
      fin_cases a
      · show 0 + 1 * r.val = r.val
        omega
      · show 0 + 1 * k.val = k.val
        omega
    · rw [h1.readAt_unread]
      refine congrArg g (funext fun a => Fin.ext ?_)
      fin_cases a
      · rfl
      · show 0 + 1 * k.val = k.val
        omega
  · rw [h2.readAt_unread]
    refine congrArg w (funext fun a => Fin.ext ?_)
    fin_cases a
    · show o + 1 * j.val = J.val
      omega
    · show 0 + 1 * k.val = k.val
      omega

/-- A bias loaded from its buffer. -/
theorem load_bias {M3 : Memref sig .tc .vmem S1x128 .f32} (h3 : M3.IsWhole) (b : Vec Ideal S1x128 .f32)
    (i3 : ∀ a : Fin 2, ![0, 0] a + ![1, 128] a ≤ S1x128.size a) (j : Fin 128) :
    View.readAt (Elt Ideal) M3.view (Rect.unit (s := S1x128) ![0, 0] ![1, 128] i3).toLoadRect (h3.unread b) (ix2 0 j) = b (ix2 0 j) := by
  rw [h3.readAt_unread]
  refine congrArg b (funext fun a => Fin.ext ?_)
  fin_cases a
  · rfl
  · show 0 + 1 * j.val = j.val
    omega

/-- The place of a column of a stored part. -/
theorem emb_cols {n o : ℕ} (inb : ∀ a : Fin 2, ![0, o] a + ![128, n] a ≤ S128x3456.size a) (r : Fin 128) (j : Fin n) (J : Fin 3456)
    (hJ : J.val = o + j.val) : (Rect.unit (s := S128x3456) ![0, o] ![128, n] inb).emb (ix2 r j) = ix2 r J := by
  refine funext fun a => Fin.ext ?_
  fin_cases a
  · show 0 + 1 * r.val = r.val
    omega
  · show o + 1 * j.val = J.val
    omega

section
variable (x : Vec Ideal S128x1024 .f32) (g : Vec Ideal S1x1024 .f32) (w : Vec Ideal S3456x1024 .bf16) (b : Vec Ideal S1x128 .f32)

/-- A row against a row of the matrix. -/
abbrev dotAt (r : Fin 128) (j : Fin 3456) : EReal := ∑ k, hrow x g r k * w (ix2 j k)

/-- What a point leaves in its tile of projections. -/
def projAt (y : S128x3456.Idx) : EReal :=
  if h : 3328 ≤ (y 1).val then logsig (dotAt x g w (y 0) (y 1) + b (ix2 0 ⟨(y 1).val - 3328, by have h : (y 1).val < 3456 := (y 1).isLt; omega⟩))
  else dotAt x g w (y 0) (y 1)
end

section
variable (m : (ℓ : Loc nD τ sig) → Buf (Elt Ideal) ℓ) (c : Dev nD) (t : Fin cfg0.N)

/-- The tile of projections. -/
theorem outs4_eq (y : S128x3456.Idx) : outsAt0 m c t y
    = projAt (iblk m c 0 t) (iblk m c 1 t) (iblk m c 2 t) (iblk m c 3 t) y := by
  unfold outsAt0 out0_A_4
  dsimp only
  generalize iblk m c 0 t = x, iblk m c 1 t = g, iblk m c 2 t = w, iblk m c 3 t = b
  refine View.read_writes_apply_of_pieces (Val := Elt Ideal) _ _ (projAt x g w b) _ ?_ _ (cover0_A_4 ..)
  unfold kernelRun0_A kernelRun0_A.sl.r_1
  simp only [List.forall_mem_cons]
  refine ⟨?_, ?_, ?_, ?_, fun _ h => absurd h List.not_mem_nil⟩
  · intro y
    obtain ⟨r, j, rfl⟩ : ∃ (r : Fin 128) (j : Fin 128), y = ix2 r j := ⟨y 0, y 1, by funext a; fin_cases a <;> rfl⟩
    refine (pay1_apply _ _ _ _ r j).trans (Eq.trans ?_ (congrArg (projAt x g w b) (emb_cols _ r j ⟨3328 + j.val, by omega⟩ rfl)).symm)
    refine Eq.trans ?_ (dif_pos (Nat.le_add_right 3328 j.val)).symm
    refine congrArg logsig (congrArg₂ (· + ·) (load_dot _ _ _ x g w 2304 _ _ _ r _ ⟨3328 + j.val, by omega⟩ (Nat.add_assoc 2304 1024 j.val)) ?_)
    refine (load_bias _ b _ j).trans (congrArg (fun j => b (ix2 0 j)) (Fin.ext ?_))
    show j.val = 3328 + j.val - 3328
    omega
  · intro y
    obtain ⟨r, j, rfl⟩ : ∃ (r : Fin 128) (j : Fin 1024), y = ix2 r j := ⟨y 0, y 1, by funext a; fin_cases a <;> rfl⟩
    refine (pay2_apply _ _ _ r j).trans (Eq.trans ?_ (congrArg (projAt x g w b) (emb_cols _ r j ⟨2304 + j.val, by omega⟩ rfl)).symm)
    refine Eq.trans ?_ (dif_neg (show ¬ 3328 ≤ 2304 + j.val by omega)).symm
    exact load_dot _ _ _ x g w 2304 _ _ _ r _ _ rfl
  · intro y
    obtain ⟨r, j, rfl⟩ : ∃ (r : Fin 128) (j : Fin 1152), y = ix2 r j := ⟨y 0, y 1, by funext a; fin_cases a <;> rfl⟩
    refine (pay5_apply _ _ _ r j).trans (Eq.trans ?_ (congrArg (projAt x g w b) (emb_cols _ r j ⟨1152 + j.val, by omega⟩ rfl)).symm)
    refine Eq.trans ?_ (dif_neg (show ¬ 3328 ≤ 1152 + j.val by omega)).symm
    exact load_dot _ _ _ x g w 1152 _ _ _ r j _ rfl
  · intro y
    obtain ⟨r, j, rfl⟩ : ∃ (r : Fin 128) (j : Fin 1152), y = ix2 r j := ⟨y 0, y 1, by funext a; fin_cases a <;> rfl⟩
    refine (pay4_apply _ _ _ r j).trans (Eq.trans ?_ (congrArg (projAt x g w b) (emb_cols _ r j ⟨0 + j.val, by omega⟩ rfl)).symm)
    refine Eq.trans ?_ (dif_neg (show ¬ 3328 ≤ 0 + j.val by omega)).symm
    exact load_dot _ _ _ x g w 0 _ _ _ r j _ rfl
end

variable (m : (ℓ : Loc nD τ sig) → Buf (Elt Ideal) ℓ) (c : Dev nD)

/-! ## The arguments -/

/-- The activations. -/
abbrev a0 : Vec Ideal S128x1024 .f32 := m ((c : Thread nD τ).loc main_arg0)
/-- The gains. -/
abbrev a1 : Vec Ideal S1024 .f32 := m ((c : Thread nD τ).loc main_arg1)
/-- The projections' matrix. -/
abbrev a2 : Vec Ideal S1024x3332 .f32 := m ((c : Thread nD τ).loc main_arg2)
/-- The gates' bias. -/
abbrev a3 : Vec Ideal S4 .f32 := m ((c : Thread nD τ).loc main_arg3)

/-! ## The arrays when the region is entered -/

/-- The gains, as a row. -/
theorem V_g : V m c main_v9 = shapeCast S1x1024 (a1 m c) shapeCasts_S1024_S1x1024 := by
  show StableHlo.after _ _ (Proc.devRef .tc main_v9) = _
  simp only [List.flatten_cons, List.flatten_nil, List.append_nil, List.cons_append, List.nil_append]
  after_results
  rfl

/-- The gates' bias, continued to all lanes. -/
theorem V_b : V m c main_v8 = shapeCast S1x128 (pad S128 ![0] ![124] ![0] (a3 m c)
    (sitofp (F := Ideal) .f32 (constantI S_ 32 0#32)) pads_S4_S128_01240 h_S_) shapeCasts_S128_S1x128 := by
  show StableHlo.after _ _ (Proc.devRef .tc main_v8) = _
  simp only [List.flatten_cons, List.flatten_nil, List.append_nil, List.cons_append, List.nil_append]
  after_results
  rfl

/-- The matrix's columns, as rows. -/
abbrev columns : Vec Ideal S3332x1024 .f32 := transpose S3332x1024 [1, 0] (a2 m c) transposes_S1024x3332_S3332x1024_1_0

/-- The matrix's columns as rows, reordered and continued. -/
theorem V_w : V m c main_v6 = truncf (F := Ideal) (φ := .f32) .bf16 (concatenate S3456x1024 0
    [⟨S1024x1024, extractStridedSlice S1024x1024 ![2308, 0] (columns m c) slices_S3332x1024_S1024x1024_2308_0⟩,
     ⟨S2304x1024, extractStridedSlice S2304x1024 ![0, 0] (columns m c) slices_S3332x1024_S2304x1024_0_0⟩,
     ⟨S128x1024, pad S128x1024 ![0, 0] ![124, 0] ![0, 0] (extractStridedSlice S4x1024 ![2304, 0] (columns m c) slices_S3332x1024_S4x1024_2304_0)
       (sitofp (F := Ideal) .f32 (constantI S_ 32 0#32)) pads_S4x1024_S128x1024_01240_000 h_S_⟩]
    concatenates_S1024x1024_S2304x1024_S128x1024_S3456x1024_d0) bitsLt_bf16_f32 := by
  show StableHlo.after _ _ (Proc.devRef .tc main_v6) = _
  simp only [List.flatten_cons, List.flatten_nil, List.append_nil, List.cons_append, List.nil_append]
  after_results
  rfl

/-- A gain. -/
theorem V_g_apply (k : Fin 1024) : V m c main_v9 (ix2 0 k) = a1 m c (ix1 k) := by
  rw [V_g]
  generalize a1 m c = a
  pointwise []

/-- A gate's bias. -/
theorem V_b_apply (e : Fin 4) : V m c main_v8 (ix2 0 (e.castLE (by omega))) = a3 m c (ix1 e) := by
  rw [V_b]
  generalize a3 m c = a
  pointwise []
  exact dif_pos e.isLt

/-- A row of the reordered matrix that is a column of the first part. -/
theorem V_w_pr (j : Fin 3456) (hj : j.val < 1024) (k : Fin 1024) : V m c main_v6 (ix2 j k) = a2 m c (ix2 k ⟨2308 + j.val, by omega⟩) := by
  rw [V_w]
  unfold columns
  generalize a2 m c = a
  pointwise []
  exact dif_pos hj

/-- A row of the reordered matrix that is a column of the heads or a gate. -/
theorem V_w_heads (j : Fin 3456) (hj : 1024 ≤ j.val) (hj' : j.val < 3332) (k : Fin 1024) :
    V m c main_v6 (ix2 j k) = a2 m c (ix2 k ⟨j.val - 1024, by omega⟩) := by
  rw [V_w]
  unfold columns
  generalize a2 m c = a
  pointwise []
  rw [dif_neg (by omega)]
  by_cases h : j.val - 1024 < 2304
  · rw [dif_pos h]
  · rw [dif_neg h, dif_pos (by omega)]
    refine congrArg (fun q => a (ix2 k q)) (Fin.ext ?_)
    show 2304 + (j.val - 1024 - 2304) = j.val - 1024
    omega

/-! ## The windows' blocks -/

/-- At a point the block of the activations are the tile's. -/
theorem index0 : ∀ t : Fin cfg0.N, win0_0.index t = ![t.val, 0] := (by decide +kernel : ∀ t : Fin grid0.N, _)
/-- At a point the block of the gains are the whole row. -/
theorem index1 : ∀ t : Fin cfg0.N, win0_1.index t = ![0, 0] := (by decide +kernel : ∀ t : Fin grid0.N, _)
/-- At a point the block of the matrix is whole. -/
theorem index2 : ∀ t : Fin cfg0.N, win0_2.index t = ![0, 0] := (by decide +kernel : ∀ t : Fin grid0.N, _)
/-- At a point the block of the bias is whole. -/
theorem index3 : ∀ t : Fin cfg0.N, win0_3.index t = ![0, 0] := (by decide +kernel : ∀ t : Fin grid0.N, _)
/-- At a point the block of the projections is the tile's. -/
theorem index4 : ∀ t : Fin cfg0.N, win0_4.index t = ![t.val, 0] := (by decide +kernel : ∀ t : Fin grid0.N, _)
/-- The row of the activations a tile's row is. -/
abbrev rowOf (t : Fin cfg0.N) (r : Fin 128) : Fin 128 :=
  ⟨t.val * 128 + r.val, by have h := t.isLt; have h' : cfg0.N = 1 := rfl; have := r.isLt; omega⟩

/-- A tile of activations. -/
theorem iblk0_apply (t : Fin cfg0.N) (r : Fin 128) (k : Fin 1024) : iblk m c 0 t (ix2 r k) = a0 m c (ix2 (rowOf t r) k) := by
  blk_simp [iblk]
  refine (congrFun (V_main_arg0 m c) _).trans (congrArg (a0 m c) ?_)
  blk_ext [index0 t]
/-- The gains. -/
theorem iblk1_apply (t : Fin cfg0.N) (k : Fin 1024) : iblk m c 1 t (ix2 0 k) = a1 m c (ix1 k) := by
  blk_simp [iblk]
  refine Eq.trans (congrArg (V m c main_v9) ?_) (V_g_apply m c k)
  blk_ext [index1 t]
/-- The reordered matrix. -/
theorem iblk2_apply (t : Fin cfg0.N) (j : Fin 3456) (k : Fin 1024) : iblk m c 2 t (ix2 j k) = V m c main_v6 (ix2 j k) := by
  blk_simp [iblk]
  refine congrArg (V m c main_v6) ?_
  blk_ext [index2 t]
/-- The continued bias. -/
theorem iblk3_apply (t : Fin cfg0.N) (j : Fin 128) : iblk m c 3 t (ix2 0 j) = V m c main_v8 (ix2 0 j) := by
  blk_simp [iblk]
  refine congrArg (V m c main_v8) ?_
  blk_ext [index3 t]

/-! ## The arrays the region leaves -/

/-- A row of the activations, normalised. -/
abbrev hs (R : Fin 128) : Fin 1024 → EReal := rms (fun k => a0 m c (ix2 R k)) fun k => a1 m c (ix1 k)

/-- A normalised row against a row of the reordered matrix. -/
abbrev dotOf (R : Fin 128) (j : Fin 3456) : EReal := ∑ k, hs m c R k * V m c main_v6 (ix2 j k)

/-- A tile's row against a row of the matrix. -/
theorem dotAt_eq (t : Fin cfg0.N) (r : Fin 128) (j : Fin 3456) :
    dotAt (iblk m c 0 t) (iblk m c 1 t) (iblk m c 2 t) r j = dotOf m c (rowOf t r) j := by
  refine Finset.sum_congr rfl fun k _ => congrArg₂ (· * ·) ?_ (iblk2_apply m c t j k)
  exact congrFun (congrArg₂ rms (funext fun k => iblk0_apply m c t r k) (funext fun k => iblk1_apply m c t k)) k

/-- A projection: the last 128 columns are the gates' logarithms. -/
def projOf (R : Fin 128) (j : Fin 3456) : EReal :=
  if h : 3328 ≤ j.val then logsig (dotOf m c R j + V m c main_v8 (ix2 0 ⟨j.val - 3328, by omega⟩)) else dotOf m c R j

/-- The projections. -/
def projArr (i : S128x3456.Idx) : EReal := projOf m c (i 0) (i 1)

/-- A tile of projections is the tile's part of their array. -/
theorem projAt_eq (t : Fin cfg0.N) (y : S128x3456.Idx) :
    projAt (iblk m c 0 t) (iblk m c 1 t) (iblk m c 2 t) (iblk m c 3 t) y = projArr m c (ix2 (rowOf t (y 0)) (y 1)) := by
  refine Eq.trans ?_ (rfl : projOf m c (rowOf t (y 0)) (y 1) = _)
  unfold projAt projOf
  by_cases h : 3328 ≤ (y 1).val
  · refine (dif_pos h).trans (Eq.trans ?_ (dif_pos h).symm)
    exact congrArg logsig (congrArg₂ (· + ·) (dotAt_eq m c t (y 0) (y 1)) (iblk3_apply m c t _))
  · refine (dif_neg h).trans (Eq.trans ?_ (dif_neg h).symm)
    exact dotAt_eq m c t (y 0) (y 1)

/-- After the region the projections. -/
theorem final4 : (dats m 0 c).arrAt 4 cfg0.N = projArr m c := by
  refine (dats m 0 c).arrAt_eq_of_covers 4 _ (by decide +kernel) fun t hf y => ?_
  blk_simp
  rw [after0_4, outs4_eq, projAt_eq]
  refine congrArg (projArr m c) (Eq.symm ?_)
  blk_ext [index4 t] <;> rfl

/-! ## The results -/

/-- What a buffer holds after the region. -/
abbrev W (r : Ref sig .tc) := Pipeline.withArrays (cfgs 0).spec c (V0 m c) (fun w => (dats m 0 c).arrAt w (cfgs 0).N) (Proc.devRef .tc r)

/-- The windows' arrays are distinct. -/
theorem arrs_inj : Function.Injective (Pipeline.arrRef (cfgs 0).spec) := by
  show Function.Injective (Pipeline.arrRef spec0)
  decide

/-- After the region the projections' buffer. -/
theorem W4 : W m c main_v10 = projArr m c :=
  (Pipeline.withArrays_arr (cfgs 0).spec arrs_inj c (V0 m c) (fun w => (dats m 0 c).arrAt w (cfgs 0).N) 4).trans (final4 m c)
/-- A normalised row against a column of the projections' matrix. -/
abbrev colOf (R : Fin 128) (j : Fin 3332) : EReal := ∑ k, hs m c R k * a2 m c (ix2 k j)

/-- The reordered matrix begins with the activations' columns. -/
theorem dotOf_pr (R : Fin 128) (j : Fin 3456) (hj : j.val < 1024) : dotOf m c R j = colOf m c R ⟨2308 + j.val, by omega⟩ :=
  Finset.sum_congr rfl fun k _ => congrArg (hs m c R k * ·) (V_w_pr m c j hj k)

/-- The heads' and the gates' columns follow. -/
theorem dotOf_heads (R : Fin 128) (j : Fin 3456) (e : Fin 3332) (hj : j.val = 1024 + e.val) (he : e.val < 2308) :
    dotOf m c R j = colOf m c R e := by
  obtain ⟨j, hj'⟩ := j
  obtain rfl : j = 1024 + e.val := hj
  refine Finset.sum_congr rfl fun k _ => congrArg (hs m c R k * ·) ((V_w_heads m c _ (by simp) (by show 1024 + e.val < 3332; omega) k).trans ?_)
  exact congrArg (fun x => a2 m c (ix2 k x)) (Fin.ext (by simp))

section
variable (b : Fin 32) (q : Fin 4)

/-- A row of a sequence among all rows. -/
abbrev seqRow : Fin 128 := ⟨b.val * 4 + q.val, by omega⟩

/-- What the host leaves in a buffer. -/
abbrev out (r : Ref sig .tc) := Pipeline.afterTail₀ cfgs (dats m) 0 (V0 m) [hostOps1] c r

/-- The activations' projection. -/
theorem res_pr (j : Fin 1024) : out m c main_v12 (ix3 b q j) = colOf m c (seqRow b q) ⟨2308 + j.val, by omega⟩ := by
  have h : out m c main_v12 = shapeCast S32x4x1024 (extractStridedSlice S128x1024 ![0, 0] (W m c main_v10) slices_S128x3456_S128x1024_0_0) shapeCasts_S128x1024_S32x4x1024 := by
    show StableHlo.after _ _ (Proc.devRef .tc main_v12) = _
    simp only [List.flatten_cons, List.flatten_nil, List.append_nil, List.cons_append, List.nil_append]
    after_results
    rfl
  rw [h, W4]
  pointwise [projArr]
  exact (dif_neg (show ¬3328 ≤ j.val by omega)).trans (dotOf_pr m c (seqRow b q) _ j.isLt)

/-- The gates' logarithms. -/
theorem res_logf (e : Fin 4) : out m c main_v20 (ix3 b q e) = logsig (colOf m c (seqRow b q) ⟨2304 + e.val, by omega⟩ + a3 m c (ix1 e)) := by
  have h : out m c main_v20 = shapeCast S32x4x4 (extractStridedSlice S128x4 ![0, 3328] (W m c main_v10) slices_S128x3456_S128x4_0_3328) shapeCasts_S128x4_S32x4x4 := by
    show StableHlo.after _ _ (Proc.devRef .tc main_v20) = _
    simp only [List.flatten_cons, List.flatten_nil, List.append_nil, List.cons_append, List.nil_append]
    after_results
    rfl
  rw [h, W4]
  pointwise [projArr]
  refine (dif_pos (show 3328 ≤ 3328 + e.val by omega)).trans (congrArg logsig (congrArg₂ (· + ·)
    (dotOf_heads m c (seqRow b q) _ _ (by show 3328 + e.val = 1024 + (2304 + e.val); omega) (by show 2304 + e.val < 2308; omega)) ?_))
  exact Eq.trans (congrArg (fun x => V m c main_v8 (ix2 0 x)) (Fin.ext (by simp))) (V_b_apply m c e)

/-- The queries. -/
theorem res_q (h : Fin 12) (d : Fin 64) : out m c main_v14 (ix4 b q h d) = colOf m c (seqRow b q) ⟨h.val * 64 + d.val, by omega⟩ := by
  have e : out m c main_v14 = shapeCast S32x4x12x64 (extractStridedSlice S128x768 ![0, 1024] (W m c main_v10) slices_S128x3456_S128x768_0_1024) shapeCasts_S128x768_S32x4x12x64 := by
    show StableHlo.after _ _ (Proc.devRef .tc main_v14) = _
    simp only [List.flatten_cons, List.flatten_nil, List.append_nil, List.cons_append, List.nil_append]
    after_results
    rfl
  rw [e, W4]
  pointwise [projArr]
  exact (dif_neg (show ¬3328 ≤ 1024 + (h.val * 64 + d.val) by omega)).trans
    (dotOf_heads m c (seqRow b q) _ _ (by show 1024 + (h.val * 64 + d.val) = 1024 + (h.val * 64 + d.val); omega) (by show h.val * 64 + d.val < 2308; omega))

/-- The keys. -/
theorem res_k (h : Fin 12) (d : Fin 64) : out m c main_v16 (ix4 b q h d) = colOf m c (seqRow b q) ⟨768 + (h.val * 64 + d.val), by omega⟩ := by
  have e : out m c main_v16 = shapeCast S32x4x12x64 (extractStridedSlice S128x768 ![0, 1792] (W m c main_v10) slices_S128x3456_S128x768_0_1792) shapeCasts_S128x768_S32x4x12x64 := by
    show StableHlo.after _ _ (Proc.devRef .tc main_v16) = _
    simp only [List.flatten_cons, List.flatten_nil, List.append_nil, List.cons_append, List.nil_append]
    after_results
    rfl
  rw [e, W4]
  pointwise [projArr]
  exact (dif_neg (show ¬3328 ≤ 1792 + (h.val * 64 + d.val) by omega)).trans
    (dotOf_heads m c (seqRow b q) _ _ (by show 1792 + (h.val * 64 + d.val) = 1024 + (768 + (h.val * 64 + d.val)); omega) (by show 768 + (h.val * 64 + d.val) < 2308; omega))

/-- The values. -/
theorem res_v (h : Fin 12) (d : Fin 64) : out m c main_v18 (ix4 b q h d) = colOf m c (seqRow b q) ⟨1536 + (h.val * 64 + d.val), by omega⟩ := by
  have e : out m c main_v18 = shapeCast S32x4x12x64 (extractStridedSlice S128x768 ![0, 2560] (W m c main_v10) slices_S128x3456_S128x768_0_2560) shapeCasts_S128x768_S32x4x12x64 := by
    show StableHlo.after _ _ (Proc.devRef .tc main_v18) = _
    simp only [List.flatten_cons, List.flatten_nil, List.append_nil, List.cons_append, List.nil_append]
    after_results
    rfl
  rw [e, W4]
  pointwise [projArr]
  exact (dif_neg (show ¬3328 ≤ 2560 + (h.val * 64 + d.val) by omega)).trans
    (dotOf_heads m c (seqRow b q) _ _ (by show 2560 + (h.val * 64 + d.val) = 1024 + (1536 + (h.val * 64 + d.val)); omega) (by show 1536 + (h.val * 64 + d.val) < 2308; omega))

end

end Cert.Proof.Samp
-- ==== Proof.SampRef.lean ====
module

public import proofs.«01_k».proof.Defs
public import proofs.«01_k».proof.Proof.Samp
public import proofs.«01_k».proof.Proof.Gen.Kernel3Ideal
public import proofs.«01_k».proof.Proof.Gen.Reference3Ideal
public import proofs.«01_k».proof.Proof.Gen.Reference3Ideal.Read

/-!
The results of the decoding step's projections are the reference's.
-/

@[expose] public section

set_option maxRecDepth 16384

noncomputable section

namespace Cert.Proof.Samp

open Idealize.ShloMosaic Idealize.ShloMosaic.TcCoe Idealize.SL.Sem
open Cert.Proof.Moe (rms)
open Cert.Proof.Proj (logsig)

attribute [local instance] Cert.Kernel3Ideal.Gen.facts

section
open Cert.Kernel3Ideal Cert.Kernel3Ideal.Gen

/-- What the run leaves in the arguments. -/
theorem args_kept {F : FTy → Type} [FloatOps F] (m : (ℓ : Loc nD τ sig) → Buf (Elt F) ℓ) (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  have k : ∀ b, b ∈ Pipeline.restRefs sig (cfgs 0).spec → _ := (h c).2
  exact ⟨((h c).1 0).trans (((dats m 0 c).arrAt_in 0 rfl _).trans (V_main_arg0 m c)),
    (k main_arg1 (Pipeline.mem_restRefs_of main_arg1 (by decide) (by decide))).trans (W_main_arg1 m (dats m) c),
    (k main_arg2 (Pipeline.mem_restRefs_of main_arg2 (by decide) (by decide))).trans (W_main_arg2 m (dats m) c),
    (k main_arg3 (Pipeline.mem_restRefs_of main_arg3 (by decide) (by decide))).trans (W_main_arg3 m (dats m) c)⟩

/-- The run at any interpretation of the floats: the arguments as they were, the semaphores at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main_quiescent m ρ)

/-- The kernel's run ends with what the host leaves in the results, the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = out m c main_v14
      ∧ r.2.mem ((c.tc : Thread nD τ).loc main_v16) = out m c main_v16
      ∧ r.2.mem ((c.tc : Thread nD τ).loc main_v18) = out m c main_v18
      ∧ r.2.mem ((c.tc : Thread nD τ).loc main_v20) = out m c main_v20
      ∧ r.2.mem ((c.tc : Thread nD τ).loc main_v12) = out m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main_quiescent (F := Ideal) m ρ)
  have k : ∀ b, b ∈ Pipeline.restRefs sig (cfgs 0).spec → _ := (h.1 c).2
  exact ⟨k main_v14 (Pipeline.mem_restRefs_of main_v14 (by decide) (by decide)),
    k main_v16 (Pipeline.mem_restRefs_of main_v16 (by decide) (by decide)),
    k main_v18 (Pipeline.mem_restRefs_of main_v18 (by decide) (by decide)),
    k main_v20 (Pipeline.mem_restRefs_of main_v20 (by decide) (by decide)),
    k main_v12 (Pipeline.mem_restRefs_of main_v12 (by decide) (by decide)), args_kept m r h.1 c⟩
end

/-! ## The reference's stages -/

section
open Cert.Reference3Ideal Cert.Reference3Ideal.Read
variable (x0 : Vec Ideal S128x1024 .f32) (x1 : Vec Ideal S1024 .f32) (x2 : Vec Ideal S1024x3332 .f32) (x3 : Vec Ideal S4 .f32)
  (b : Fin 32) (q : Fin 4)

/-- A normalised row against a column of the matrix. -/
abbrev refCol (j : Fin 3332) : EReal :=
  ∑ k, rms (fun k => x0 (ix2 (seqRow b q) k)) (fun k => x1 (ix1 k)) k * x2 (ix2 k j)

/-- The normalised activations. -/
theorem ref_rms (k : Fin 1024) : val_main_v13 (F := Ideal) x0 x1 (ix3 b q k) = rms (fun k => x0 (ix2 (seqRow b q) k)) (fun k => x1 (ix1 k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection. -/
theorem ref_dot (j : Fin 3332) : val_main_v14 (F := Ideal) x0 x1 x2 (ix3 b q j) = refCol x0 x1 x2 b q j := by
  pointwise [val_main_v14]
  exact Finset.sum_congr rfl fun k _ => congrArg (· * x2 (ix2 k j)) (ref_rms x0 x1 b q k)

/-- The queries. -/
theorem ref_q (h : Fin 12) (d : Fin 64) : val_main_v20 (F := Ideal) x0 x1 x2 (ix4 b q h d) = refCol x0 x1 x2 b q ⟨h.val * 64 + d.val, by omega⟩ := by
  pointwise [val_main_v20, val_main_v15]
  exact ref_dot x0 x1 x2 b q _

/-- The keys. -/
theorem ref_k (h : Fin 12) (d : Fin 64) : val_main_v21 (F := Ideal) x0 x1 x2 (ix4 b q h d) = refCol x0 x1 x2 b q ⟨768 + (h.val * 64 + d.val), by omega⟩ := by
  pointwise [val_main_v21, val_main_v16]
  exact ref_dot x0 x1 x2 b q _

/-- The values. -/
theorem ref_v (h : Fin 12) (d : Fin 64) : val_main_v22 (F := Ideal) x0 x1 x2 (ix4 b q h d) = refCol x0 x1 x2 b q ⟨1536 + (h.val * 64 + d.val), by omega⟩ := by
  pointwise [val_main_v22, val_main_v17]
  exact ref_dot x0 x1 x2 b q _

/-- The activations' projection. -/
theorem ref_pr (j : Fin 1024) : val_main_v19 (F := Ideal) x0 x1 x2 (ix3 b q j) = refCol x0 x1 x2 b q ⟨2308 + j.val, by omega⟩ := by
  pointwise [val_main_v19]
  exact ref_dot x0 x1 x2 b q _

/-- The gates' logarithms. -/
theorem ref_logf (e : Fin 4) : val_main_v26 (F := Ideal) x0 x1 x2 x3 (ix3 b q e)
    = logsig (refCol x0 x1 x2 b q ⟨2304 + e.val, by omega⟩ + x3 (ix1 e)) := by
  pointwise [val_main_v26, val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v5, val_main_call0_call0_v3, val_main_call0_call0_v2, val_main_call0_call0_v0, val_main_call0_call0_cst, val_main_call0_v0, val_main_v25, val_main_v24, val_main_v23, val_main_v18]
  simp only [ne_eq, not_true_eq_false, if_false]
  exact congrArg (fun z => logsig (z + x3 (ix1 e))) (ref_dot x0 x1 x2 b q _)
/-- The reference's run ends with its stages in the results, the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = val_main_v20 (F := Ideal) (m ((c.tc : Thread nD τ).loc main_arg0)) (m ((c.tc : Thread nD τ).loc main_arg1)) (m ((c.tc : Thread nD τ).loc main_arg2))
      ∧ r.2.mem ((c.tc : Thread nD τ).loc main_v21) = val_main_v21 (F := Ideal) (m ((c.tc : Thread nD τ).loc main_arg0)) (m ((c.tc : Thread nD τ).loc main_arg1)) (m ((c.tc : Thread nD τ).loc main_arg2))
      ∧ r.2.mem ((c.tc : Thread nD τ).loc main_v22) = val_main_v22 (F := Ideal) (m ((c.tc : Thread nD τ).loc main_arg0)) (m ((c.tc : Thread nD τ).loc main_arg1)) (m ((c.tc : Thread nD τ).loc main_arg2))
      ∧ r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v19) = val_main_v19 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.Reference3Ideal.Value.run m ρ)
  obtain ⟨h0, h1, h2, h3, h4, hargs⟩ := h c
  exact ⟨h0.trans (val_main_v20_eq (m ((c.tc : Thread nD τ).loc main_arg0)) (m ((c.tc : Thread nD τ).loc main_arg1)) (m ((c.tc : Thread nD τ).loc main_arg2))), h1.trans (val_main_v21_eq (m ((c.tc : Thread nD τ).loc main_arg0)) (m ((c.tc : Thread nD τ).loc main_arg1)) (m ((c.tc : Thread nD τ).loc main_arg2))), h2.trans (val_main_v22_eq (m ((c.tc : Thread nD τ).loc main_arg0)) (m ((c.tc : Thread nD τ).loc main_arg1)) (m ((c.tc : Thread nD τ).loc main_arg2))), h3.trans (val_main_v26_eq m c), h4.trans (val_main_v19_eq (m ((c.tc : Thread nD τ).loc main_arg0)) (m ((c.tc : Thread nD τ).loc main_arg1)) (m ((c.tc : Thread nD τ).loc main_arg2))), hargs⟩
end

/-- The kernel and the reference end with the same results. -/
theorem agree : Cert.algebraic_Kernel3Ideal_Reference3Ideal (hReference3Ideal := Cert.Reference3Ideal.Gen.facts) := by
  intro m g m' g' _ harg
  refine ⟨fun c => out m c Cert.Kernel3Ideal.main_v14, fun c => out m c Cert.Kernel3Ideal.main_v16, fun c => out m c Cert.Kernel3Ideal.main_v18,
    fun c => out m c Cert.Kernel3Ideal.main_v20, fun c => out m c Cert.Kernel3Ideal.main_v12, kernel_run m g, ?_⟩
  refine (θ_run Cert.Reference3Ideal.defs _ _).mono (fun r h c => ?_) (ref_run m' g')
  obtain ⟨e0, e1, e2, e3⟩ := harg c
  obtain ⟨h0, h1, h2, h3, h4, hargs⟩ := h c
  rw [e0, e1, e2] at h0 h1 h2 h4
  rw [e0, e1, e2, e3] at h3
  refine ⟨h0.trans ?_, h1.trans ?_, h2.trans ?_, h3.trans ?_, h4.trans ?_, hargs⟩
  · funext i
    have hi : i = ix4 (i 0) (i 1) (i 2) (i 3) := by
      funext a; fin_cases a <;> rfl
    rw [hi]
    exact (ref_q (a0 m c) (a1 m c) (a2 m c) (i 0) (i 1) (i 2) (i 3)).trans (res_q m c (i 0) (i 1) (i 2) (i 3)).symm
  · funext i
    have hi : i = ix4 (i 0) (i 1) (i 2) (i 3) := by
      funext a; fin_cases a <;> rfl
    rw [hi]
    exact (ref_k (a0 m c) (a1 m c) (a2 m c) (i 0) (i 1) (i 2) (i 3)).trans (res_k m c (i 0) (i 1) (i 2) (i 3)).symm
  · funext i
    have hi : i = ix4 (i 0) (i 1) (i 2) (i 3) := by
      funext a; fin_cases a <;> rfl
    rw [hi]
    exact (ref_v (a0 m c) (a1 m c) (a2 m c) (i 0) (i 1) (i 2) (i 3)).trans (res_v m c (i 0) (i 1) (i 2) (i 3)).symm
  · funext i
    have hi : i = ix3 (i 0) (i 1) (i 2) := by
      funext a; fin_cases a <;> rfl
    rw [hi]
    exact (ref_logf (a0 m c) (a1 m c) (a2 m c) (a3 m c) (i 0) (i 1) (i 2)).trans (res_logf m c (i 0) (i 1) (i 2)).symm
  · funext i
    have hi : i = ix3 (i 0) (i 1) (i 2) := by
      funext a; fin_cases a <;> rfl
    rw [hi]
    exact (ref_pr (a0 m c) (a1 m c) (a2 m c) (i 0) (i 1) (i 2)).trans (res_pr m c (i 0) (i 1) (i 2)).symm

end Cert.Proof.Samp
-- ==== Proof.Mem.lean ====
module

public import proofs.«01_k».proof.Defs
public import proofs.«01_k».proof.Proof.Spec
public import proofs.«01_k».proof.Proof.Gen.Kernel4Ideal.Frame
public import proofs.«01_k».proof.Proof.Gen.Kernel4Ideal
public import proofs.«01_k».proof.Proof.Gen.Reference4Ideal
public import proofs.«01_k».proof.Proof.Gen.Reference4Ideal.Read
public import Idealize.ShloMosaic.Lib.Pointwise
public import Idealize.ShloMosaic.Lib.StableHlo.Run
public import Idealize.ShloMosaic.Lib.Pipeline.ValueKit.Basic
public import Idealize.ShloMosaic.Lib.Pipeline.ValueKit.Geometry

/-!
The memory's keys and values: the normalised rows of the memory against a matrix, and the reference's.
-/

@[expose] public section

set_option maxRecDepth 16384

noncomputable section

namespace Cert.Proof.Mem

open Idealize.ShloMosaic Idealize.ShloMosaic.TcCoe Idealize.SL.Sem
open Cert.Proof.Moe (rms)

attribute [local instance] Cert.Kernel4Ideal.Gen.facts

section
open Cert.Kernel4Ideal Cert.Kernel4Ideal.Gen

/-! ## A tile -/

/-- The rows of a tile, normalised, against the matrix's columns. -/
theorem pay1_apply (x : Vec Ideal S256x1024 .f32) (g : Vec Ideal S1x1024 .f32) (w : Vec Ideal S512x1024 .bf16) (r : Fin 256) (j : Fin 512) :
    k0_pay1 x g w (ix2 r j) = ∑ k, rms (fun k => x (ix2 r k)) (fun k => g (ix2 0 k)) k * w (ix2 j k) := by
  pointwise [k0_pay1]
  rfl

/-- What a point leaves in its tile. -/
theorem out_apply (x : Vec Ideal S256x1024 .f32) (g : Vec Ideal S1x1024 .f32) (w : Vec Ideal S512x1024 .bf16) (b : Vec Ideal S1x128 .f32)
    (r : Fin 256) (j : Fin 512) :
    out0_4 x g w b (ix2 r j) = ∑ k, rms (fun k => x (ix2 r k)) (fun k => g (ix2 0 k)) k * w (ix2 j k) := by
  have e : out0_4 x g w b = k0_pay1 x g w := by
    unfold out0_4
    rw [View.canon_cons_unit_lit (h := by decide), View.ld_unit_lit (h := by decide), View.ld_unit_lit (h := by decide), View.ld_unit_lit (h := by decide)]
  rw [e, pay1_apply]

variable (m : (ℓ : Loc nD τ sig) → Buf (Elt Ideal) ℓ) (c : Dev nD)

/-! ## The arguments -/

/-- The memory. -/
abbrev a0 : Vec Ideal S2x256x1024 .f32 := m ((c : Thread nD τ).loc main_arg0)
/-- The gains. -/
abbrev a1 : Vec Ideal S1024 .f32 := m ((c : Thread nD τ).loc main_arg1)
/-- The matrix of the keys and the values. -/
abbrev a2 : Vec Ideal S1024x512 .f32 := m ((c : Thread nD τ).loc main_arg2)

/-! ## The arrays when the region is entered -/

/-- The memory's rows. -/
theorem V_x (R : Fin 512) (k : Fin 1024) :
    V m c main_v1 (ix2 R k) = a0 m c (ix3 ⟨R.val / 256, by omega⟩ ⟨R.val % 256, by omega⟩ k) := by
  have e : V m c main_v1 = shapeCast S512x1024 (a0 m c) shapeCasts_S2x256x1024_S512x1024 := by
    show StableHlo.after _ _ (Proc.devRef .tc main_v1) = _
    simp only [List.flatten_cons, List.flatten_nil, List.append_nil, List.cons_append, List.nil_append]
    after_results
    rfl
  rw [e]
  generalize a0 m c = a
  pointwise []

/-- A gain. -/
theorem V_g (k : Fin 1024) : V m c main_v2 (ix2 0 k) = a1 m c (ix1 k) := by
  have e : V m c main_v2 = shapeCast S1x1024 (a1 m c) shapeCasts_S1024_S1x1024 := by
    show StableHlo.after _ _ (Proc.devRef .tc main_v2) = _
    simp only [List.flatten_cons, List.flatten_nil, List.append_nil, List.cons_append, List.nil_append]
    after_results
    rfl
  rw [e]
  generalize a1 m c = a
  pointwise []

/-- The matrix's columns, as rows. -/
theorem V_w (j : Fin 512) (k : Fin 1024) : V m c main_v4 (ix2 j k) = a2 m c (ix2 k j) := by
  have e : V m c main_v4 = truncf (F := Ideal) (φ := .f32) .bf16 (transpose S512x1024 [1, 0] (a2 m c) transposes_S1024x512_S512x1024_1_0) bitsLt_bf16_f32 := by
    show StableHlo.after _ _ (Proc.devRef .tc main_v4) = _
    simp only [List.flatten_cons, List.flatten_nil, List.append_nil, List.cons_append, List.nil_append]
    after_results
  rw [e]
  generalize a2 m c = a
  pointwise []

/-! ## The windows' blocks -/

/-- At a point the block of the memory is the tile's. -/
theorem index0 : ∀ t : Fin cfg0.N, win0_0.index t = ![t.val, 0] := (by decide +kernel : ∀ t : Fin grid0.N, _)
/-- At a point the block of the gains is the whole row. -/
theorem index1 : ∀ t : Fin cfg0.N, win0_1.index t = ![0, 0] := (by decide +kernel : ∀ t : Fin grid0.N, _)
/-- At a point the block of the matrix is whole. -/
theorem index2 : ∀ t : Fin cfg0.N, win0_2.index t = ![0, 0] := (by decide +kernel : ∀ t : Fin grid0.N, _)
/-- At a point the block of the result is the tile's. -/
theorem index4 : ∀ t : Fin cfg0.N, win0_4.index t = ![t.val, 0] := (by decide +kernel : ∀ t : Fin grid0.N, _)

/-- The row of the memory a tile's row is. -/
abbrev rowOf (t : Fin cfg0.N) (r : Fin 256) : Fin 512 :=
  ⟨t.val * 256 + r.val, by have h := t.isLt; have h' : cfg0.N = 2 := rfl; have := r.isLt; omega⟩

/-- A tile of the memory. -/
theorem iblk0_apply (t : Fin cfg0.N) (r : Fin 256) (k : Fin 1024) : iblk m c 0 t (ix2 r k) = V m c main_v1 (ix2 (rowOf t r) k) := by
  blk_simp [iblk]
  refine congrArg (V m c main_v1) ?_
  blk_ext [index0 t]
/-- The gains. -/
theorem iblk1_apply (t : Fin cfg0.N) (k : Fin 1024) : iblk m c 1 t (ix2 0 k) = a1 m c (ix1 k) := by
  blk_simp [iblk]
  refine Eq.trans (congrArg (V m c main_v2) ?_) (V_g m c k)
  blk_ext [index1 t]
/-- The matrix. -/
theorem iblk2_apply (t : Fin cfg0.N) (j : Fin 512) (k : Fin 1024) : iblk m c 2 t (ix2 j k) = a2 m c (ix2 k j) := by
  blk_simp [iblk]
  refine Eq.trans (congrArg (V m c main_v4) ?_) (V_w m c j k)
  blk_ext [index2 t]

/-! ## The array the region leaves -/

/-- A normalised row of the memory against a column of the matrix. -/
def memOf (R : Fin 512) (j : Fin 512) : EReal := ∑ k, rms (fun k => V m c main_v1 (ix2 R k)) (fun k => a1 m c (ix1 k)) k * a2 m c (ix2 k j)

/-- The rows against the columns. -/
def memArr (i : S512x512.Idx) : EReal := memOf m c (i 0) (i 1)

/-- A tile is its part of the array. -/
theorem out_eq (t : Fin cfg0.N) (r : Fin 256) (j : Fin 512) :
    out0_4 (iblk m c 0 t) (iblk m c 1 t) (iblk m c 2 t) (iblk m c 3 t) (ix2 r j) = memArr m c (ix2 (rowOf t r) j) := by
  refine (out_apply _ _ _ _ r j).trans (Finset.sum_congr rfl fun k _ => congrArg₂ (· * ·) ?_ (iblk2_apply m c t j k))
  exact congrFun (congrArg₂ rms (funext fun k => iblk0_apply m c t r k) (funext fun k => iblk1_apply m c t k)) k

/-- After the region the rows against the columns. -/
theorem final4 : (dats m 0 c).arrAt 4 cfg0.N = memArr m c := by
  refine (dats m 0 c).arrAt_eq_of_covers 4 _ (by decide +kernel) fun t hf y => ?_
  obtain ⟨r, j, rfl⟩ : ∃ (r : Fin 256) (j : Fin 512), y = ix2 r j := ⟨y 0, y 1, by funext a; fin_cases a <;> rfl⟩
  blk_simp
  rw [after0_4, out_eq]
  refine congrArg (memArr m c) (Eq.symm ?_)
  blk_ext [index4 t] <;> rfl

/-! ## The results -/

/-- What a buffer holds after the region. -/
abbrev W (r : Ref sig .tc) := Pipeline.withArrays (cfgs 0).spec c (V0 m c) (fun w => (dats m 0 c).arrAt w (cfgs 0).N) (Proc.devRef .tc r)

/-- The windows' arrays are distinct. -/
theorem arrs_inj : Function.Injective (Pipeline.arrRef (cfgs 0).spec) := by
  show Function.Injective (Pipeline.arrRef spec0)
  decide

/-- After the region the result's buffer. -/
theorem W4 : W m c main_v5 = memArr m c :=
  (Pipeline.withArrays_arr (cfgs 0).spec arrs_inj c (V0 m c) (fun w => (dats m 0 c).arrAt w (cfgs 0).N) 4).trans (final4 m c)

/-- A normalised row of the memory of a batch against a column of the matrix. -/
abbrev colOf (b : Fin 2) (q : Fin 256) (j : Fin 512) : EReal :=
  ∑ k, rms (fun k => a0 m c (ix3 b q k)) (fun k => a1 m c (ix1 k)) k * a2 m c (ix2 k j)

/-- The memory's rows in their order. -/
theorem memOf_eq (b : Fin 2) (q : Fin 256) (R : Fin 512) (hR : R.val = b.val * 256 + q.val) (j : Fin 512) : memOf m c R j = colOf m c b q j := by
  have e : ∀ k, V m c main_v1 (ix2 R k) = a0 m c (ix3 b q k) := fun k =>
    (V_x m c R k).trans (congrArg₂ (fun b q => a0 m c (ix3 b q k)) (Fin.ext (by show R.val / 256 = b.val; omega)) (Fin.ext (by show R.val % 256 = q.val; omega)))
  exact congrArg (fun f => ∑ k, rms f (fun k => a1 m c (ix1 k)) k * a2 m c (ix2 k j)) (funext e)

section
variable (b : Fin 2) (q : Fin 256)

/-- What the host leaves in a buffer. -/
abbrev out (r : Ref sig .tc) := Pipeline.afterTail₀ cfgs (dats m) 0 (V0 m) [hostOps1] c r

/-- The keys. -/
theorem res_k (h : Fin 4) (d : Fin 64) : out m c main_v10 (ix4 b q h d) = colOf m c b q ⟨h.val * 64 + d.val, by omega⟩ := by
  have e : out m c main_v10 = shapeCast S2x256x4x64 (shapeCast S2x256x256 (extractStridedSlice S512x256 ![0, 0] (W m c main_v5) slices_S512x512_S512x256_0_0)
      shapeCasts_S512x256_S2x256x256) shapeCasts_S2x256x256_S2x256x4x64 := by
    show StableHlo.after _ _ (Proc.devRef .tc main_v10) = _
    simp only [List.flatten_cons, List.flatten_nil, List.append_nil, List.cons_append, List.nil_append]
    after_results
    rfl
  rw [e, W4]
  pointwise [memArr]
  exact memOf_eq m c b q _ rfl _

/-- The values. -/
theorem res_v (h : Fin 4) (d : Fin 64) : out m c main_v11 (ix4 b q h d) = colOf m c b q ⟨256 + (h.val * 64 + d.val), by omega⟩ := by
  have e : out m c main_v11 = shapeCast S2x256x4x64 (shapeCast S2x256x256 (extractStridedSlice S512x256 ![0, 256] (W m c main_v5) slices_S512x512_S512x256_0_256)
      shapeCasts_S512x256_S2x256x256) shapeCasts_S2x256x256_S2x256x4x64 := by
    show StableHlo.after _ _ (Proc.devRef .tc main_v11) = _
    simp only [List.flatten_cons, List.flatten_nil, List.append_nil, List.cons_append, List.nil_append]
    after_results
    rfl
  rw [e, W4]
  pointwise [memArr]
  exact memOf_eq m c b q _ rfl _
end

/-! ## The runs -/

/-- What the run leaves in the arguments. -/
theorem args_kept {F : FTy → Type} [FloatOps F] (m : (ℓ : Loc nD τ sig) → Buf (Elt F) ℓ) (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  have k : ∀ b, b ∈ Pipeline.restRefs sig (cfgs 0).spec → _ := (h c).2
  exact ⟨(k main_arg0 (Pipeline.mem_restRefs_of main_arg0 (by decide) (by decide))).trans (W_main_arg0 m (dats m) c),
    (k main_arg1 (Pipeline.mem_restRefs_of main_arg1 (by decide) (by decide))).trans (W_main_arg1 m (dats m) c),
    (k main_arg2 (Pipeline.mem_restRefs_of main_arg2 (by decide) (by decide))).trans (W_main_arg2 m (dats m) c)⟩

/-- The run at any interpretation of the floats: the arguments as they were, the semaphores at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨args_kept m r h.1, h.2⟩) (run_main_quiescent m ρ)

/-- The kernel's run ends with what the host leaves in the results, the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = out m c main_v10
      ∧ r.2.mem ((c.tc : Thread nD τ).loc main_v11) = out m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main_quiescent (F := Ideal) m ρ)
  have k : ∀ b, b ∈ Pipeline.restRefs sig (cfgs 0).spec → _ := (h.1 c).2
  exact ⟨k main_v10 (Pipeline.mem_restRefs_of main_v10 (by decide) (by decide)),
    k main_v11 (Pipeline.mem_restRefs_of main_v11 (by decide) (by decide)), args_kept m r h.1 c⟩
end

/-! ## The reference's stages -/

section
open Cert.Reference4Ideal Cert.Reference4Ideal.Read
variable (x0 : Vec Ideal S2x256x1024 .f32) (x1 : Vec Ideal S1024 .f32) (x2 : Vec Ideal S1024x512 .f32) (b : Fin 2) (q : Fin 256)

/-- A normalised row against a column of the matrix. -/
abbrev refCol (j : Fin 512) : EReal := ∑ k, rms (fun k => x0 (ix3 b q k)) (fun k => x1 (ix1 k)) k * x2 (ix2 k j)

/-- The normalised memory. -/
theorem ref_rms (k : Fin 1024) : val_main_v12 (F := Ideal) x0 x1 (ix3 b q k) = rms (fun k => x0 (ix3 b q k)) (fun k => x1 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The product. -/
theorem ref_dot (j : Fin 512) : val_main_v13 (F := Ideal) x0 x1 x2 (ix3 b q j) = refCol x0 x1 x2 b q j := by
  pointwise [val_main_v13]
  exact Finset.sum_congr rfl fun k _ => congrArg (· * x2 (ix2 k j)) (ref_rms x0 x1 b q k)

/-- The keys. -/
theorem ref_k (h : Fin 4) (d : Fin 64) : val_main_v16 (F := Ideal) x0 x1 x2 (ix4 b q h d) = refCol x0 x1 x2 b q ⟨h.val * 64 + d.val, by omega⟩ := by
  pointwise [val_main_v16, val_main_v14]
  exact ref_dot x0 x1 x2 b q _

/-- The values. -/
theorem ref_v (h : Fin 4) (d : Fin 64) : val_main_v17 (F := Ideal) x0 x1 x2 (ix4 b q h d) = refCol x0 x1 x2 b q ⟨256 + (h.val * 64 + d.val), by omega⟩ := by
  pointwise [val_main_v17, val_main_v15]
  exact ref_dot x0 x1 x2 b q _

/-- The reference's run ends with its stages in the results, the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = val_main_v16 (F := Ideal) (m ((c.tc : Thread nD τ).loc main_arg0)) (m ((c.tc : Thread nD τ).loc main_arg1)) (m ((c.tc : Thread nD τ).loc main_arg2))
      ∧ r.2.mem ((c.tc : Thread nD τ).loc main_v17) = val_main_v17 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.Reference4Ideal.Value.run m ρ)
  obtain ⟨h0, h1, hargs⟩ := h c
  exact ⟨h0.trans (val_main_v16_eq (m ((c.tc : Thread nD τ).loc main_arg0)) (m ((c.tc : Thread nD τ).loc main_arg1)) (m ((c.tc : Thread nD τ).loc main_arg2))), h1.trans (val_main_v17_eq (m ((c.tc : Thread nD τ).loc main_arg0)) (m ((c.tc : Thread nD τ).loc main_arg1)) (m ((c.tc : Thread nD τ).loc main_arg2))), hargs⟩
end

/-- The kernel and the reference end with the same results. -/
theorem agree : Cert.algebraic_Kernel4Ideal_Reference4Ideal (hReference4Ideal := Cert.Reference4Ideal.Gen.facts) := by
  intro m g m' g' _ harg
  refine ⟨fun c => out m c Cert.Kernel4Ideal.main_v10, fun c => out m c Cert.Kernel4Ideal.main_v11, kernel_run m g, ?_⟩
  refine (θ_run Cert.Reference4Ideal.defs _ _).mono (fun r h c => ?_) (ref_run m' g')
  obtain ⟨e0, e1, e2⟩ := harg c
  obtain ⟨h0, h1, hargs⟩ := h c
  rw [e0, e1, e2] at h0 h1
  refine ⟨h0.trans ?_, h1.trans ?_, hargs⟩
  · funext i
    have hi : i = ix4 (i 0) (i 1) (i 2) (i 3) := by
      funext a; fin_cases a <;> rfl
    rw [hi]
    exact (ref_k (a0 m c) (a1 m c) (a2 m c) (i 0) (i 1) (i 2) (i 3)).trans (res_k m c (i 0) (i 1) (i 2) (i 3)).symm
  · funext i
    have hi : i = ix4 (i 0) (i 1) (i 2) (i 3) := by
      funext a; fin_cases a <;> rfl
    rw [hi]
    exact (ref_v (a0 m c) (a1 m c) (a2 m c) (i 0) (i 1) (i 2) (i 3)).trans (res_v m c (i 0) (i 1) (i 2) (i 3)).symm

end Cert.Proof.Mem
-- ==== Proof.lean ====
/-
  The proof of `Cert.Claim`. The kernel's program and its idealised text are one run at any interpretation of the floats
  (`Proof.Main`); the reference's frame is its generated run's; the values agree by `Proof.Value`.
-/
module

public import proofs.«01_k».proof.Defs
public import proofs.«01_k».proof.Proof.Main
public import proofs.«01_k».proof.Proof.Value
public import proofs.«01_k».proof.Proof.ProjRef
public import proofs.«01_k».proof.Proof.SampRef
public import proofs.«01_k».proof.Proof.Mem
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Read

@[expose] public section

noncomputable section

namespace Cert.Proof

open Idealize.ShloMosaic Idealize.SL.Sem

/-- The precondition's side conditions. -/
theorem preFacts : Cert.Pre_finite.Facts := ⟨by decide, by decide, by decide, by decide, by decide, by decide, by decide, by decide, by decide, by decide, by decide, by decide, by decide⟩

/-- At the bit-exact floats a named constant is its bits, so the two texts are one program there. -/
instance bitsNamed : Named Bits := ⟨fun _ _ b => FloatOps.ofBits b⟩

attribute [local instance] Cert.Kernel.Gen.facts Cert.KernelIdeal.Gen.facts

/-- The two texts have one table of bodies. -/
theorem bodies_eq : Cert.Kernel.defs₀ (F := Bits) = Cert.KernelIdeal.defs₀ (F := Bits) := by
  funext k l a
  cases k
  · obtain ⟨l, hl⟩ := l
    obtain rfl : l = 0 := Nat.lt_one_iff.mp hl
    rfl
  · rfl
  · rfl

/-- The two texts have one table of definitions. -/
theorem defs_eq : Cert.Kernel.defs (F := Bits) = Cert.KernelIdeal.defs (F := Bits) := by
  unfold Cert.Kernel.defs Cert.KernelIdeal.defs
  rw [bodies_eq]
  rfl

/-- The kernel's frame. -/
theorem frame_kernel : Cert.quiescent_Kernel := by
  intro m ρ _
  rw [defs_eq]
  exact (θ_run Cert.KernelIdeal.defs _ _).mono (fun _ h => h) (Cert.Proof.Moe.frame_run (F := Bits) m ρ)

/-- The idealised kernel's frame. -/
theorem frame_kernelIdeal : Cert.quiescent_KernelIdeal :=
  fun m ρ _ => Cert.Proof.Moe.frame_run (F := Ideal) m ρ

/-- The reference's frame. -/
theorem frame_reference : Cert.quiescent_ReferenceIdeal :=
  fun m ρ _ => (θ_run Cert.ReferenceIdeal.defs _ _).mono
    (fun r h => ⟨fun c => (h c).2, sem_eq_zero_of_no_sems (by decide) r.2⟩) (Cert.ReferenceIdeal.Value.run m ρ)

attribute [local instance] Cert.Kernel2.Gen.facts Cert.Kernel2Ideal.Gen.facts

/-- The projections' two texts have one table of bodies. -/
theorem bodies_eq_proj : Cert.Kernel2.defs₀ (F := Bits) = Cert.Kernel2Ideal.defs₀ (F := Bits) := by
  funext k l a
  cases k
  · obtain ⟨l, hl⟩ := l
    obtain rfl : l = 0 := Nat.lt_one_iff.mp hl
    rfl
  · rfl
  · rfl

/-- The projections' two texts have one table of definitions. -/
theorem defs_eq_proj : Cert.Kernel2.defs (F := Bits) = Cert.Kernel2Ideal.defs (F := Bits) := by
  unfold Cert.Kernel2.defs Cert.Kernel2Ideal.defs
  rw [bodies_eq_proj]
  rfl

/-- The projections' frame. -/
theorem frame_proj : Cert.quiescent_Kernel2 := by
  intro m ρ _
  rw [defs_eq_proj]
  exact (θ_run Cert.Kernel2Ideal.defs _ _).mono (fun _ h => h) (Cert.Proof.Proj.frame_run (F := Bits) m ρ)

/-- The idealised projections' frame. -/
theorem frame_projIdeal : Cert.quiescent_Kernel2Ideal :=
  fun m ρ _ => Cert.Proof.Proj.frame_run (F := Ideal) m ρ

/-- The frame of the projections' reference. -/
theorem frame_projReference : Cert.quiescent_Reference2Ideal :=
  fun m ρ _ => (θ_run Cert.Reference2Ideal.defs _ _).mono
    (fun r h => ⟨fun c => (h c).2.2.2.2.2, sem_eq_zero_of_no_sems (by decide) r.2⟩) (Cert.Reference2Ideal.Value.run m ρ)

attribute [local instance] Cert.Kernel3.Gen.facts Cert.Kernel3Ideal.Gen.facts

/-- The sample's projections' two texts have one table of bodies. -/
theorem bodies_eq_samp : Cert.Kernel3.defs₀ (F := Bits) = Cert.Kernel3Ideal.defs₀ (F := Bits) := by
  funext k l a
  cases k
  · obtain ⟨l, hl⟩ := l
    obtain rfl : l = 0 := Nat.lt_one_iff.mp hl
    rfl
  · rfl
  · rfl

/-- The sample's projections' two texts have one table of definitions. -/
theorem defs_eq_samp : Cert.Kernel3.defs (F := Bits) = Cert.Kernel3Ideal.defs (F := Bits) := by
  unfold Cert.Kernel3.defs Cert.Kernel3Ideal.defs
  rw [bodies_eq_samp]
  rfl

/-- The sample's projections' frame. -/
theorem frame_samp : Cert.quiescent_Kernel3 := by
  intro m ρ _
  rw [defs_eq_samp]
  exact (θ_run Cert.Kernel3Ideal.defs _ _).mono (fun _ h => h) (Cert.Proof.Samp.frame_run (F := Bits) m ρ)

/-- The idealised sample's projections' frame. -/
theorem frame_sampIdeal : Cert.quiescent_Kernel3Ideal :=
  fun m ρ _ => Cert.Proof.Samp.frame_run (F := Ideal) m ρ

/-- The frame of the sample's projections' reference. -/
theorem frame_sampReference : Cert.quiescent_Reference3Ideal :=
  fun m ρ _ => (θ_run Cert.Reference3Ideal.defs _ _).mono
    (fun r h => ⟨fun c => (h c).2.2.2.2.2, sem_eq_zero_of_no_sems (by decide) r.2⟩) (Cert.Reference3Ideal.Value.run m ρ)

attribute [local instance] Cert.Kernel4.Gen.facts Cert.Kernel4Ideal.Gen.facts

/-- The memory's projections' two texts have one table of bodies. -/
theorem bodies_eq_mem : Cert.Kernel4.defs₀ (F := Bits) = Cert.Kernel4Ideal.defs₀ (F := Bits) := by
  funext k l a
  cases k
  · obtain ⟨l, hl⟩ := l
    obtain rfl : l = 0 := Nat.lt_one_iff.mp hl
    rfl
  · rfl
  · rfl

/-- The memory's projections' two texts have one table of definitions. -/
theorem defs_eq_mem : Cert.Kernel4.defs (F := Bits) = Cert.Kernel4Ideal.defs (F := Bits) := by
  unfold Cert.Kernel4.defs Cert.Kernel4Ideal.defs
  rw [bodies_eq_mem]
  rfl

/-- The memory's projections' frame. -/
theorem frame_mem : Cert.quiescent_Kernel4 := by
  intro m ρ _
  rw [defs_eq_mem]
  exact (θ_run Cert.Kernel4Ideal.defs _ _).mono (fun _ h => h) (Cert.Proof.Mem.frame_run (F := Bits) m ρ)

/-- The idealised memory's projections' frame. -/
theorem frame_memIdeal : Cert.quiescent_Kernel4Ideal :=
  fun m ρ _ => Cert.Proof.Mem.frame_run (F := Ideal) m ρ

/-- The frame of the memory's projections' reference. -/
theorem frame_memReference : Cert.quiescent_Reference4Ideal :=
  fun m ρ _ => (θ_run Cert.Reference4Ideal.defs _ _).mono
    (fun r h => ⟨fun c => (h c).2.2, sem_eq_zero_of_no_sems (by decide) r.2⟩) (Cert.Reference4Ideal.Value.run m ρ)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, preFacts,
  frame_kernel, frame_kernelIdeal, fun m ρ _ => frame_kernelIdeal m ρ trivial, frame_reference, fun m ρ _ => frame_reference m ρ trivial,
  frame_proj, frame_projIdeal, frame_projReference,
  frame_samp, frame_sampIdeal, frame_sampReference, frame_mem, frame_memIdeal, frame_memReference,
  IdealRules.named_const.statement Cert.KernelIdeal.κ "neg_inf" .f32 0xFF61B1E6#32 ⊥ rfl,
  @Cert.Proof.Moe.agree preFacts, trivial, Cert.Proof.Proj.agree, trivial, Cert.Proof.Samp.agree, trivial, Cert.Proof.Mem.agree⟩

end Cert.Proof

end
